-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_scores4 [hPre_finite_scores4 : Cert.Pre_finite_scores4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_scores4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).1 = (fun _ => 1#1)
    ∧ (Cert.Pre_finite_scores4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.1 = (fun _ => 1#1)
    ∧ (Cert.Pre_finite_scores4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_scores4 [hPre_finite_scores4 : Cert.Pre_finite_scores4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_scores4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).1 = (fun _ => 1#1)
    ∧ (Cert.Pre_finite_scores4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.1 = (fun _ => 1#1)
    ∧ (Cert.Pre_finite_scores4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_state [hPre_finite_state : Cert.Pre_finite_state.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_state.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).1 = (fun _ => 1#1)
    ∧ (Cert.Pre_finite_state.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.1 = (fun _ => 1#1)
    ∧ (Cert.Pre_finite_state.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.1 = (fun _ => 1#1)
    ∧ (Cert.Pre_finite_state.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.1 = (fun _ => 1#1)
    ∧ (Cert.Pre_finite_state.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.2.1 = (fun _ => 1#1)
    ∧ (Cert.Pre_finite_state.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.2.2.1 = (fun _ => 1#1)
    ∧ (Cert.Pre_finite_state.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)) (m ((c.tc : Thread Cert.Kernel9Ideal.nD Cert.Kernel9Ideal.τ).loc Cert.Kernel9Ideal.main_arg7)) (m ((c.tc : Thread Cert.Kernel9Ideal.nD Cert.Kernel9Ideal.τ).loc Cert.Kernel9Ideal.main_arg8)) (m ((c.tc : Thread Cert.Kernel9Ideal.nD Cert.Kernel9Ideal.τ).loc Cert.Kernel9Ideal.main_arg9)) (m ((c.tc : Thread Cert.Kernel9Ideal.nD Cert.Kernel9Ideal.τ).loc Cert.Kernel9Ideal.main_arg10))).2.2.2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_state [hPre_finite_state : Cert.Pre_finite_state.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_state.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).1 = (fun _ => 1#1)
    ∧ (Cert.Pre_finite_state.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.1 = (fun _ => 1#1)
    ∧ (Cert.Pre_finite_state.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.1 = (fun _ => 1#1)
    ∧ (Cert.Pre_finite_state.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.1 = (fun _ => 1#1)
    ∧ (Cert.Pre_finite_state.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.2.1 = (fun _ => 1#1)
    ∧ (Cert.Pre_finite_state.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.2.2.1 = (fun _ => 1#1)
    ∧ (Cert.Pre_finite_state.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6)) (m ((c.tc : Thread Cert.Reference9Ideal.nD Cert.Reference9Ideal.τ).loc Cert.Reference9Ideal.main_arg7)) (m ((c.tc : Thread Cert.Reference9Ideal.nD Cert.Reference9Ideal.τ).loc Cert.Reference9Ideal.main_arg8)) (m ((c.tc : Thread Cert.Reference9Ideal.nD Cert.Reference9Ideal.τ).loc Cert.Reference9Ideal.main_arg9)) (m ((c.tc : Thread Cert.Reference9Ideal.nD Cert.Reference9Ideal.τ).loc Cert.Reference9Ideal.main_arg10))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_finite_scores4 [hKernel4Ideal : Cert.Kernel4Ideal.Facts] [hPre_finite_scores4 : Cert.Pre_finite_scores4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_scores4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_finite_scores4 [hReference4Ideal : Cert.Reference4Ideal.Facts] [hPre_finite_scores4 : Cert.Pre_finite_scores4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_scores4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Kernel9Ideal_pre_finite_state [hKernel9Ideal : Cert.Kernel9Ideal.Facts] [hPre_finite_state : Cert.Pre_finite_state.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_state m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Reference9Ideal_pre_finite_state [hReference9Ideal : Cert.Reference9Ideal.Facts] [hPre_finite_state : Cert.Pre_finite_state.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_state m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_scores4 [hKernel4Ideal : Cert.Kernel4Ideal.Facts] [hReference4Ideal : Cert.Reference4Ideal.Facts] [hPre_finite_scores4 : Cert.Pre_finite_scores4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_scores4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_state [hKernel9Ideal : Cert.Kernel9Ideal.Facts] [hReference9Ideal : Cert.Reference9Ideal.Facts] [hPre_finite_state : Cert.Pre_finite_state.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_state m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v11_0)) (v1 : (c : Dev Cert.Kernel9Ideal.nD) → Buf (Elt Ideal) ((c.tc : Thread Cert.Kernel9Ideal.nD Cert.Kernel9Ideal.τ).loc Cert.Kernel9Ideal.main_v11_1)) (v2 : (c : Dev Cert.Kernel9Ideal.nD) → Buf (Elt Ideal) ((c.tc : Thread Cert.Kernel9Ideal.nD Cert.Kernel9Ideal.τ).loc Cert.Kernel9Ideal.main_v11_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v11_0) = v0 c
          ∧ r.2.mem ((c.tc : Thread Cert.Kernel9Ideal.nD Cert.Kernel9Ideal.τ).loc Cert.Kernel9Ideal.main_v11_1) = v1 c
          ∧ r.2.mem ((c.tc : Thread Cert.Kernel9Ideal.nD Cert.Kernel9Ideal.τ).loc Cert.Kernel9Ideal.main_v11_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v104) = v0 c
          ∧ r.2.mem ((c.tc : Thread Cert.Reference9Ideal.nD Cert.Reference9Ideal.τ).loc Cert.Reference9Ideal.main_v108) = v1 c
          ∧ r.2.mem ((c.tc : Thread Cert.Reference9Ideal.nD Cert.Reference9Ideal.τ).loc Cert.Reference9Ideal.main_v112) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_scores : Cert.Pre_finite_scores.Facts) (hPre_finite_scores4 : Cert.Pre_finite_scores4.Facts) (hPre_finite_state : Cert.Pre_finite_state.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_scores4 (hKernel4Ideal := hKernel4Ideal) (hPre_finite_scores4 := hPre_finite_scores4)
    ∧ quiescent_Reference4Ideal (hReference4Ideal := hReference4Ideal)
    ∧ quiescent_Reference4Ideal_pre_finite_scores4 (hReference4Ideal := hReference4Ideal) (hPre_finite_scores4 := hPre_finite_scores4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_state (hKernel9Ideal := hKernel9Ideal) (hPre_finite_state := hPre_finite_state)
    ∧ quiescent_Reference9Ideal (hReference9Ideal := hReference9Ideal)
    ∧ quiescent_Reference9Ideal_pre_finite_state (hReference9Ideal := hReference9Ideal) (hPre_finite_state := hPre_finite_state)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_scores4 (hKernel4Ideal := hKernel4Ideal) (hReference4Ideal := hReference4Ideal) (hPre_finite_scores4 := hPre_finite_scores4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_state (hKernel9Ideal := hKernel9Ideal) (hReference9Ideal := hReference9Ideal) (hPre_finite_state := hPre_finite_state)
-- ==== Pre_finite_scores.lean ====
abbrev S16384x1024 : Shape := ⟨2, ![16384, 1024]⟩
abbrev S2048x2048 : Shape := ⟨2, ![2048, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S2048x1024 : Shape := ⟨2, ![2048, 1024]⟩
abbrev S_ : Shape := ⟨0, ![]⟩

class Facts : Prop where
  slices_S2048x2048_S2048x1024_0_0 : S2048x2048.Slices ![0, 0] S2048x1024
  bitsLt_bf16_f32 : FTy.bits .bf16 < FTy.bits .f32
  bcast_S_S2048x1024 : S_.BroadcastsInDim S2048x1024 (![] : Fin 0 → Fin S2048x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S16384x1024 .bf16) (main_arg2 : FVec F S2048x2048 .bf16) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x5632 .f32) (main_arg9 : FVec F S2816x1024 .f32) (main_arg10 : FVec F S1024 .f32) : IVec S2048x1024 1 × IVec S1024 1 × IVec S1024x1024 1 :=
  let main_v0 : FVec F S2048x1024 .bf16 := (extractStridedSlice S2048x1024 ![0, 0] · slices_S2048x2048_S2048x1024_0_0) main_arg2
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S1024 .f32 := Host.absf main_arg4
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1024x1024 .f32 := Host.absf main_arg5
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v4, main_v7, main_v10)
-- ==== Pre_finite_scores4.lean ====
abbrev S16384x1024 : Shape := ⟨2, ![16384, 1024]⟩
abbrev S2048x2048 : Shape := ⟨2, ![2048, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S2048x1024 : Shape := ⟨2, ![2048, 1024]⟩
abbrev S_ : Shape := ⟨0, ![]⟩

class Facts : Prop where
  slices_S2048x2048_S2048x1024_0_0 : S2048x2048.Slices ![0, 0] S2048x1024
  bitsLt_bf16_f32 : FTy.bits .bf16 < FTy.bits .f32
  bcast_S_S2048x1024 : S_.BroadcastsInDim S2048x1024 (![] : Fin 0 → Fin S2048x1024.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S16384x1024 .bf16) (main_arg2 : FVec F S2048x2048 .bf16) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x5632 .f32) (main_arg9 : FVec F S2816x1024 .f32) : IVec S2048x1024 1 × IVec S1024 1 × IVec S1024x1024 1 :=
  let main_v0 : FVec F S2048x1024 .bf16 := (extractStridedSlice S2048x1024 ![0, 0] · slices_S2048x2048_S2048x1024_0_0) main_arg2
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S1024 .f32 := Host.absf main_arg4
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_v8 : FVec F S1024x1024 .f32 := Host.absf main_arg5
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  (main_v4, main_v7, main_v10)
-- ==== Pre_finite_state.lean ====
abbrev S4x3x128x1024 : Shape := ⟨4, ![4, 3, 128, 1024]⟩
abbrev S4x128x8x64x128 : Shape := ⟨5, ![4, 128, 8, 64, 128]⟩
abbrev S128x3456 : Shape := ⟨2, ![128, 3456]⟩
abbrev S4x128x3x1024 : Shape := ⟨4, ![4, 128, 3, 1024]⟩
abbrev S4x128x8x128x64 : Shape := ⟨5, ![4, 128, 8, 128, 64]⟩
abbrev S4x1024 : Shape := ⟨2, ![4, 1024]⟩
abbrev S1024 : Shape := ⟨1, ![1024]⟩
abbrev S8 : Shape := ⟨1, ![8]⟩
abbrev S512 : Shape := ⟨1, ![512]⟩
abbrev S128x1024 : Shape := ⟨2, ![128, 1024]⟩
abbrev S_ : Shape := ⟨0, ![]⟩
abbrev S128x8 : Shape := ⟨2, ![128, 8]⟩
abbrev S1x128x3x1024 : Shape := ⟨4, ![1, 128, 3, 1024]⟩
abbrev S128x3x1024 : Shape := ⟨3, ![128, 3, 1024]⟩

class Facts : Prop where
  slices_S128x3456_S128x1024_0_512 : S128x3456.Slices ![0, 512] S128x1024
  bcast_S_S128x1024 : S_.BroadcastsInDim S128x1024 (![] : Fin 0 → Fin S128x1024.rank)
  slices_S128x3456_S128x8_0_3328 : S128x3456.Slices ![0, 3328] S128x8
  bcast_S_S128x8 : S_.BroadcastsInDim S128x8 (![] : Fin 0 → Fin S128x8.rank)
  slices_S4x128x3x1024_S1x128x3x1024_3_0_0_0 : S4x128x3x1024.Slices ![3, 0, 0, 0] S1x128x3x1024
  shapeCasts_S1x128x3x1024_S128x3x1024 : S1x128x3x1024.ShapeCasts S128x3x1024
  bcast_S_S128x3x1024 : S_.BroadcastsInDim S128x3x1024 (![] : Fin 0 → Fin S128x3x1024.rank)
  bcast_S_S4x1024 : S_.BroadcastsInDim S4x1024 (![] : Fin 0 → Fin S4x1024.rank)
  bcast_S_S1024 : S_.BroadcastsInDim S1024 (![] : Fin 0 → Fin S1024.rank)
  bcast_S_S8 : S_.BroadcastsInDim S8 (![] : Fin 0 → Fin S8.rank)

variable [Facts]

def fn_part1 {F : FTy → Type} [FloatOps F] (main_arg7 : FVec F S8 .f32) (main_arg8 : FVec F S8 .f32) (main_v3 : IVec S128x1024 1) (main_v6 : IVec S128x8 1) (main_v11 : IVec S128x3x1024 1) (main_v14 : IVec S4x1024 1) (main_v16 : IVec S1024 1) (main_v17 : FVec F S8 .f32) : IVec S128x1024 1 × IVec S128x8 1 × IVec S128x3x1024 1 × IVec S4x1024 1 × IVec S1024 1 × IVec S8 1 × IVec S8 1 :=
  let main_v18 : IVec S8 1 := cmpf .olt main_arg7 main_v17
  let main_cst_5 : FVec F S_ .f32 := constant S_ .f32 0x7F800000#32
  let main_v19 : FVec F S8 .f32 := broadcastInDim S8 ![] bcast_S_S8 main_cst_5
  let main_v20 : IVec S8 1 := cmpf .olt main_arg8 main_v19
  (main_v3, main_v6, main_v11, main_v14, main_v16, main_v18, main_v20)

def fn {F : FTy → Type} [FloatOps F] (main_arg0 : FVec F S4x3x128x1024 .f32) (main_arg1 : FVec F S4x128x8x64x128 .f32) (main_arg2 : FVec F S128x3456 .f32) (main_arg3 : FVec F S4x128x3x1024 .f32) (main_arg4 : FVec F S4x128x8x128x64 .f32) (main_arg5 : FVec F S4x1024 .f32) (main_arg6 : FVec F S1024 .f32) (main_arg7 : FVec F S8 .f32) (main_arg8 : FVec F S8 .f32) (main_arg9 : FVec F S8 .f32) (main_arg10 : FVec F S512 .f32) : IVec S128x1024 1 × IVec S128x8 1 × IVec S128x3x1024 1 × IVec S4x1024 1 × IVec S1024 1 × IVec S8 1 × IVec S8 1 :=
  let main_v0 : FVec F S128x1024 .f32 := (extractStridedSlice S128x1024 ![0, 512] · slices_S128x3456_S128x1024_0_512) main_arg2
  let main_v1 : FVec F S128x1024 .f32 := Host.absf main_v0
  let main_cst : FVec F S_ .f32 := constant S_ .f32 0x7F800000#32
  let main_v2 : FVec F S128x1024 .f32 := broadcastInDim S128x1024 ![] bcast_S_S128x1024 main_cst
  let main_v3 : IVec S128x1024 1 := cmpf .olt main_v1 main_v2
  let main_v4 : FVec F S128x8 .f32 := (extractStridedSlice S128x8 ![0, 3328] · slices_S128x3456_S128x8_0_3328) main_arg2
  let main_cst_0 : FVec F S_ .f32 := constant S_ .f32 0x7F800000#32
  let main_v5 : FVec F S128x8 .f32 := broadcastInDim S128x8 ![] bcast_S_S128x8 main_cst_0
  let main_v6 : IVec S128x8 1 := cmpf .olt main_v4 main_v5
  let main_v7 : FVec F S1x128x3x1024 .f32 := (extractStridedSlice S1x128x3x1024 ![3, 0, 0, 0] · slices_S4x128x3x1024_S1x128x3x1024_3_0_0_0) main_arg3
  let main_v8 : FVec F S128x3x1024 .f32 := shapeCast S128x3x1024 main_v7 shapeCasts_S1x128x3x1024_S128x3x1024
  let main_v9 : FVec F S128x3x1024 .f32 := Host.absf main_v8
  let main_cst_1 : FVec F S_ .f32 := constant S_ .f32 0x7F800000#32
  let main_v10 : FVec F S128x3x1024 .f32 := broadcastInDim S128x3x1024 ![] bcast_S_S128x3x1024 main_cst_1
  let main_v11 : IVec S128x3x1024 1 := cmpf .olt main_v9 main_v10
  let main_v12 : FVec F S4x1024 .f32 := Host.absf main_arg5
  let main_cst_2 : FVec F S_ .f32 := constant S_ .f32 0x7F800000#32
  let main_v13 : FVec F S4x1024 .f32 := broadcastInDim S4x1024 ![] bcast_S_S4x1024 main_cst_2
  let main_v14 : IVec S4x1024 1 := cmpf .olt main_v12 main_v13
  let main_cst_3 : FVec F S_ .f32 := constant S_ .f32 0x7F800000#32
  let main_v15 : FVec F S1024 .f32 := broadcastInDim S1024 ![] bcast_S_S1024 main_cst_3
  let main_v16 : IVec S1024 1 := cmpf .olt main_arg6 main_v15
  let main_cst_4 : FVec F S_ .f32 := constant S_ .f32 0x7F800000#32
  let main_v17 : FVec F S8 .f32 := broadcastInDim S8 ![] bcast_S_S8 main_cst_4
  fn_part1 (F := F) main_arg7 main_arg8 main_v3 main_v6 main_v11 main_v14 main_v16 main_v17
-- ==== Kernel.lean ====
abbrev S16384x1024 : Shape := ⟨2, ![16384, 1024]⟩
abbrev S2048x2048 : Shape := ⟨2, ![2048, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S1024x256 : Shape := ⟨2, ![1024, 256]⟩

abbrev nBuf : Space → Nat
  | .hbm => 20
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2048x2048, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x5632, .bf16⟩
  | .hbm, ⟨18, _⟩ => ⟨S2816x1024, .bf16⟩
  | .hbm, ⟨19, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S16384x1024 : Shape := ⟨2, ![16384, 1024]⟩
abbrev S2048x2048 : Shape := ⟨2, ![2048, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x2048x1024 : Shape := ⟨3, ![8, 2048, 1024]⟩
abbrev S2048x1024 : Shape := ⟨2, ![2048, 1024]⟩
abbrev S8x256x4x256 : Shape := ⟨4, ![8, 256, 4, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048x5632 : Shape := ⟨3, ![8, 2048, 5632]⟩
abbrev S8x2048x2816 : Shape := ⟨3, ![8, 2048, 2816]⟩

abbrev nBuf : Space → Nat
  | .hbm => 113
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2048x2048, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S8x2048x1024, .f32⟩
  | .hbm, ⟨12, _⟩ => ⟨S16384x1024, .f32⟩
  | .hbm, ⟨13, _⟩ => ⟨S8x2048x1024, .f32⟩
  | .hbm, ⟨14, _⟩ => ⟨S2048x2048, .f32⟩
  | .hbm, ⟨15, _⟩ => ⟨S2048x1024, .f32⟩
  | .hbm, ⟨16, _⟩ => ⟨S8x256x4x256, .f32⟩
  | .hbm, ⟨17, _⟩ => ⟨S2048x1024, .f32⟩
  | .hbm, ⟨18, _⟩ => ⟨S8x256x4x256, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1, .f32⟩
  | .hbm, ⟨32, _⟩ => ⟨S8x2048x1024, .f32⟩
  | .hbm, ⟨33, _⟩ => ⟨S8x2048x1024, .f32⟩
  | .hbm, ⟨34, _⟩ => ⟨S1x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x4x256, .f32⟩
  | .hbm, ⟨39, _⟩ => ⟨S8x4x2048x256, .f32⟩
  | .hbm, ⟨40, _⟩ => ⟨S_, .f32⟩
  | .hbm, ⟨41, _⟩ => ⟨S8x4x2048x256, .f32⟩
  | .hbm, ⟨42, _⟩ => ⟨S8x4x2048x256, .f32⟩
  | .hbm, ⟨43, _⟩ => ⟨S_, .f32⟩
  | .hbm, ⟨44, _⟩ => ⟨S8x4x2048, .f32⟩
  | .hbm, ⟨45, _⟩ => ⟨S_, .f32⟩
  | .hbm, ⟨46, _⟩ => ⟨S8x4x2048, .f32⟩
  | .hbm, ⟨47, _⟩ => ⟨S8x4x2048, .f32⟩
  | .hbm, ⟨48, _⟩ => ⟨S8x4x2048x1, .f32⟩
  | .hbm, ⟨49, _⟩ => ⟨S8x4x2048x256, .f32⟩
  | .hbm, ⟨50, _⟩ => ⟨S8x4x2048x256, .f32⟩
  | .hbm, ⟨51, _⟩ => ⟨S8x4x2048x256, .f32⟩
  | .hbm, ⟨52, _⟩ => ⟨S_, .f32⟩
  | .hbm, ⟨53, _⟩ => ⟨S8x4x2048, .f32⟩
  | .hbm, ⟨54, _⟩ => ⟨S8x4x2048x1, .f32⟩
  | .hbm, ⟨55, _⟩ => ⟨S8x4x2048x256, .f32⟩
  | .hbm, ⟨56, _⟩ => ⟨S8x4x2048x256, .f32⟩
  | .hbm, ⟨57, _⟩ => ⟨S8x4x256x2048, .f32⟩
  | .hbm, ⟨58, _⟩ => ⟨S8x2048x4x256, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S8x2048x1024, .f32⟩
  | .hbm, ⟨63, _⟩ => ⟨S_, .f32⟩
  | .hbm, ⟨64, _⟩ => ⟨S8x2048, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S_, .f32⟩
  | .hbm, ⟨70, _⟩ => ⟨S8x2048x1, .f32⟩
  | .hbm, ⟨71, _⟩ => ⟨S8x2048x1, .f32⟩
  | .hbm, ⟨72, _⟩ => ⟨S8x2048x1, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S8x2048x1024, .f32⟩
  | .hbm, ⟨77, _⟩ => ⟨S8x2048x1024, .f32⟩
  | .hbm, ⟨78, _⟩ => ⟨S8x2048x5632, .f32⟩
  | .hbm, ⟨79, _⟩ => ⟨S8x2048x2816, .f32⟩
  | .hbm, ⟨80, _⟩ => ⟨S8x2048x2816, .f32⟩
  | .hbm, ⟨81, _⟩ => ⟨S8x2048x2816, .f32⟩
  | .hbm, ⟨82, _⟩ => ⟨S8x2048x2816, .f32⟩
  | .hbm, ⟨83, _⟩ => ⟨S_, .f32⟩
  | .hbm, ⟨84, _⟩ => ⟨S8x2048x2816, .f32⟩
  | .hbm, ⟨85, _⟩ => ⟨S8x2048x2816, .f32⟩
  | .hbm, ⟨86, _⟩ => ⟨S_, .f32⟩
  | .hbm, ⟨87, _⟩ => ⟨S8x2048x2816, .f32⟩
  | .hbm, ⟨88, _⟩ => ⟨S8x2048x2816, .f32⟩
  | .hbm, ⟨89, _⟩ => ⟨S8x2048x2816, .f32⟩
  | .hbm, ⟨90, _⟩ => ⟨S8x2048x2816, .f32⟩
  | .hbm, ⟨91, _⟩ => ⟨S8x2048x1024, .f32⟩
  | .hbm, ⟨92, _⟩ => ⟨S_, .f32⟩
  | .hbm, ⟨93, _⟩ => ⟨S8x2048x1024, .f32⟩
  | .hbm, ⟨94, _⟩ => ⟨S8x2048x1024, .f32⟩
  | .hbm, ⟨95, _⟩ => ⟨S8x2048x1024, .f32⟩
  | .hbm, ⟨96, _⟩ => ⟨S8x2048x1024, .f32⟩
  | .hbm, ⟨97, _⟩ => ⟨S_, .f32⟩
  | .hbm, ⟨98, _⟩ => ⟨S8x2048, .f32⟩
  | .hbm, ⟨99, _⟩ => ⟨S8x2048x1, .f32⟩
  | .hbm, ⟨100, _⟩ => ⟨S_, .f32⟩
  | .hbm, ⟨101, _⟩ => ⟨S8x2048x1, .f32⟩
  | .hbm, ⟨102, _⟩ => ⟨S8x2048x1, .f32⟩
  | .hbm, ⟨103, _⟩ => ⟨S_, .f32⟩
  | .hbm, ⟨104, _⟩ => ⟨S8x2048x1, .f32⟩
  | .hbm, ⟨105, _⟩ => ⟨S8x2048x1, .f32⟩
  | .hbm, ⟨106, _⟩ => ⟨S8x2048x1, .f32⟩
  | .hbm, ⟨107, _⟩ => ⟨S8x2048x1024, .f32⟩
  | .hbm, ⟨108, _⟩ => ⟨S8x2048x1024, .f32⟩
  | .hbm, ⟨109, _⟩ => ⟨S1x1x1024, .f32⟩
  | .hbm, ⟨110, _⟩ => ⟨S8x2048x1024, .f32⟩
  | .hbm, ⟨111, _⟩ => ⟨S8x2048x1024, .f32⟩
  | .hbm, ⟨112, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_9 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_10 : Ref sig .tc := ⟨.hbm, 97, rfl⟩
abbrev main_v67 : Ref sig .tc := ⟨.hbm, 98, rfl⟩
abbrev main_v68 : Ref sig .tc := ⟨.hbm, 99, rfl⟩
abbrev main_cst_11 : Ref sig .tc := ⟨.hbm, 100, rfl⟩
abbrev main_v69 : Ref sig .tc := ⟨.hbm, 101, rfl⟩
abbrev main_v70 : Ref sig .tc := ⟨.hbm, 102, rfl⟩
abbrev main_cst_12 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x3352 : Shape := ⟨2, ![1024, 3352]⟩
abbrev S1x1024 : Shape := ⟨2, ![1, 1024]⟩
abbrev S1024x8 : Shape := ⟨2, ![1024, 8]⟩
abbrev S1024x768 : Shape := ⟨2, ![1024, 768]⟩
abbrev S1024x16 : Shape := ⟨2, ![1024, 16]⟩
abbrev S1024x1024 : Shape := ⟨2, ![1024, 1024]⟩
abbrev S_ : Shape := ⟨0, ![]⟩
abbrev S1024x104 : Shape := ⟨2, ![1024, 104]⟩
abbrev S1024x1536 : Shape := ⟨2, ![1024, 1536]⟩
abbrev S1024x3456 : Shape := ⟨2, ![1024, 3456]⟩
abbrev S16384x3456 : Shape := ⟨2, ![16384, 3456]⟩
abbrev S512x1024 : Shape := ⟨2, ![512, 1024]⟩
abbrev S512x3456 : Shape := ⟨2, ![512, 3456]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 21
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x3352, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1024x8, .f32⟩
  | .hbm, ⟨11, _⟩ => ⟨S1024x768, .f32⟩
  | .hbm, ⟨12, _⟩ => ⟨S1024x16, .f32⟩
  | .hbm, ⟨13, _⟩ => ⟨S1024x1024, .f32⟩
  | .hbm, ⟨14, _⟩ => ⟨S_, .f32⟩
  | .hbm, ⟨15, _⟩ => ⟨S1024x104, .f32⟩
  | .hbm, ⟨16, _⟩ => ⟨S1024x1536, .f32⟩
  | .hbm, ⟨17, _⟩ => ⟨S1024x3456, .f32⟩
  | .hbm, ⟨18, _⟩ => ⟨S1024x3456, .bf16⟩
  | .hbm, ⟨19, _⟩ => ⟨S16384x1024, .f32⟩
  | .hbm, ⟨20, _⟩ => ⟨S16384x3456, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x3456, .bf16⟩
  | .local _ .vmem, ⟨7, _⟩ => ⟨S512x1024, .f32⟩
  | .local _ .vmem, ⟨8, _⟩ => ⟨S512x1024, .f32⟩
  | .local _ .vmem, ⟨9, _⟩ => ⟨S512x3456, .f32⟩
  | .local _ .vmem, ⟨10, _⟩ => ⟨S512x3456, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x3456 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x3352 : Shape := ⟨2, ![1024, 3352]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2048x3352 : Shape := ⟨3, ![8, 2048, 3352]⟩
abbrev S8x2048x1536 : Shape := ⟨3, ![8, 2048, 1536]⟩
abbrev S8x2048x8 : Shape := ⟨3, ![8, 2048, 8]⟩
abbrev S8x2048x768 : Shape := ⟨3, ![8, 2048, 768]⟩
abbrev S8x2048x16 : Shape := ⟨3, ![8, 2048, 16]⟩
abbrev S8x2048x104 : Shape := ⟨3, ![8, 2048, 104]⟩
abbrev S8x2048x3456 : Shape := ⟨3, ![8, 2048, 3456]⟩
abbrev S16384x3456 : Shape := ⟨2, ![16384, 3456]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x3352, .f32⟩
  | .hbm, ⟨6, _⟩ => ⟨S8x2048x1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x5632, .f32⟩
  | .hbm, ⟨24, _⟩ => ⟨S8x2048x2816, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x1024, .f32⟩
  | .hbm, ⟨37, _⟩ => ⟨S_, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1, .f32⟩
  | .hbm, ⟨52, _⟩ => ⟨S8x2048x1024, .f32⟩
  | .hbm, ⟨53, _⟩ => ⟨S8x2048x1024, .f32⟩
  | .hbm, ⟨54, _⟩ => ⟨S1x1x1024, .f32⟩
  | .hbm, ⟨55, _⟩ => ⟨S8x2048x1024, .f32⟩
  | .hbm, ⟨56, _⟩ => ⟨S8x2048x1024, .f32⟩
  | .hbm, ⟨57, _⟩ => ⟨S8x2048x3352, .f32⟩
  | .hbm, ⟨58, _⟩ => ⟨S8x2048x1536, .f32⟩
  | .hbm, ⟨59, _⟩ => ⟨S8x2048x8, .f32⟩
  | .hbm, ⟨60, _⟩ => ⟨S8x2048x768, .f32⟩
  | .hbm, ⟨61, _⟩ => ⟨S8x2048x16, .f32⟩
  | .hbm, ⟨62, _⟩ => ⟨S8x2048x1024, .f32⟩
  | .hbm, ⟨63, _⟩ => ⟨S_, .f32⟩
  | .hbm, ⟨64, _⟩ => ⟨S8x2048x104, .f32⟩
  | .hbm, ⟨65, _⟩ => ⟨S8x2048x3456, .f32⟩
  | .hbm, ⟨66, _⟩ => ⟨S16384x1024, .f32⟩
  | .hbm, ⟨67, _⟩ => ⟨S16384x3456, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel3.lean ====
abbrev S8x256x1024 : Shape := ⟨3, ![8, 256, 1024]⟩
abbrev S1024x1024 : Shape := ⟨2, ![1024, 1024]⟩
abbrev S1024x2048 : Shape := ⟨2, ![1024, 2048]⟩
abbrev S2048x1024 : Shape := ⟨2, ![2048, 1024]⟩
abbrev S2048x2048 : Shape := ⟨2, ![2048, 2048]⟩
abbrev S512x1024 : Shape := ⟨2, ![512, 1024]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .bf16⟩
  | .hbm, ⟨5, _⟩ => ⟨S2048x1024, .f32⟩
  | .hbm, ⟨6, _⟩ => ⟨S2048x2048, .f32⟩
  | .hbm, ⟨7, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8x256x1024 : Shape := ⟨3, ![8, 256, 1024]⟩
abbrev S1024x1024 : Shape := ⟨2, ![1024, 1024]⟩
abbrev S8x256x2048 : Shape := ⟨3, ![8, 256, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024x1024, .f32⟩
  | .hbm, ⟨2, _⟩ => ⟨S1024x1024, .f32⟩
  | .hbm, ⟨3, _⟩ => ⟨S8x256x1024, .f32⟩
  | .hbm, ⟨4, _⟩ => ⟨S8x256x1024, .f32⟩
  | .hbm, ⟨5, _⟩ => ⟨S8x256x2048, .f32⟩
  | .hbm, ⟨6, _⟩ => ⟨S2048x2048, .f32⟩
  | .hbm, ⟨7, _⟩ => ⟨S2048x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S16384x1024 : Shape := ⟨2, ![16384, 1024]⟩
abbrev S2048x2048 : Shape := ⟨2, ![2048, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S256x1024 : Shape := ⟨2, ![256, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩
abbrev S1024x256 : Shape := ⟨2, ![1024, 256]⟩

abbrev nBuf : Space → Nat
  | .hbm => 18
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2048x2048, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x5632, .bf16⟩
  | .hbm, ⟨16, _⟩ => ⟨S2816x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S16384x1024 : Shape := ⟨2, ![16384, 1024]⟩
abbrev S2048x2048 : Shape := ⟨2, ![2048, 2048]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S8x2048x1024 : Shape := ⟨3, ![8, 2048, 1024]⟩
abbrev S2048x1024 : Shape := ⟨2, ![2048, 1024]⟩
abbrev S8x256x4x256 : Shape := ⟨4, ![8, 256, 4, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x256 : Shape := ⟨4, ![8, 2048, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S8x2048x5632 : Shape := ⟨3, ![8, 2048, 5632]⟩
abbrev S8x2048x2816 : Shape := ⟨3, ![8, 2048, 2816]⟩

abbrev nBuf : Space → Nat
  | .hbm => 96
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2048x2048, .bf16⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S8x2048x1024, .f32⟩
  | .hbm, ⟨11, _⟩ => ⟨S16384x1024, .f32⟩
  | .hbm, ⟨12, _⟩ => ⟨S8x2048x1024, .f32⟩
  | .hbm, ⟨13, _⟩ => ⟨S2048x2048, .f32⟩
  | .hbm, ⟨14, _⟩ => ⟨S2048x1024, .f32⟩
  | .hbm, ⟨15, _⟩ => ⟨S8x256x4x256, .f32⟩
  | .hbm, ⟨16, _⟩ => ⟨S2048x1024, .f32⟩
  | .hbm, ⟨17, _⟩ => ⟨S8x256x4x256, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S8x2048x1024, .f32⟩
  | .hbm, ⟨37, _⟩ => ⟨S8x2048x4x256, .f32⟩
  | .hbm, ⟨38, _⟩ => ⟨S8x4x2048x256, .f32⟩
  | .hbm, ⟨39, _⟩ => ⟨S_, .f32⟩
  | .hbm, ⟨40, _⟩ => ⟨S8x4x2048x256, .f32⟩
  | .hbm, ⟨41, _⟩ => ⟨S8x4x2048x256, .f32⟩
  | .hbm, ⟨42, _⟩ => ⟨S_, .f32⟩
  | .hbm, ⟨43, _⟩ => ⟨S8x4x2048, .f32⟩
  | .hbm, ⟨44, _⟩ => ⟨S_, .f32⟩
  | .hbm, ⟨45, _⟩ => ⟨S8x4x2048, .f32⟩
  | .hbm, ⟨46, _⟩ => ⟨S8x4x2048, .f32⟩
  | .hbm, ⟨47, _⟩ => ⟨S8x4x2048x1, .f32⟩
  | .hbm, ⟨48, _⟩ => ⟨S8x4x2048x256, .f32⟩
  | .hbm, ⟨49, _⟩ => ⟨S8x4x2048x256, .f32⟩
  | .hbm, ⟨50, _⟩ => ⟨S8x4x2048x256, .f32⟩
  | .hbm, ⟨51, _⟩ => ⟨S_, .f32⟩
  | .hbm, ⟨52, _⟩ => ⟨S8x4x2048, .f32⟩
  | .hbm, ⟨53, _⟩ => ⟨S8x4x2048x1, .f32⟩
  | .hbm, ⟨54, _⟩ => ⟨S8x4x2048x256, .f32⟩
  | .hbm, ⟨55, _⟩ => ⟨S8x4x2048x256, .f32⟩
  | .hbm, ⟨56, _⟩ => ⟨S8x4x256x2048, .f32⟩
  | .hbm, ⟨57, _⟩ => ⟨S8x2048x4x256, .f32⟩
  | .hbm, ⟨58, _⟩ => ⟨S8x2048x1024, .f32⟩
  | .hbm, ⟨59, _⟩ => ⟨S8x2048x1024, .f32⟩
  | .hbm, ⟨60, _⟩ => ⟨S8x2048x1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S8x2048x5632, .f32⟩
  | .hbm, ⟨78, _⟩ => ⟨S8x2048x2816, .f32⟩
  | .hbm, ⟨79, _⟩ => ⟨S8x2048x2816, .f32⟩
  | .hbm, ⟨80, _⟩ => ⟨S8x2048x2816, .f32⟩
  | .hbm, ⟨81, _⟩ => ⟨S8x2048x2816, .f32⟩
  | .hbm, ⟨82, _⟩ => ⟨S_, .f32⟩
  | .hbm, ⟨83, _⟩ => ⟨S8x2048x2816, .f32⟩
  | .hbm, ⟨84, _⟩ => ⟨S8x2048x2816, .f32⟩
  | .hbm, ⟨85, _⟩ => ⟨S_, .f32⟩
  | .hbm, ⟨86, _⟩ => ⟨S8x2048x2816, .f32⟩
  | .hbm, ⟨87, _⟩ => ⟨S8x2048x2816, .f32⟩
  | .hbm, ⟨88, _⟩ => ⟨S8x2048x2816, .f32⟩
  | .hbm, ⟨89, _⟩ => ⟨S8x2048x2816, .f32⟩
  | .hbm, ⟨90, _⟩ => ⟨S8x2048x1024, .f32⟩
  | .hbm, ⟨91, _⟩ => ⟨S_, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_cst_8 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call0_v0 : Ref sig .tc := ⟨.hbm, 80, rfl⟩
abbrev main_call0_v1 : Ref sig .tc := ⟨.hbm, 81, rfl⟩
abbrev main_call0_cst : Ref sig .tc := ⟨.hbm, 82, rfl⟩
abbrev main_call0_v2 : Ref sig .tc := ⟨.hbm, 83, rfl⟩
abbrev main_call0_v3 : Ref sig .tc := ⟨.hbm, 84, rfl⟩
abbrev main_call0_cst_0 : Ref sig .tc := ⟨.hbm, 85, rfl⟩
abbrev main_call0_v4 : Ref sig .tc := ⟨.hbm, 86, rfl⟩
abbrev main_call0_v5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_9 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== Kernel5.lean ====
abbrev S128x1024 : Shape := ⟨2, ![128, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference5Ideal.lean ====
abbrev S128x1024 : Shape := ⟨2, ![128, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x1x2816 : Shape := ⟨3, ![128, 1, 2816]⟩

abbrev nBuf : Space → Nat
  | .hbm => 62
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S_, .f32⟩
  | .hbm, ⟨13, _⟩ => ⟨S128x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S_, .f32⟩
  | .hbm, ⟨19, _⟩ => ⟨S128x1x1, .f32⟩
  | .hbm, ⟨20, _⟩ => ⟨S128x1x1, .f32⟩
  | .hbm, ⟨21, _⟩ => ⟨S128x1x1, .f32⟩
  | .hbm, ⟨22, _⟩ => ⟨S128x1x1024, .f32⟩
  | .hbm, ⟨23, _⟩ => ⟨S128x1x1024, .f32⟩
  | .hbm, ⟨24, _⟩ => ⟨S1x1x1024, .f32⟩
  | .hbm, ⟨25, _⟩ => ⟨S128x1x1024, .f32⟩
  | .hbm, ⟨26, _⟩ => ⟨S128x1x1024, .f32⟩
  | .hbm, ⟨27, _⟩ => ⟨S128x1x5632, .f32⟩
  | .hbm, ⟨28, _⟩ => ⟨S128x1x2816, .f32⟩
  | .hbm, ⟨29, _⟩ => ⟨S128x1x2816, .f32⟩
  | .hbm, ⟨30, _⟩ => ⟨S128x1x2816, .f32⟩
  | .hbm, ⟨31, _⟩ => ⟨S128x1x2816, .f32⟩
  | .hbm, ⟨32, _⟩ => ⟨S_, .f32⟩
  | .hbm, ⟨33, _⟩ => ⟨S128x1x2816, .f32⟩
  | .hbm, ⟨34, _⟩ => ⟨S128x1x2816, .f32⟩
  | .hbm, ⟨35, _⟩ => ⟨S_, .f32⟩
  | .hbm, ⟨36, _⟩ => ⟨S128x1x2816, .f32⟩
  | .hbm, ⟨37, _⟩ => ⟨S128x1x2816, .f32⟩
  | .hbm, ⟨38, _⟩ => ⟨S128x1x2816, .f32⟩
  | .hbm, ⟨39, _⟩ => ⟨S128x1x2816, .f32⟩
  | .hbm, ⟨40, _⟩ => ⟨S128x1x1024, .f32⟩
  | .hbm, ⟨41, _⟩ => ⟨S_, .f32⟩
  | .hbm, ⟨42, _⟩ => ⟨S128x1x1024, .f32⟩
  | .hbm, ⟨43, _⟩ => ⟨S128x1x1024, .f32⟩
  | .hbm, ⟨44, _⟩ => ⟨S128x1x1024, .f32⟩
  | .hbm, ⟨45, _⟩ => ⟨S128x1x1024, .f32⟩
  | .hbm, ⟨46, _⟩ => ⟨S_, .f32⟩
  | .hbm, ⟨47, _⟩ => ⟨S128x1, .f32⟩
  | .hbm, ⟨48, _⟩ => ⟨S128x1x1, .f32⟩
  | .hbm, ⟨49, _⟩ => ⟨S_, .f32⟩
  | .hbm, ⟨50, _⟩ => ⟨S128x1x1, .f32⟩
  | .hbm, ⟨51, _⟩ => ⟨S128x1x1, .f32⟩
  | .hbm, ⟨52, _⟩ => ⟨S_, .f32⟩
  | .hbm, ⟨53, _⟩ => ⟨S128x1x1, .f32⟩
  | .hbm, ⟨54, _⟩ => ⟨S128x1x1, .f32⟩
  | .hbm, ⟨55, _⟩ => ⟨S128x1x1, .f32⟩
  | .hbm, ⟨56, _⟩ => ⟨S128x1x1024, .f32⟩
  | .hbm, ⟨57, _⟩ => ⟨S128x1x1024, .f32⟩
  | .hbm, ⟨58, _⟩ => ⟨S1x1x1024, .f32⟩
  | .hbm, ⟨59, _⟩ => ⟨S128x1x1024, .f32⟩
  | .hbm, ⟨60, _⟩ => ⟨S128x1x1024, .f32⟩
  | .hbm, ⟨61, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel6.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S1024x3352 : Shape := ⟨2, ![1024, 3352]⟩
abbrev S1x1024 : Shape := ⟨2, ![1, 1024]⟩
abbrev S1024x8 : Shape := ⟨2, ![1024, 8]⟩
abbrev S1024x768 : Shape := ⟨2, ![1024, 768]⟩
abbrev S1024x16 : Shape := ⟨2, ![1024, 16]⟩
abbrev S1024x1024 : Shape := ⟨2, ![1024, 1024]⟩
abbrev S_ : Shape := ⟨0, ![]⟩
abbrev S1024x104 : Shape := ⟨2, ![1024, 104]⟩
abbrev S1024x1536 : Shape := ⟨2, ![1024, 1536]⟩
abbrev S1024x3456 : Shape := ⟨2, ![1024, 3456]⟩
abbrev S128x3456 : Shape := ⟨2, ![128, 3456]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 21
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x3352, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S1024x8, .f32⟩
  | .hbm, ⟨11, _⟩ => ⟨S1024x768, .f32⟩
  | .hbm, ⟨12, _⟩ => ⟨S1024x16, .f32⟩
  | .hbm, ⟨13, _⟩ => ⟨S1024x1024, .f32⟩
  | .hbm, ⟨14, _⟩ => ⟨S_, .f32⟩
  | .hbm, ⟨15, _⟩ => ⟨S1024x104, .f32⟩
  | .hbm, ⟨16, _⟩ => ⟨S1024x1536, .f32⟩
  | .hbm, ⟨17, _⟩ => ⟨S1024x3456, .f32⟩
  | .hbm, ⟨18, _⟩ => ⟨S1024x3456, .bf16⟩
  | .hbm, ⟨19, _⟩ => ⟨S128x1024, .f32⟩
  | .hbm, ⟨20, _⟩ => ⟨S128x3456, .f32⟩
  | .local _ .vmem, ⟨0, _⟩ => ⟨S128x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1024x3456, .bf16⟩
  | .local _ .vmem, ⟨6, _⟩ => ⟨S128x1024, .f32⟩
  | .local _ .vmem, ⟨7, _⟩ => ⟨S128x3456, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x3456 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference6Ideal.lean ====
abbrev S128x1024 : Shape := ⟨2, ![128, 1024]⟩
abbrev S1024 : Shape := ⟨1, ![1024]⟩
abbrev S1024x5632 : Shape := ⟨2, ![1024, 5632]⟩
abbrev S2816x1024 : Shape := ⟨2, ![2816, 1024]⟩
abbrev S1024x3352 : Shape := ⟨2, ![1024, 3352]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x1x2816 : Shape := ⟨3, ![128, 1, 2816]⟩
abbrev S128x1x3352 : Shape := ⟨3, ![128, 1, 3352]⟩
abbrev S128x1x1536 : Shape := ⟨3, ![128, 1, 1536]⟩
abbrev S128x1x8 : Shape := ⟨3, ![128, 1, 8]⟩
abbrev S128x1x768 : Shape := ⟨3, ![128, 1, 768]⟩
abbrev S128x1x16 : Shape := ⟨3, ![128, 1, 16]⟩
abbrev S128x1x104 : Shape := ⟨3, ![128, 1, 104]⟩
abbrev S128x1x3456 : Shape := ⟨3, ![128, 1, 3456]⟩
abbrev S128x3456 : Shape := ⟨2, ![128, 3456]⟩

abbrev nBuf : Space → Nat
  | .hbm => 68
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x3352, .f32⟩
  | .hbm, ⟨6, _⟩ => ⟨S128x1x1024, .f32⟩
  | .hbm, ⟨7, _⟩ => ⟨S128x1x1024, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x1024, .f32⟩
  | .hbm, ⟨19, _⟩ => ⟨S128x1x1024, .f32⟩
  | .hbm, ⟨20, _⟩ => ⟨S1x1x1024, .f32⟩
  | .hbm, ⟨21, _⟩ => ⟨S128x1x1024, .f32⟩
  | .hbm, ⟨22, _⟩ => ⟨S128x1x1024, .f32⟩
  | .hbm, ⟨23, _⟩ => ⟨S128x1x5632, .f32⟩
  | .hbm, ⟨24, _⟩ => ⟨S128x1x2816, .f32⟩
  | .hbm, ⟨25, _⟩ => ⟨S128x1x2816, .f32⟩
  | .hbm, ⟨26, _⟩ => ⟨S128x1x2816, .f32⟩
  | .hbm, ⟨27, _⟩ => ⟨S128x1x2816, .f32⟩
  | .hbm, ⟨28, _⟩ => ⟨S_, .f32⟩
  | .hbm, ⟨29, _⟩ => ⟨S128x1x2816, .f32⟩
  | .hbm, ⟨30, _⟩ => ⟨S128x1x2816, .f32⟩
  | .hbm, ⟨31, _⟩ => ⟨S_, .f32⟩
  | .hbm, ⟨32, _⟩ => ⟨S128x1x2816, .f32⟩
  | .hbm, ⟨33, _⟩ => ⟨S128x1x2816, .f32⟩
  | .hbm, ⟨34, _⟩ => ⟨S128x1x2816, .f32⟩
  | .hbm, ⟨35, _⟩ => ⟨S128x1x2816, .f32⟩
  | .hbm, ⟨36, _⟩ => ⟨S128x1x1024, .f32⟩
  | .hbm, ⟨37, _⟩ => ⟨S_, .f32⟩
  | .hbm, ⟨38, _⟩ => ⟨S128x1x1024, .f32⟩
  | .hbm, ⟨39, _⟩ => ⟨S128x1x1024, .f32⟩
  | .hbm, ⟨40, _⟩ => ⟨S128x1x1024, .f32⟩
  | .hbm, ⟨41, _⟩ => ⟨S128x1x1024, .f32⟩
  | .hbm, ⟨42, _⟩ => ⟨S_, .f32⟩
  | .hbm, ⟨43, _⟩ => ⟨S128x1, .f32⟩
  | .hbm, ⟨44, _⟩ => ⟨S128x1x1, .f32⟩
  | .hbm, ⟨45, _⟩ => ⟨S_, .f32⟩
  | .hbm, ⟨46, _⟩ => ⟨S128x1x1, .f32⟩
  | .hbm, ⟨47, _⟩ => ⟨S128x1x1, .f32⟩
  | .hbm, ⟨48, _⟩ => ⟨S_, .f32⟩
  | .hbm, ⟨49, _⟩ => ⟨S128x1x1, .f32⟩
  | .hbm, ⟨50, _⟩ => ⟨S128x1x1, .f32⟩
  | .hbm, ⟨51, _⟩ => ⟨S128x1x1, .f32⟩
  | .hbm, ⟨52, _⟩ => ⟨S128x1x1024, .f32⟩
  | .hbm, ⟨53, _⟩ => ⟨S128x1x1024, .f32⟩
  | .hbm, ⟨54, _⟩ => ⟨S1x1x1024, .f32⟩
  | .hbm, ⟨55, _⟩ => ⟨S128x1x1024, .f32⟩
  | .hbm, ⟨56, _⟩ => ⟨S128x1x1024, .f32⟩
  | .hbm, ⟨57, _⟩ => ⟨S128x1x3352, .f32⟩
  | .hbm, ⟨58, _⟩ => ⟨S128x1x1536, .f32⟩
  | .hbm, ⟨59, _⟩ => ⟨S128x1x8, .f32⟩
  | .hbm, ⟨60, _⟩ => ⟨S128x1x768, .f32⟩
  | .hbm, ⟨61, _⟩ => ⟨S128x1x16, .f32⟩
  | .hbm, ⟨62, _⟩ => ⟨S128x1x1024, .f32⟩
  | .hbm, ⟨63, _⟩ => ⟨S_, .f32⟩
  | .hbm, ⟨64, _⟩ => ⟨S128x1x104, .f32⟩
  | .hbm, ⟨65, _⟩ => ⟨S128x1x3456, .f32⟩
  | .hbm, ⟨66, _⟩ => ⟨S128x1024, .f32⟩
  | .hbm, ⟨67, _⟩ => ⟨S128x3456, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Kernel7.lean ====
abbrev S128x1024 : Shape := ⟨2, ![128, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x1024, .bf16⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference7Ideal.lean ====
abbrev S128x1024 : Shape := ⟨2, ![128, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x5632 : Shape := ⟨3, ![128, 1, 5632]⟩
abbrev S128x1x2816 : Shape := ⟨3, ![128, 1, 2816]⟩

abbrev nBuf : Space → Nat
  | .hbm => 45
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S128x1x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S_, .f32⟩
  | .hbm, ⟨12, _⟩ => ⟨S128x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S128x1x1, .f32⟩
  | .hbm, ⟨21, _⟩ => ⟨S128x1x1024, .f32⟩
  | .hbm, ⟨22, _⟩ => ⟨S128x1x1024, .f32⟩
  | .hbm, ⟨23, _⟩ => ⟨S1x1x1024, .f32⟩
  | .hbm, ⟨24, _⟩ => ⟨S128x1x1024, .f32⟩
  | .hbm, ⟨25, _⟩ => ⟨S128x1x1024, .f32⟩
  | .hbm, ⟨26, _⟩ => ⟨S128x1x5632, .f32⟩
  | .hbm, ⟨27, _⟩ => ⟨S128x1x2816, .f32⟩
  | .hbm, ⟨28, _⟩ => ⟨S128x1x2816, .f32⟩
  | .hbm, ⟨29, _⟩ => ⟨S128x1x2816, .f32⟩
  | .hbm, ⟨30, _⟩ => ⟨S128x1x2816, .f32⟩
  | .hbm, ⟨31, _⟩ => ⟨S_, .f32⟩
  | .hbm, ⟨32, _⟩ => ⟨S128x1x2816, .f32⟩
  | .hbm, ⟨33, _⟩ => ⟨S128x1x2816, .f32⟩
  | .hbm, ⟨34, _⟩ => ⟨S_, .f32⟩
  | .hbm, ⟨35, _⟩ => ⟨S128x1x2816, .f32⟩
  | .hbm, ⟨36, _⟩ => ⟨S128x1x2816, .f32⟩
  | .hbm, ⟨37, _⟩ => ⟨S128x1x2816, .f32⟩
  | .hbm, ⟨38, _⟩ => ⟨S128x1x2816, .f32⟩
  | .hbm, ⟨39, _⟩ => ⟨S128x1x1024, .f32⟩
  | .hbm, ⟨40, _⟩ => ⟨S_, .f32⟩
  | .hbm, ⟨41, _⟩ => ⟨S128x1x1024, .f32⟩
  | .hbm, ⟨42, _⟩ => ⟨S128x1x1024, .f32⟩
  | .hbm, ⟨43, _⟩ => ⟨S128x1x1024, .f32⟩
  | .hbm, ⟨44, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Kernel8.lean ====
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S1024x1024, .bf16⟩
  | .hbm, ⟨8, _⟩ => ⟨S128x1024, .f32⟩
  | .hbm, ⟨9, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference8Ideal.lean ====
abbrev S128x1024 : Shape := ⟨2, ![128, 1024]⟩
abbrev S1024x1024 : Shape := ⟨2, ![1024, 1024]⟩
abbrev S1024 : Shape := ⟨1, ![1024]⟩
abbrev S128x1x1024 : Shape := ⟨3, ![128, 1, 1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S128x1x1024, .f32⟩
  | .hbm, ⟨6, _⟩ => ⟨S128x1024, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S_, .f32⟩
  | .hbm, ⟨12, _⟩ => ⟨S128x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S128x1x1, .f32⟩
  | .hbm, ⟨21, _⟩ => ⟨S128x1x1024, .f32⟩
  | .hbm, ⟨22, _⟩ => ⟨S128x1x1024, .f32⟩
  | .hbm, ⟨23, _⟩ => ⟨S1x1x1024, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S128x1024, .f32⟩
  | .hbm, ⟨28, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel9.lean ====
abbrev S4x3x128x1024 : Shape := ⟨4, ![4, 3, 128, 1024]⟩
abbrev S4x128x8x64x128 : Shape := ⟨5, ![4, 128, 8, 64, 128]⟩
abbrev S128x3456 : Shape := ⟨2, ![128, 3456]⟩
abbrev S4x128x3x1024 : Shape := ⟨4, ![4, 128, 3, 1024]⟩
abbrev S4x128x8x128x64 : Shape := ⟨5, ![4, 128, 8, 128, 64]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x1024 : Shape := ⟨2, ![1, 1024]⟩
abbrev S1x8 : Shape := ⟨2, ![1, 8]⟩
abbrev S_ : Shape := ⟨0, ![]⟩
abbrev S1x128 : Shape := ⟨2, ![1, 128]⟩
abbrev S8x64 : Shape := ⟨2, ![8, 64]⟩
abbrev S1x512 : Shape := ⟨2, ![1, 512]⟩
abbrev S128x512 : Shape := ⟨2, ![128, 512]⟩
abbrev S8x3456 : Shape := ⟨2, ![8, 3456]⟩
abbrev S1x3x8x1024 : Shape := ⟨4, ![1, 3, 8, 1024]⟩
abbrev S1x8x8x64x128 : Shape := ⟨5, ![1, 8, 8, 64, 128]⟩
abbrev S8x512 : Shape := ⟨2, ![8, 512]⟩
abbrev S512x128 : Shape := ⟨2, ![512, 128]⟩
abbrev S8x1024 : Shape := ⟨2, ![8, 1024]⟩
abbrev S1x1x8x1024 : Shape := ⟨4, ![1, 1, 8, 1024]⟩
abbrev S512x8 : Shape := ⟨2, ![512, 8]⟩
abbrev S8x128 : Shape := ⟨2, ![8, 128]⟩
abbrev S1x1x1x64x128 : Shape := ⟨5, ![1, 1, 1, 64, 128]⟩
abbrev S64x128 : Shape := ⟨2, ![64, 128]⟩
abbrev S1x1 : Shape := ⟨2, ![1, 1]⟩
abbrev S64x1 : Shape := ⟨2, ![64, 1]⟩
abbrev S64 : Shape := ⟨1, ![64]⟩
abbrev S8x256 : Shape := ⟨2, ![8, 256]⟩
abbrev S8x1 : Shape := ⟨2, ![8, 1]⟩

abbrev nBuf : Space → Nat
  | .hbm => 29
  | .vmem => 19
  | .smem => 0
  | _ => 0

abbrev bufTy : (tb : Table) → Fin (tcTables nBuf tb) → BufTy
  | .hbm, ⟨0, _⟩ => ⟨S4x3x128x1024, .f32⟩
  | .hbm, ⟨1, _⟩ => ⟨S4x128x8x64x128, .f32⟩
  | .hbm, ⟨2, _⟩ => ⟨S128x3456, .f32⟩
  | .hbm, ⟨3, _⟩ => ⟨S4x128x3x1024, .f32⟩
  | .hbm, ⟨4, _⟩ => ⟨S4x128x8x128x64, .f32⟩
  | .hbm, ⟨5, _⟩ => ⟨S4x1024, .f32⟩
  | .hbm, ⟨6, _⟩ => ⟨S1024, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S512, .f32⟩
  | .hbm, ⟨11, _⟩ => ⟨S1x1024, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x8, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S8x64, .f32⟩
  | .hbm, ⟨21, _⟩ => ⟨S512, .f32⟩
  | .hbm, ⟨22, _⟩ => ⟨S1x512, .f32⟩
  | .hbm, ⟨23, _⟩ => ⟨S1x512, .f32⟩
  | .hbm, ⟨24, _⟩ => ⟨S4x3x128x1024, .f32⟩
  | .hbm, ⟨25, _⟩ => ⟨S4x128x8x64x128, .f32⟩
  | .hbm, ⟨26, _⟩ => ⟨S128x512, .bf16⟩
  | .hbm, ⟨27, _⟩ => ⟨S4x3x128x1024, .f32⟩
  | .hbm, ⟨28, _⟩ => ⟨S4x128x8x64x128, .f32⟩
  | .local _ .vmem, ⟨0, _⟩ => ⟨S8x3456, .f32⟩
  | .local _ .vmem, ⟨1, _⟩ => ⟨S8x3456, .f32⟩
  | .local _ .vmem, ⟨2, _⟩ => ⟨S1x3x8x1024, .f32⟩
  | .local _ .vmem, ⟨3, _⟩ => ⟨S1x3x8x1024, .f32⟩
  | .local _ .vmem, ⟨4, _⟩ => ⟨S1x8x8x64x128, .f32⟩
  | .local _ .vmem, ⟨5, _⟩ => ⟨S1x8x8x64x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S8x512, .bf16⟩
  | .local _ .vmem, ⟨13, _⟩ => ⟨S8x512, .bf16⟩
  | .local _ .vmem, ⟨14, _⟩ => ⟨S1x3x8x1024, .f32⟩
  | .local _ .vmem, ⟨15, _⟩ => ⟨S1x3x8x1024, .f32⟩
  | .local _ .vmem, ⟨16, _⟩ => ⟨S1x8x8x64x128, .f32⟩
  | .local _ .vmem, ⟨17, _⟩ => ⟨S1x8x8x64x128, .f32⟩
  | .local _ .vmem, ⟨18, _⟩ => ⟨S512x128, .f32⟩
  | _, _ => ⟨S4x3x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_4 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, arg0.toNat, c0_i32_0.toNat]

def cc0_transform_13 (i : grid0.Coords) : Fin 5 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  let c0_i32_2 : BitVec 32 := 0#32
  ![c3_i32.toNat, arg0.toNat, c0_i32.toNat, c0_i32_0.toNat, c0_i32_1.toNat]

abbrev stage0_0 : Fin 2 → Memref sig .tc .vmem S8x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x8x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x3x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x8x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S4x3x128x1024 : Shape := ⟨4, ![4, 3, 128, 1024]⟩
abbrev S4x128x8x64x128 : Shape := ⟨5, ![4, 128, 8, 64, 128]⟩
abbrev S128x3456 : Shape := ⟨2, ![128, 3456]⟩
abbrev S4x128x3x1024 : Shape := ⟨4, ![4, 128, 3, 1024]⟩
abbrev S4x128x8x128x64 : Shape := ⟨5, ![4, 128, 8, 128, 64]⟩
abbrev S4x1024 : Shape := ⟨2, ![4, 1024]⟩
abbrev S1024 : Shape := ⟨1, ![1024]⟩
abbrev S8 : Shape := ⟨1, ![8]⟩
abbrev S512 : Shape := ⟨1, ![512]⟩
abbrev S128x512 : Shape := ⟨2, ![128, 512]⟩
abbrev S128x1x512 : Shape := ⟨3, ![128, 1, 512]⟩
abbrev S128x1024 : Shape := ⟨2, ![128, 1024]⟩
abbrev S128x1x1024 : Shape := ⟨3, ![128, 1, 1024]⟩
abbrev S128x8 : Shape := ⟨2, ![128, 8]⟩
abbrev S128x1x8 : Shape := ⟨3, ![128, 1, 8]⟩
abbrev S1x128x3x1024 : Shape := ⟨4, ![1, 128, 3, 1024]⟩
abbrev S128x3x1024 : Shape := ⟨3, ![128, 3, 1024]⟩
abbrev S128x4x1024 : Shape := ⟨3, ![128, 4, 1024]⟩
abbrev S1x4x1024 : Shape := ⟨3, ![1, 4, 1024]⟩
abbrev S_ : Shape := ⟨0, ![]⟩
abbrev S1x1x1024 : Shape := ⟨3, ![1, 1, 1024]⟩
abbrev S128x1x8x64 : Shape := ⟨4, ![128, 1, 8, 64]⟩
abbrev S128x1x256 : Shape := ⟨3, ![128, 1, 256]⟩
abbrev S128x1x2x128 : Shape := ⟨4, ![128, 1, 2, 128]⟩
abbrev S128x1x2x4x128 : Shape := ⟨5, ![128, 1, 2, 4, 128]⟩
abbrev S128x1x8x128 : Shape := ⟨4, ![128, 1, 8, 128]⟩
abbrev S1x1x8 : Shape := ⟨3, ![1, 1, 8]⟩
abbrev S128x8x128 : Shape := ⟨3, ![128, 8, 128]⟩
abbrev S128x1x8x1 : Shape := ⟨4, ![128, 1, 8, 1]⟩
abbrev S128x8x64 : Shape := ⟨3, ![128, 8, 64]⟩
abbrev S1x128x8x128x64 : Shape := ⟨5, ![1, 128, 8, 128, 64]⟩
abbrev S128x8x128x64 : Shape := ⟨4, ![128, 8, 128, 64]⟩
abbrev S128x8x1 : Shape := ⟨3, ![128, 8, 1]⟩
abbrev S128x8x128x1 : Shape := ⟨4, ![128, 8, 128, 1]⟩
abbrev S128x8x1x1 : Shape := ⟨4, ![128, 8, 1, 1]⟩
abbrev S128x8x1x64 : Shape := ⟨4, ![128, 8, 1, 64]⟩
abbrev S8x1 : Shape := ⟨2, ![8, 1]⟩
abbrev S1x1x8x1 : Shape := ⟨4, ![1, 1, 8, 1]⟩
abbrev S128x1x2x256 : Shape := ⟨4, ![128, 1, 2, 256]⟩
abbrev S128x1x2 : Shape := ⟨3, ![128, 1, 2]⟩
abbrev S128x1x2x1 : Shape := ⟨4, ![128, 1, 2, 1]⟩
abbrev S1x1x512 : Shape := ⟨3, ![1, 1, 512]⟩
abbrev S3x3x128x1024 : Shape := ⟨4, ![3, 3, 128, 1024]⟩
abbrev S3x128x1024 : Shape := ⟨3, ![3, 128, 1024]⟩
abbrev S1x3x128x1024 : Shape := ⟨4, ![1, 3, 128, 1024]⟩
abbrev S3x128x8x64x128 : Shape := ⟨5, ![3, 128, 8, 64, 128]⟩
abbrev S128x8x64x128 : Shape := ⟨4, ![128, 8, 64, 128]⟩
abbrev S1x128x8x64x128 : Shape := ⟨5, ![1, 128, 8, 64, 128]⟩

abbrev nBuf : Space → Nat
  | .hbm => 159
  | .vmem => 0
  | .smem => 0
  | _ => 0

abbrev hbmTy0_0 (i : Nat) : BufTy := match i % 128 with
  | 0 => ⟨S4x3x128x1024, .f32⟩
  | 1 => ⟨S4x128x8x64x128, .f32⟩
  | 2 => ⟨S128x3456, .f32⟩
  | 3 => ⟨S4x128x3x1024, .f32⟩
  | 4 => ⟨S4x128x8x128x64, .f32⟩
  | 5 => ⟨S4x1024, .f32⟩
  | 6 => ⟨S1024, .f32⟩
  | 7 => ⟨S8, .f32⟩
  | 8 => ⟨S8, .f32⟩
  | 9 => ⟨S8, .f32⟩
  | 10 => ⟨S512, .f32⟩
  | 11 => ⟨S128x512, .f32⟩
  | 12 => ⟨S128x1x512, .f32⟩
  | 13 => ⟨S128x1024, .f32⟩
  | 14 => ⟨S128x1x1024, .f32⟩
  | 15 => ⟨S128x8, .f32⟩
  | 16 => ⟨S128x1x8, .f32⟩
  | 17 => ⟨S1x128x3x1024, .f32⟩
  | 18 => ⟨S128x3x1024, .f32⟩
  | 19 => ⟨S128x4x1024, .f32⟩
  | 20 => ⟨S1x4x1024, .f32⟩
  | 21 => ⟨S128x4x1024, .f32⟩
  | 22 => ⟨S128x4x1024, .f32⟩
  | 23 => ⟨S_, .f32⟩
  | 24 => ⟨S128x1024, .f32⟩
  | 25 => ⟨S128x1x1024, .f32⟩
  | 26 => ⟨S1x1x1024, .f32⟩
  | 27 => ⟨S128x1x1024, .f32⟩
  | 28 => ⟨S128x1x1024, .f32⟩
  | 29 => ⟨S128x1x1024, .f32⟩
  | 30 => ⟨S128x1x1024, .f32⟩
  | 31 => ⟨S_, .f32⟩
  | 32 => ⟨S128x1x1024, .f32⟩
  | 33 => ⟨S128x1x1024, .f32⟩
  | 34 => ⟨S_, .f32⟩
  | 35 => ⟨S128x1x1024, .f32⟩
  | 36 => ⟨S128x1x1024, .f32⟩
  | 37 => ⟨S128x1x1024, .f32⟩
  | 38 => ⟨S128x3x1024, .f32⟩
  | 39 => ⟨S128x1x512, .f32⟩
  | 40 => ⟨S128x1x8x64, .f32⟩
  | 41 => ⟨S128x1x256, .f32⟩
  | 42 => ⟨S128x1x2x128, .f32⟩
  | 43 => ⟨S128x1x256, .f32⟩
  | 44 => ⟨S128x1x2x128, .f32⟩
  | 45 => ⟨S128x1x2x4x128, .f32⟩
  | 46 => ⟨S128x1x8x128, .f32⟩
  | 47 => ⟨S128x1x2x4x128, .f32⟩
  | 48 => ⟨S128x1x8x128, .f32⟩
  | 49 => ⟨S1x1x8, .f32⟩
  | 50 => ⟨S128x1x8, .f32⟩
  | 51 => ⟨S128x1x8, .f32⟩
  | 52 => ⟨S_, .f32⟩
  | 53 => ⟨S128x1x8, .f32⟩
  | 54 => ⟨S128x1x8, .f32⟩
  | 55 => ⟨S128x1x8, .f32⟩
  | 56 => ⟨S128x1x8, .f32⟩
  | 57 => ⟨S128x1x8, .i1⟩
  | 58 => ⟨S128x1x8, .f32⟩
  | 59 => ⟨S128x1x8, .f32⟩
  | 60 => ⟨S128x1x8, .f32⟩
  | 61 => ⟨S128x1x8, .f32⟩
  | 62 => ⟨S128x1x8, .f32⟩
  | 63 => ⟨S128x1x8, .f32⟩
  | 64 => ⟨S128x1x8, .f32⟩
  | 65 => ⟨S128x1x8, .f32⟩
  | 66 => ⟨S128x8x128, .f32⟩
  | 67 => ⟨S128x1x8x1, .f32⟩
  | 68 => ⟨S128x1x8x128, .f32⟩
  | 69 => ⟨S128x1x8x128, .f32⟩
  | 70 => ⟨S128x8x128, .f32⟩
  | 71 => ⟨S128x8x64, .f32⟩
  | 72 => ⟨S8, .f32⟩
  | 73 => ⟨S8, .f32⟩
  | 74 => ⟨S1x1x8, .f32⟩
  | 75 => ⟨S128x1x8, .f32⟩
  | 76 => ⟨S128x1x8, .f32⟩
  | 77 => ⟨S128x8, .f32⟩
  | 78 => ⟨S1x128x8x128x64, .f32⟩
  | 79 => ⟨S128x8x128x64, .f32⟩
  | 80 => ⟨S128x8x128, .f32⟩
  | 81 => ⟨S_, .f32⟩
  | 82 => ⟨S128x8, .f32⟩
  | 83 => ⟨S128x8, .f32⟩
  | 84 => ⟨S128x8, .f32⟩
  | 85 => ⟨S128x8, .f32⟩
  | 86 => ⟨S128x8x1, .f32⟩
  | 87 => ⟨S128x8x64, .f32⟩
  | 88 => ⟨S128x8x64, .f32⟩
  | 89 => ⟨S128x8x128x1, .f32⟩
  | 90 => ⟨S128x8x128x64, .f32⟩
  | 91 => ⟨S128x8x128x64, .f32⟩
  | 92 => ⟨S_, .f32⟩
  | 93 => ⟨S128x8x64, .f32⟩
  | 94 => ⟨S128x8, .f32⟩
  | 95 => ⟨S128x8x1, .f32⟩
  | 96 => ⟨S128x8x64, .f32⟩
  | 97 => ⟨S128x8x64, .f32⟩
  | 98 => ⟨S128x8x64, .f32⟩
  | 99 => ⟨S128x8, .f32⟩
  | 100 => ⟨S128x8x1x1, .f32⟩
  | 101 => ⟨S128x8x128x64, .f32⟩
  | 102 => ⟨S128x8x128x64, .f32⟩
  | 103 => ⟨S128x8, .f32⟩
  | 104 => ⟨S128x8, .f32⟩
  | 105 => ⟨S128x8x1, .f32⟩
  | 106 => ⟨S128x8x128, .f32⟩
  | 107 => ⟨S128x8x128, .f32⟩
  | 108 => ⟨S128x8x128x1, .f32⟩
  | 109 => ⟨S128x8x1x64, .f32⟩
  | 110 => ⟨S128x8x128x64, .f32⟩
  | 111 => ⟨S128x8x128x64, .f32⟩
  | 112 => ⟨S128x8x128x64, .f32⟩
  | 113 => ⟨S128x8x128x64, .f32⟩
  | 114 => ⟨S128x1x8x64, .f32⟩
  | 115 => ⟨S8x1, .f32⟩
  | 116 => ⟨S1x1x8x1, .f32⟩
  | 117 => ⟨S128x1x8x64, .f32⟩
  | 118 => ⟨S128x1x8x64, .f32⟩
  | 119 => ⟨S128x1x8x64, .f32⟩
  | 120 => ⟨S128x1x512, .f32⟩
  | 121 => ⟨S128x1x512, .f32⟩
  | 122 => ⟨S128x1x512, .f32⟩
  | 123 => ⟨S_, .f32⟩
  | 124 => ⟨S128x1x512, .f32⟩
  | 125 => ⟨S128x1x512, .f32⟩
  | 126 => ⟨S_, .f32⟩
  | 127 => ⟨S128x1x512, .f32⟩
  | _ => ⟨S4x3x128x1024, .f32⟩

abbrev hbmTy0_1 (i : Nat) : BufTy := match i % 128 with
  | 0 => ⟨S128x1x512, .f32⟩
  | 1 => ⟨S128x1x512, .f32⟩
  | 2 => ⟨S128x1x512, .f32⟩
  | 3 => ⟨S128x1x2x256, .f32⟩
  | 4 => ⟨S128x1x2x256, .f32⟩
  | 5 => ⟨S_, .f32⟩
  | 6 => ⟨S128x1x2, .f32⟩
  | 7 => ⟨S128x1x2x1, .f32⟩
  | 8 => ⟨S_, .f32⟩
  | 9 => ⟨S128x1x2x1, .f32⟩
  | 10 => ⟨S128x1x2x1, .f32⟩
  | 11 => ⟨S_, .f32⟩
  | 12 => ⟨S128x1x2x1, .f32⟩
  | 13 => ⟨S128x1x2x1, .f32⟩
  | 14 => ⟨S128x1x2x1, .f32⟩
  | 15 => ⟨S128x1x2x256, .f32⟩
  | 16 => ⟨S128x1x2x256, .f32⟩
  | 17 => ⟨S128x1x512, .f32⟩
  | 18 => ⟨S1x1x512, .f32⟩
  | 19 => ⟨S128x1x512, .f32⟩
  | 20 => ⟨S128x1x512, .f32⟩
  | 21 => ⟨S128x512, .f32⟩
  | 22 => ⟨S128x512, .bf16⟩
  | 23 => ⟨S3x3x128x1024, .f32⟩
  | 24 => ⟨S3x128x1024, .f32⟩
  | 25 => ⟨S1x3x128x1024, .f32⟩
  | 26 => ⟨S4x3x128x1024, .f32⟩
  | 27 => ⟨S3x128x8x64x128, .f32⟩
  | 28 => ⟨S128x8x64x128, .f32⟩
  | 29 => ⟨S1x128x8x64x128, .f32⟩
  | 30 => ⟨S4x128x8x64x128, .f32⟩
  | _ => ⟨S4x3x128x1024, .f32⟩

abbrev hbmTy (i : Nat) : BufTy := match i / 128 with
  | 0 => hbmTy0_0 i
  | 1 => hbmTy0_1 i
  | _ => ⟨S4x3x128x1024, .f32⟩

abbrev bufTy : (tb : Table) → Fin (tcTables nBuf tb) → BufTy
  | .hbm, ⟨i, _⟩ => hbmTy i
  | _, _ => ⟨S4x3x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_1 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call2_v0 : Ref sig .tc := ⟨.hbm, 121, rfl⟩
abbrev main_call2_v1 : Ref sig .tc := ⟨.hbm, 122, rfl⟩
abbrev main_call2_cst : Ref sig .tc := ⟨.hbm, 123, rfl⟩
abbrev main_call2_v2 : Ref sig .tc := ⟨.hbm, 124, rfl⟩
abbrev main_call2_v3 : Ref sig .tc := ⟨.hbm, 125, rfl⟩
abbrev main_call2_cst_0 : Ref sig .tc := ⟨.hbm, 126, rfl⟩
abbrev main_call2_v4 : Ref sig .tc := ⟨.hbm, 127, rfl⟩
abbrev main_call2_v5 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_2 : Ref sig .tc := ⟨.hbm, 133, rfl⟩
abbrev main_v90 : Ref sig .tc := ⟨.hbm, 134, rfl⟩
abbrev main_v91 : Ref sig .tc := ⟨.hbm, 135, rfl⟩
abbrev main_cst_3 : Ref sig .tc := ⟨.hbm, 136, rfl⟩
abbrev main_v92 : Ref sig .tc := ⟨.hbm, 137, rfl⟩
abbrev main_v93 : Ref sig .tc := ⟨.hbm, 138, rfl⟩
abbrev main_cst_4 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩

abbrev nD : Nat := 1
abbrev τ : Topo := Topo.v7x

variable {F : FTy → Type} [FloatOps F]
-- ==== Proof.Rows.lean ====
module

public import Idealize.ShloMosaic.Lib.Pointwise

@[expose] public section

noncomputable section

/-! The mathematics of one token's row, over the extended reals: what the kernel's blocks and the reference both compute. -/

namespace Cert.Rows

open Idealize.ShloMosaic

/-- Row `r` of an array. -/
abbrev row {n p : ℕ} (X : (⟨2, ![n, p]⟩ : Shape).Idx → EReal) (r : Fin n) : Fin p → EReal := fun k => X (ix2 r k)
/-- An array as a matrix. -/
abbrev mat {n p : ℕ} (X : (⟨2, ![n, p]⟩ : Shape).Idx → EReal) : Fin n → Fin p → EReal := fun k j => X (ix2 k j)
/-- An array of one axis. -/
abbrev vec {n : ℕ} (X : (⟨1, ![n]⟩ : Shape).Idx → EReal) : Fin n → EReal := fun k => X (ix1 k)

/-- A row times a matrix. -/
def rowMul {n p : ℕ} (h : Fin n → EReal) (w : Fin n → Fin p → EReal) (j : Fin p) : EReal := ∑ k, h k * w k j

/-- Root mean square normalisation of a row of 1024, times the weights `w`. -/
def rms (v w : Fin 1024 → EReal) (j : Fin 1024) : EReal :=
  v j * Ideal.rsqrt (Ideal.div (∑ k, v k * v k) (Ideal.ofBits .f32 0x44800000#32) + Ideal.ofBits .f32 0x358637BD#32) * w j

/-- A query row's scaled scores against the keys. -/
def score (q : Fin 256 → EReal) (K : Fin 256 → Fin 256 → EReal) (m : Fin 256) : EReal :=
  (∑ d, q d * K m d) * Ideal.ofBits .f32 0x3D800000#32

/-- The largest score. -/
def top (s : Fin 256 → EReal) : EReal := Finset.univ.fold max (Ideal.ofBits .f32 0xFF800000#32) s

/-- The exponentials of the scores less the largest. -/
def weight (s : Fin 256 → EReal) (m : Fin 256) : EReal := Ideal.exp (s m - top s)

/-- Attention as the kernel has it: the weighted sum of the values, divided once by the sum of the weights. -/
def attend (e : Fin 256 → EReal) (V : Fin 256 → Fin 256 → EReal) (d : Fin 256) : EReal :=
  Ideal.div (∑ m, e m * V m d) (∑ m, e m)

/-- The gated unit of one hidden column. -/
def gated (g u : EReal) : EReal := g * Ideal.logistic g * u

/-- One head's part of a row: columns `256 b` up to `256 b + 255`. -/
def part (q : Fin 1024 → EReal) (b : Fin 4) (d : Fin 256) : EReal := q ⟨256 * b + d, by omega⟩

/-- The four heads' attention of a query row, side by side. -/
def heads (q : Fin 1024 → EReal) (K V : Fin 256 → Fin 1024 → EReal) (j : Fin 1024) : EReal :=
  attend (weight (score (part q ⟨j / 256, by omega⟩) fun m => part (K m) ⟨j / 256, by omega⟩)) (fun m => part (V m) ⟨j / 256, by omega⟩)
    ⟨j % 256, by omega⟩

/-- What 256 hidden columns add to a feed-forward row. -/
def chunk (h : Fin 1024 → EReal) (g u : Fin 1024 → Fin 256 → EReal) (w : Fin 256 → Fin 1024 → EReal) (j : Fin 1024) : EReal :=
  ∑ t, gated (rowMul h g t) (rowMul h u t) * w t j

/-- The whole feed-forward row: gates in the first half of the up projection's columns, values in the second. -/
def ffn (h : Fin 1024 → EReal) (up : Fin 1024 → Fin 5632 → EReal) (down : Fin 2816 → Fin 1024 → EReal) (j : Fin 1024) : EReal :=
  ∑ t : Fin 2816, gated (rowMul h up ⟨t, by omega⟩) (rowMul h up ⟨2816 + t, by omega⟩) * down t j

/-- The feed-forward row, 256 hidden columns at a time. -/
theorem ffn_eq_chunks (h : Fin 1024 → EReal) (up : Fin 1024 → Fin 5632 → EReal) (down : Fin 2816 → Fin 1024 → EReal) (j : Fin 1024) :
    ffn h up down j = ∑ c : Fin 11, chunk h (fun k t => up k ⟨256 * c + t, by omega⟩) (fun k t => up k ⟨2816 + 256 * c + t, by omega⟩)
      (fun t => down ⟨256 * c + t, by omega⟩) j := by
  unfold ffn chunk
  rw [Fin.sum_univ_tiles 11 256 rfl]
  refine Finset.sum_congr rfl fun c _ => Finset.sum_congr rfl fun t _ => ?_
  simp only [rowMul, Nat.mul_comm c.val 256, Nat.add_assoc]

/-- One row of the layer from the mixer's output on: the output projection, cross-attention and the feed-forward, each added to what came before. -/
def postRow (x y : Fin 1024 → EReal) (wy : Fin 1024 → Fin 1024 → EReal) (n : Fin 1024 → EReal) (wq : Fin 1024 → Fin 1024 → EReal)
    (K V : Fin 256 → Fin 1024 → EReal) (wo : Fin 1024 → Fin 1024 → EReal) (n' : Fin 1024 → EReal) (up : Fin 1024 → Fin 5632 → EReal)
    (down : Fin 2816 → Fin 1024 → EReal) (j : Fin 1024) : EReal :=
  let x1 := fun j => x j + rowMul y wy j
  let x2 := fun j => x1 j + rowMul (heads (rowMul (rms x1 n) wq) K V) wo j
  x2 j + Ideal.ofBits .f32 0x3F000000#32 * ffn (rms x2 n') up down j

end Cert.Rows

end
-- ==== Proof.Stages.lean ====
module

public import proofs.«01_k».proof.Proof.Gen.KernelIdeal.Skeleton
public import proofs.«01_k».proof.Proof.Rows

@[expose] public section

set_option maxRecDepth 16384

noncomputable section

/-! What each of the kernel's vector stages holds at one row and column. -/

namespace Cert.KernelIdeal.Stages

open Cert.KernelIdeal Cert.KernelIdeal.Gen Idealize.ShloMosaic Cert.Rows

theorem pay2_at (v0 : FVec Ideal S512x1024 .f32) (v1 : FVec Ideal S512x1024 .bf16) (v2 : FVec Ideal S1024x1024 .bf16) (r : Fin 512) (j : Fin 1024) :
    k0_pay2 (F := Ideal) v0 v1 v2 (ix2 r j) = v0 (ix2 r j) + rowMul (row v1 r) (mat v2) j := by
  pointwise! [k0_pay2, rowMul]

theorem pay3_at (v0 : FVec Ideal S512x1024 .f32) (v1 : FVec Ideal S512x1024 .bf16) (v2 : FVec Ideal S1024x1024 .bf16) (v6 : FVec Ideal S1x1024 .f32)
    (v21 : FVec Ideal S1024x1024 .bf16) (r : Fin 512) (j : Fin 1024) :
    k0_pay3 (F := Ideal) v0 v1 v2 v6 v21 (ix2 r j) = rowMul (rms (row (k0_pay2 (F := Ideal) v0 v1 v2) r) (row v6 0)) (mat v21) j := by
  pointwise! [k0_pay3, rowMul, rms]

theorem pay4_at (v0 : FVec Ideal S512x1024 .f32) (v1 : FVec Ideal S512x1024 .bf16) (v2 : FVec Ideal S1024x1024 .bf16) (v6 : FVec Ideal S1x1024 .f32)
    (v21 : FVec Ideal S1024x1024 .bf16) (K : FVec Ideal S256x256 .bf16) (r : Fin 512) (j : Fin 256) :
    k0_pay4 (F := Ideal) v0 v1 v2 v6 v21 K (ix2 r j)
      = weight (score (fun d => k0_pay3 (F := Ideal) v0 v1 v2 v6 v21 (ix2 r ⟨d, by omega⟩)) (mat K)) j := by
  pointwise! [k0_pay4, score, weight, top]

theorem pay5_at (V : FVec Ideal S256x256 .bf16) (e : FVec Ideal S512x256 .f32) (r : Fin 512) (j : Fin 256) :
    k0_pay5 (F := Ideal) V e (ix2 r j) = attend (row e r) (mat V) j := by
  pointwise! [k0_pay5, attend]

theorem pay45_at (v0 : FVec Ideal S512x1024 .f32) (v1 : FVec Ideal S512x1024 .bf16) (v2 : FVec Ideal S1024x1024 .bf16) (v6 : FVec Ideal S1x1024 .f32)
    (v21 : FVec Ideal S1024x1024 .bf16) (K V : FVec Ideal S256x256 .bf16) (r : Fin 512) (j : Fin 256) :
    k0_pay5 (F := Ideal) V (k0_pay4 (F := Ideal) v0 v1 v2 v6 v21 K) (ix2 r j)
      = attend (weight (score (fun d => k0_pay3 (F := Ideal) v0 v1 v2 v6 v21 (ix2 r ⟨d, by omega⟩)) (mat K))) (mat V) j := by
  rw [pay5_at]
  congr 1
  exact funext fun d => pay4_at _ _ _ _ _ _ r d

theorem pay6_at (q : FVec Ideal S512x1024 .f32) (K V : FVec Ideal S256x256 .bf16) (r : Fin 512) (j : Fin 256) :
    k0_pay6 (F := Ideal) q K V (ix2 r j) = attend (weight (score (fun d => q (ix2 r ⟨256 + d, by omega⟩)) (mat K))) (mat V) j := by
  pointwise! [k0_pay6, attend, score, weight, top]

theorem pay78_at (q : FVec Ideal S512x1024 .f32) (K V : FVec Ideal S256x256 .bf16) (r : Fin 512) (j : Fin 256) :
    k0_pay8 (F := Ideal) (k0_pay7 (F := Ideal) q K) V (Scalar.ofBits .f32 0x3D800000#32) (ix2 r j)
      = attend (weight (score (fun d => q (ix2 r ⟨512 + d, by omega⟩)) (mat K))) (mat V) j := by
  pointwise! [k0_pay7, k0_pay8, attend, score, weight, top]

theorem pay9_at (q : FVec Ideal S512x1024 .f32) (K V : FVec Ideal S256x256 .bf16) (r : Fin 512) (j : Fin 256) :
    k0_pay9 (F := Ideal) q K V (ix2 r j) = attend (weight (score (fun d => q (ix2 r ⟨768 + d, by omega⟩)) (mat K))) (mat V) j := by
  pointwise! [k0_pay9, attend, score, weight, top]

theorem pay10_at (x : FVec Ideal S512x1024 .f32) (o : FVec Ideal S512x1024 .bf16) (w : FVec Ideal S1024x1024 .bf16) (r : Fin 512) (j : Fin 1024) :
    k0_pay10 (F := Ideal) x o w (ix2 r j) = x (ix2 r j) + rowMul (row o r) (mat w) j := by
  pointwise! [k0_pay10, rowMul]

theorem pay11_at (x : FVec Ideal S512x1024 .f32) (w : FVec Ideal S1x1024 .f32) (r : Fin 512) (j : Fin 1024) :
    k0_pay11 (F := Ideal) x w (ix2 r j) = rms (row x r) (row w 0) j := by
  pointwise! [k0_pay11, rms]

/-- An accumulator after 256 more hidden columns. -/
def add (h : FVec Ideal S512x1024 .bf16) (g u : FVec Ideal S1024x256 .bf16) (w : FVec Ideal S256x1024 .bf16) (a : FVec Ideal S512x1024 .f32) :
    FVec Ideal S512x1024 .f32 := fun i => a i + chunk (row h (i 0)) (mat g) (mat u) (mat w) (i 1)

section
variable (h : FVec Ideal S512x1024 .bf16) (g u : FVec Ideal S1024x256 .bf16) (w : FVec Ideal S256x1024 .bf16) (a : FVec Ideal S512x1024 .f32)

theorem first (x : FVec Ideal S512x1024 .f32) (n : FVec Ideal S1x1024 .f32) :
    k0_pay13 (F := Ideal) (k0_pay12 (F := Ideal) x n g u w) = fun i => chunk (row (k0_pay11 (F := Ideal) x n) (i 0)) (mat g) (mat u) (mat w) (i 1) := by
  funext i; idx_vars i; pointwise! [k0_pay13, k0_pay12, chunk, gated, rowMul]
theorem add14 : k0_pay14 (F := Ideal) h g u w a = add h g u w a := by
  funext i; idx_vars i; pointwise! [k0_pay14, add, chunk, gated, rowMul]
theorem add15 : k0_pay16 (F := Ideal) (k0_pay15 (F := Ideal) h g u w) a = add h g u w a := by
  funext i; idx_vars i; pointwise! [k0_pay16, k0_pay15, add, chunk, gated, rowMul]
theorem add17 : k0_pay17 (F := Ideal) h g u w a = add h g u w a := by
  funext i; idx_vars i; pointwise! [k0_pay17, add, chunk, gated, rowMul]
theorem add18 : k0_pay20 (F := Ideal) (k0_pay18 (F := Ideal) h g u) (k0_pay19 (F := Ideal) w) (constant S512x1024 .f32 0x00000000#32) a = add h g u w a := by
  funext i; idx_vars i; pointwise! [k0_pay20, k0_pay19, k0_pay18, add, chunk, gated, rowMul]
theorem add21 : k0_pay21 (F := Ideal) h g u w a = add h g u w a := by
  funext i; idx_vars i; pointwise! [k0_pay21, add, chunk, gated, rowMul]
theorem add22 : k0_pay23 (F := Ideal) (k0_pay22 (F := Ideal) h g u) w a = add h g u w a := by
  funext i; idx_vars i; pointwise! [k0_pay23, k0_pay22, add, chunk, gated, rowMul]
theorem add24 : k0_pay24 (F := Ideal) h g u w a = add h g u w a := by
  funext i; idx_vars i; pointwise! [k0_pay24, add, chunk, gated, rowMul]
theorem add25 : k0_pay28 (F := Ideal) (k0_pay25 (F := Ideal) h g) (k0_pay26 (F := Ideal) h u) (k0_pay27 (F := Ideal) h g) w a = add h g u w a := by
  funext i; idx_vars i; pointwise! [k0_pay28, k0_pay27, k0_pay26, k0_pay25, add, chunk, gated, rowMul]
theorem add29 : k0_pay29 (F := Ideal) h g u w a = add h g u w a := by
  funext i; idx_vars i; pointwise! [k0_pay29, add, chunk, gated, rowMul]
theorem add30 : k0_pay31 (F := Ideal) h (k0_pay30 (F := Ideal) h g) u w a = add h g u w a := by
  funext i; idx_vars i; pointwise! [k0_pay31, k0_pay30, add, chunk, gated, rowMul]
end

theorem pay32_at (x a : FVec Ideal S512x1024 .f32) (r : Fin 512) (j : Fin 1024) :
    k0_pay32 (F := Ideal) x a (ix2 r j) = x (ix2 r j) + Ideal.ofBits .f32 0x3F000000#32 * a (ix2 r j) := by
  pointwise! [k0_pay32]

theorem last_at (x : FVec Ideal S512x1024 .f32) (w : FVec Ideal S1x1024 .f32) (r : Fin 512) (j : Fin 1024) :
    k0_pay1 (F := Ideal) (k0_pay33 (F := Ideal) x) (k0_pay34 (F := Ideal) w) (ix2 r j) = rms (row x r) (row w 0) j := by
  pointwise! [k0_pay1, k0_pay33, k0_pay34, rms]

end Cert.KernelIdeal.Stages

end
-- ==== Proof.Block.lean ====
module

public import proofs.«01_k».proof.Proof.Gen.KernelIdeal.Value
public import proofs.«01_k».proof.Proof.Stages
public import Idealize.ShloMosaic.Lib.Pipeline.ValueKit
public import Idealize.ShloMosaic.Lib.Pipeline.ReadBack

@[expose] public section

set_option maxRecDepth 16384

noncomputable section

/-! What one grid point of the kernel writes, row by row. -/

namespace Cert.KernelIdeal.Stages

open Cert.KernelIdeal Cert.KernelIdeal.Gen Idealize.ShloMosaic Idealize.ShloMosaic.TcCoe Idealize.SL.Sem Cert.Rows

/-- The four heads of a block of query rows. -/
def attention (q : FVec Ideal S512x1024 .f32) (K V : FVec Ideal S256x1024 .bf16) : FVec Ideal S512x1024 .bf16 :=
  fun i => heads (row q (i 0)) (mat K) (mat V) (i 1)

theorem heads_at (q : Fin 1024 → EReal) (K V : Fin 256 → Fin 1024 → EReal) (b : ℕ) (hb : b < 4) (j : Fin 1024) (d : Fin 256) (hj : (j : ℕ) = 256 * b + d) :
    heads q K V j = attend (weight (score (fun e => q ⟨256 * b + e, by omega⟩) fun m e => K m ⟨256 * b + e, by omega⟩))
      (fun m e => V m ⟨256 * b + e, by omega⟩) d := by
  obtain ⟨j, hj'⟩ := j
  obtain rfl : j = 256 * b + d := hj
  have h1 : (256 * b + (d : ℕ)) / 256 = b := by omega
  have h2 : (256 * b + (d : ℕ)) % 256 = d := by omega
  simp only [heads, h1, h2]
  rfl

/-- A load of some columns of a block. -/
theorem ld_cols {n p q o : ℕ} {e : EltTy} (X : (⟨2, ![n, p]⟩ : Shape).Idx → Elt Ideal e)
    (inb : ∀ a, (![0, o] : Fin 2 → ℕ) a + (![n, q] : Fin 2 → ℕ) a ≤ (⟨2, ![n, p]⟩ : Shape).size a) (r : Fin n) (j : Fin q) :
    View.ld X (Rect.unit (s := ⟨2, ![n, p]⟩) ![0, o] ![n, q] inb) (ix2 r j) = X (ix2 r ⟨o + j, by have := inb 1; simp at this; omega⟩) := by
  show X _ = X _
  congr 1
  idx_ext

/-- A load of some rows of a block. -/
theorem ld_rows {n p q o : ℕ} {e : EltTy} (X : (⟨2, ![n, p]⟩ : Shape).Idx → Elt Ideal e)
    (inb : ∀ a, (![o, 0] : Fin 2 → ℕ) a + (![q, p] : Fin 2 → ℕ) a ≤ (⟨2, ![n, p]⟩ : Shape).size a) (r : Fin q) (j : Fin p) :
    View.ld X (Rect.unit (s := ⟨2, ![n, p]⟩) ![o, 0] ![q, p] inb) (ix2 r j) = X (ix2 ⟨o + r, by have := inb 0; simp at this; omega⟩ j) := by
  show X _ = X _
  congr 1
  idx_ext

theorem mat_ld_cols {n p q o : ℕ} (X : FVec Ideal ⟨2, ![n, p]⟩ .bf16)
    (inb : ∀ a, (![0, o] : Fin 2 → ℕ) a + (![n, q] : Fin 2 → ℕ) a ≤ (⟨2, ![n, p]⟩ : Shape).size a) :
    mat (View.ld (Val := Elt Ideal) (e' := .bf16) X (Rect.unit (s := ⟨2, ![n, p]⟩) ![0, o] ![n, q] inb))
      = fun k j => mat X k ⟨o + (j : Fin q), by have := inb 1; simp at this; omega⟩ :=
  funext fun k => funext fun j => ld_cols (e := .bf16) X inb k j

theorem mat_ld_rows {n p q o : ℕ} (X : FVec Ideal ⟨2, ![n, p]⟩ .bf16)
    (inb : ∀ a, (![o, 0] : Fin 2 → ℕ) a + (![q, p] : Fin 2 → ℕ) a ≤ (⟨2, ![n, p]⟩ : Shape).size a) :
    mat (View.ld (Val := Elt Ideal) (e' := .bf16) X (Rect.unit (s := ⟨2, ![n, p]⟩) ![o, 0] ![q, p] inb))
      = fun k j => mat X ⟨o + (k : Fin q), by have := inb 0; simp at this; omega⟩ j :=
  funext fun k => funext fun j => ld_rows (e := .bf16) X inb k j

/-- One head's columns of the attention. -/
theorem head_of (b o : ℕ) (hb : b < 4) (ho : o = 256 * b) (f : S512x256.Idx → EReal) (q : FVec Ideal S512x1024 .f32) (K V : FVec Ideal S256x1024 .bf16)
    (K' V' : FVec Ideal S256x256 .bf16)
    (hf : ∀ r j, f (ix2 r j) = attend (weight (score (fun d => q (ix2 r ⟨o + d, by omega⟩)) (mat K'))) (mat V') j)
    (hK : mat K' = fun m (e : Fin 256) => mat K m ⟨o + e, by omega⟩) (hV : mat V' = fun m (e : Fin 256) => mat V m ⟨o + e, by omega⟩)
    (y : S512x1024.Idx) (x : S512x256.Idx) (h0 : (y 0 : ℕ) = x 0) (h1 : (y 1 : ℕ) = 256 * b + x 1) : f x = attention q K V y := by
  subst ho
  have e0 : (y 0 : Fin 512) = x 0 := Fin.ext h0
  refine Eq.trans ?_ (show heads (row q (y 0)) (mat K) (mat V) (y 1) = _ from rfl)
  rw [e0, heads_at _ _ _ b hb (y 1) (x 1) h1]
  refine (congrArg _ (eq_ix2 x)).trans ((hf (x 0) (x 1)).trans ?_)
  rw [hK, hV]

theorem pay45_zero (v0 : FVec Ideal S512x1024 .f32) (v1 : FVec Ideal S512x1024 .bf16) (v2 : FVec Ideal S1024x1024 .bf16) (v6 : FVec Ideal S1x1024 .f32)
    (v21 : FVec Ideal S1024x1024 .bf16) (K V : FVec Ideal S256x256 .bf16) (r : Fin 512) (j : Fin 256) :
    k0_pay5 (F := Ideal) V (k0_pay4 (F := Ideal) v0 v1 v2 v6 v21 K) (ix2 r j)
      = attend (weight (score (fun d => k0_pay3 (F := Ideal) v0 v1 v2 v6 v21 (ix2 r ⟨0 + d, by omega⟩)) (mat K))) (mat V) j := by
  refine (pay45_at _ _ _ _ _ _ _ r j).trans ?_
  simp only [Nat.zero_add]

/-- The residual stream after the output projection and the attention. -/
theorem attended_row (X0 : FVec Ideal S512x1024 .f32) (X1 : FVec Ideal S512x1024 .bf16) (X2 : FVec Ideal S1024x1024 .bf16) (X3 : FVec Ideal S1x1024 .f32)
    (X4 : FVec Ideal S1024x1024 .bf16) (X5 X6 : FVec Ideal S256x1024 .bf16) (X7 : FVec Ideal S1024x1024 .bf16) (r : Fin 512) :
    row (k0_pay10 (F := Ideal) (k0_pay2 X0 X1 X2) (attention (k0_pay3 X0 X1 X2 X3 X4) X5 X6) X7) r = fun k =>
      (row X0 r k + rowMul (row X1 r) (mat X2) k) + rowMul (heads (rowMul (rms (fun k => row X0 r k + rowMul (row X1 r) (mat X2) k) (row X3 0)) (mat X4))
        (mat X5) (mat X6)) (mat X7) k := by
  have hA : row (attention (k0_pay3 (F := Ideal) X0 X1 X2 X3 X4) X5 X6) r = heads (row (k0_pay3 (F := Ideal) X0 X1 X2 X3 X4) r) (mat X5) (mat X6) := rfl
  have hq : row (k0_pay3 (F := Ideal) X0 X1 X2 X3 X4) r = rowMul (rms (row (k0_pay2 (F := Ideal) X0 X1 X2) r) (row X3 0)) (mat X4) :=
    funext fun k => pay3_at _ _ _ _ _ r k
  have h1 : row (k0_pay2 (F := Ideal) X0 X1 X2) r = fun k => row X0 r k + rowMul (row X1 r) (mat X2) k := funext fun k => pay2_at _ _ _ r k
  have h2 : row (k0_pay10 (F := Ideal) (k0_pay2 X0 X1 X2) (attention (k0_pay3 X0 X1 X2 X3 X4) X5 X6) X7) r
      = fun k => row (k0_pay2 (F := Ideal) X0 X1 X2) r k + rowMul (row (attention (k0_pay3 (F := Ideal) X0 X1 X2 X3 X4) X5 X6) r) (mat X7) k :=
    funext fun k => pay10_at _ _ _ r k
  rw [h2, hA, hq, h1]

variable (m : (ℓ : Loc nD τ sig) → Buf (Elt Ideal) ℓ)

set_option maxHeartbeats 1600000 in
/-- What point `t` writes, at row `r` of its block. -/
theorem block (c : Dev nD) (t : Fin cfg0.N) (r : Fin 512) (j : Fin 1024) :
    outsAt0 m c t (ix2 r j) = rms (postRow (row (iblk m c 0 t) r) (row (iblk m c 1 t) r) (mat (iblk m c 2 t)) (row (iblk m c 3 t) 0) (mat (iblk m c 4 t))
      (mat (iblk m c 5 t)) (mat (iblk m c 6 t)) (mat (iblk m c 7 t)) (row (iblk m c 8 t) 0) (mat (iblk m c 9 t)) (mat (iblk m c 10 t)))
      (row (iblk m c 11 t) 0) j := by
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize iblk m c 11 t = X11
  generalize hO : View.readCov (Val := Elt Ideal) (View.whole cc0_scratch1) _ _ = O
  have hA : O = attention (k0_pay3 (F := Ideal) X0 X1 X2 X3 X4) X5 X6 := by
    rw [← hO, View.readCov_eq_canon']
    funext y
    canon_tiles x h
    · exact head_of 3 768 (by omega) rfl _ _ X5 X6 _ _ (pay9_at _ _ _) (mat_ld_cols _ _) (mat_ld_cols _ _) y x (by simpa using h0) (by simpa using h1)
    · exact head_of 2 512 (by omega) rfl _ _ X5 X6 _ _ (pay78_at _ _ _) (mat_ld_cols _ _) (mat_ld_cols _ _) y x (by simpa using h0) (by simpa using h1)
    · exact head_of 1 256 (by omega) rfl _ _ X5 X6 _ _ (pay6_at _ _ _) (mat_ld_cols _ _) (mat_ld_cols _ _) y x (by simpa using h0) (by simpa using h1)
    · exact head_of 0 0 (by omega) rfl _ _ X5 X6 _ _ (pay45_zero _ _ _ _ _ _ _) (mat_ld_cols _ _) (mat_ld_cols _ _) y x (by simpa using h0) (by simpa using h1)
  clear hO
  subst hA
  rw [last_at]
  congr 1
  funext i
  refine (pay32_at _ _ r i).trans ?_
  have h2 := attended_row X0 X1 X2 X3 X4 X5 X6 X7 r
  have h3 : row (k0_pay11 (F := Ideal) (k0_pay10 (k0_pay2 X0 X1 X2) (attention (k0_pay3 X0 X1 X2 X3 X4) X5 X6) X7) X8) r = _ := funext fun k => pay11_at _ _ r k
  rw [h2] at h3
  rw [add30, add29, add25, add24, add22, add21, add18, add17, add15, add14, first]
  simp only [postRow]
  refine congrArg₂ (· + ·) (congrFun h2 i) (congrArg _ ?_)
  rw [ffn_eq_chunks, ← h3]
  simp only [Fin.sum_univ_castSucc, Fin.sum_univ_zero, add, mat_ld_cols, mat_ld_rows, zero_add]
  rfl

end Cert.KernelIdeal.Stages

end
-- ==== Proof.Soft.lean ====
module

public import proofs.«01_k».proof.Proof.Rows
public import Idealize.ShloMosaic.PureOps.Ideal.Laws

@[expose] public section

noncomputable section

/-! Finite scores: where they are, attention divided once and attention divided weight by weight agree. -/

namespace Cert.Rows

open Idealize.ShloMosaic

/-- Neither infinity. -/
def Fin' (x : EReal) : Prop := ∃ r : ℝ, x = r

theorem bits_1024 : Ideal.ofBits .f32 0x44800000#32 = ((1024 : ℝ) : EReal) := by
  simp [Ideal.ofBits, Ideal.ieee, -EReal.coe_mul]; norm_num

theorem bits_scale : Fin' (Ideal.ofBits .f32 0x3D800000#32) := by
  refine ⟨1 / 16, ?_⟩
  simp [Ideal.ofBits, Ideal.ieee, -EReal.coe_mul]; norm_num

theorem bits_eps : ∃ e : ℝ, 0 < e ∧ Ideal.ofBits .f32 0x358637BD#32 = e := by
  refine ⟨8796093 * 2 ^ (-43 : ℤ), by positivity, ?_⟩
  simp [Ideal.ofBits, Ideal.ieee, -EReal.coe_mul]

theorem bits_bot : Ideal.ofBits .f32 0xFF800000#32 = ⊥ := by
  simp [Ideal.ofBits, Ideal.ieee]

theorem bits_top : Ideal.ofBits .f32 0x7F800000#32 = ⊤ := by
  simp [Ideal.ofBits, Ideal.ieee]

theorem Fin'.mul {x y : EReal} : Fin' x → Fin' y → Fin' (x * y) := fun ⟨a, ha⟩ ⟨b, hb⟩ => ⟨a * b, by rw [ha, hb, EReal.coe_mul]⟩

theorem coe_sum {n : ℕ} (f : Fin n → ℝ) : ∑ k, ((f k : ℝ) : EReal) = ((∑ k, f k : ℝ) : EReal) :=
  (map_sum (⟨⟨Real.toEReal, rfl⟩, EReal.coe_add⟩ : ℝ →+ EReal) f Finset.univ).symm

theorem Fin'.sum {n : ℕ} {f : Fin n → EReal} (h : ∀ k, Fin' (f k)) : Fin' (∑ k, f k) := by
  choose g hg using h
  exact ⟨∑ k, g k, by rw [← coe_sum]; exact Finset.sum_congr rfl fun k _ => hg k⟩

/-- A normalised row is finite whatever the row, if its weights are. -/
theorem rms_fin (v w : Fin 1024 → EReal) (hw : ∀ j, Fin' (w j)) (j : Fin 1024) : Fin' (rms v w j) := by
  obtain ⟨e, he, hE⟩ := bits_eps
  unfold rms
  rw [bits_1024, hE, Ideal.div_coe (by norm_num : (1024 : ℝ) ≠ 0)]
  by_cases hv : ∀ k, Fin' (v k)
  · choose g hg using hv
    have hs : ∑ k, v k * v k = ((∑ k, g k * g k : ℝ) : EReal) := by
      rw [← coe_sum]
      exact Finset.sum_congr rfl fun k _ => by rw [hg k, EReal.coe_mul]
    rw [hs, ← EReal.coe_mul, ← EReal.coe_add]
    have h0 : 0 < (∑ k, g k * g k) * (1 / 1024 : ℝ) + e :=
      add_pos_of_nonneg_of_pos (mul_nonneg (Finset.sum_nonneg fun k _ => mul_self_nonneg _) (by norm_num)) he
    refine Fin'.mul (Fin'.mul ⟨g j, hg j⟩ ?_) (hw j)
    generalize (∑ k, g k * g k) * (1 / 1024 : ℝ) + e = S at h0 ⊢
    refine ⟨(√S)⁻¹, ?_⟩
    show (if S < 0 then (⊥ : EReal) else if S = 0 then ⊤ else (((√S)⁻¹ : ℝ) : EReal)) = _
    rw [if_neg (not_lt.2 h0.le), if_neg h0.ne']
  · obtain ⟨k, hk⟩ := not_forall.1 hv
    have hk' : v k * v k = ⊤ := by
      induction hx : v k using EReal.rec with
      | bot => rfl
      | coe r => exact absurd ⟨r, hx⟩ hk
      | top => rfl
    have hnn : ∀ i, 0 ≤ v i * v i := fun i => by
      induction v i using EReal.rec with
      | bot => exact le_top
      | coe r => rw [← EReal.coe_mul]; exact EReal.coe_nonneg.2 (mul_self_nonneg r)
      | top => exact le_top
    have hs : ∑ k, v k * v k = ⊤ :=
      top_le_iff.1 (hk' ▸ Finset.single_le_sum (f := fun i => v i * v i) (fun i _ => hnn i) (Finset.mem_univ k))
    rw [hs, EReal.top_mul_coe_of_pos (by norm_num), EReal.top_add_coe]
    have h0 : Ideal.rsqrt (⊤ : EReal) = 0 := rfl
    rw [h0, mul_zero, zero_mul]
    exact ⟨0, rfl⟩

theorem rowMul_fin {n p : ℕ} (h : Fin n → EReal) (w : Fin n → Fin p → EReal) (hh : ∀ k, Fin' (h k)) (hw : ∀ k j, Fin' (w k j)) (j : Fin p) :
    Fin' (rowMul h w j) := Fin'.sum fun k => (hh k).mul (hw k j)

theorem score_fin (q : Fin 256 → EReal) (K : Fin 256 → Fin 256 → EReal) (hq : ∀ d, Fin' (q d)) (hK : ∀ m d, Fin' (K m d)) (m : Fin 256) :
    Fin' (score q K m) := (Fin'.sum fun d => (hq d).mul (hK m d)).mul bits_scale

/-- A product with a finite number that is not negative distributes over a sum. -/
theorem sum_mul_fin {n : ℕ} (f : Fin n → EReal) (c : ℝ) (hc : 0 ≤ c) : (∑ k, f k) * (c : EReal) = ∑ k, f k * (c : EReal) := by
  induction n with
  | zero => simp
  | succ n ih =>
    rw [Fin.sum_univ_succ, Fin.sum_univ_succ, ← ih, mul_comm, EReal.left_distrib_of_nonneg_of_ne_top (EReal.coe_nonneg.2 hc) (EReal.coe_ne_top c)]
    rw [mul_comm, mul_comm (∑ k : Fin n, f k.succ)]

/-- Attention as the reference has it: each weight divided by the sum of the weights. -/
def attend' (e : Fin 256 → EReal) (V : Fin 256 → Fin 256 → EReal) (d : Fin 256) : EReal :=
  ∑ m, V m d * Ideal.div (e m) (∑ m, e m)

theorem attend_eq (s : Fin 256 → EReal) (hs : ∀ m, Fin' (s m)) (V : Fin 256 → Fin 256 → EReal) (d : Fin 256) :
    attend (weight s) V d = attend' (weight s) V d := by
  have ht : top s = Finset.univ.sup s := by
    unfold top
    rw [bits_bot]
    rfl
  obtain ⟨m0, _, h0⟩ := Finset.exists_mem_eq_sup (Finset.univ : Finset (Fin 256)) ⟨0, Finset.mem_univ 0⟩ s
  rw [← ht] at h0
  choose g hg using hs
  have hw : ∀ m, weight s m = ((Real.exp (g m - g m0) : ℝ) : EReal) := fun m => by
    unfold weight
    rw [h0, hg m, hg m0, ← EReal.coe_sub]
    rfl
  have hsum : ∑ m, weight s m = ((∑ m, Real.exp (g m - g m0) : ℝ) : EReal) := by
    rw [← coe_sum]
    exact Finset.sum_congr rfl fun m _ => hw m
  have hpos : 0 < ∑ m, Real.exp (g m - g m0) := Finset.sum_pos (fun m _ => Real.exp_pos _) ⟨0, Finset.mem_univ 0⟩
  unfold attend attend'
  rw [hsum, Ideal.div_coe hpos.ne', sum_mul_fin _ _ (one_div_nonneg.2 hpos.le)]
  refine Finset.sum_congr rfl fun m _ => ?_
  rw [Ideal.div_coe hpos.ne', mul_comm (weight s m) (V m d), mul_assoc]

/-- The four heads' attention, each weight divided by the sum of the weights. -/
def heads' (q : Fin 1024 → EReal) (K V : Fin 256 → Fin 1024 → EReal) (j : Fin 1024) : EReal :=
  attend' (weight (score (part q ⟨j / 256, by omega⟩) fun m => part (K m) ⟨j / 256, by omega⟩)) (fun m => part (V m) ⟨j / 256, by omega⟩)
    ⟨j % 256, by omega⟩

theorem heads_eq (q : Fin 1024 → EReal) (K V : Fin 256 → Fin 1024 → EReal) (hq : ∀ j, Fin' (q j)) (hK : ∀ m j, Fin' (K m j)) :
    heads q K V = heads' q K V :=
  funext fun _ => attend_eq _ (score_fin _ _ (fun _ => hq _) fun _ _ => hK _ _) _ _

/-- One row of the layer as the reference has it. -/
def postRow' (x y : Fin 1024 → EReal) (wy : Fin 1024 → Fin 1024 → EReal) (n : Fin 1024 → EReal) (wq : Fin 1024 → Fin 1024 → EReal)
    (K V : Fin 256 → Fin 1024 → EReal) (wo : Fin 1024 → Fin 1024 → EReal) (n' : Fin 1024 → EReal) (up : Fin 1024 → Fin 5632 → EReal)
    (down : Fin 2816 → Fin 1024 → EReal) (j : Fin 1024) : EReal :=
  let x1 := fun j => x j + rowMul y wy j
  let x2 := fun j => x1 j + rowMul (heads' (rowMul (rms x1 n) wq) K V) wo j
  x2 j + Ideal.ofBits .f32 0x3F000000#32 * ffn (rms x2 n') up down j

theorem postRow_eq (x y : Fin 1024 → EReal) (wy : Fin 1024 → Fin 1024 → EReal) (n : Fin 1024 → EReal) (wq : Fin 1024 → Fin 1024 → EReal)
    (K V : Fin 256 → Fin 1024 → EReal) (wo : Fin 1024 → Fin 1024 → EReal) (n' : Fin 1024 → EReal) (up : Fin 1024 → Fin 5632 → EReal)
    (down : Fin 2816 → Fin 1024 → EReal) (hn : ∀ j, Fin' (n j)) (hq : ∀ k j, Fin' (wq k j)) (hK : ∀ m j, Fin' (K m j)) :
    postRow x y wy n wq K V wo n' up down = postRow' x y wy n wq K V wo n' up down := by
  unfold postRow postRow'
  simp only [heads_eq _ K V (rowMul_fin _ wq (rms_fin _ n hn) hq) hK]

end Cert.Rows

end
-- ==== Proof.Spec.lean ====
module

public import proofs.«01_k».proof.Proof.Soft

@[expose] public section

noncomputable section

/-! The whole array of a result, from the call's arguments. -/

namespace Cert.Rows

open Idealize.ShloMosaic

/-- The memory keys of the sequence that token `i` belongs to. -/
def keys (A : (⟨2, ![2048, 2048]⟩ : Shape).Idx → EReal) (i : Fin 16384) (m : Fin 256) (j : Fin 1024) : EReal :=
  A (ix2 ⟨256 * (i / 2048) + m, by omega⟩ ⟨j, by omega⟩)
/-- The memory values of the sequence that token `i` belongs to. -/
def values (A : (⟨2, ![2048, 2048]⟩ : Shape).Idx → EReal) (i : Fin 16384) (m : Fin 256) (j : Fin 1024) : EReal :=
  A (ix2 ⟨256 * (i / 2048) + m, by omega⟩ ⟨1024 + j, by omega⟩)

section
variable (A0 A1 : (⟨2, ![16384, 1024]⟩ : Shape).Idx → EReal) (A2 : (⟨2, ![2048, 2048]⟩ : Shape).Idx → EReal)
  (A3 : (⟨2, ![1024, 1024]⟩ : Shape).Idx → EReal) (A4 : (⟨1, ![1024]⟩ : Shape).Idx → EReal)
  (A5 A6 : (⟨2, ![1024, 1024]⟩ : Shape).Idx → EReal) (A7 : (⟨1, ![1024]⟩ : Shape).Idx → EReal)
  (A8 : (⟨2, ![1024, 5632]⟩ : Shape).Idx → EReal) (A9 : (⟨2, ![2816, 1024]⟩ : Shape).Idx → EReal)
  (A10 : (⟨1, ![1024]⟩ : Shape).Idx → EReal)

/-- The last layer from the mixer's output on, as the kernel divides. -/
def layer : (⟨2, ![16384, 1024]⟩ : Shape).Idx → EReal := fun i =>
  rms (postRow (row A0 (i 0)) (row A1 (i 0)) (mat A3) (vec A4) (mat A5) (keys A2 (i 0)) (values A2 (i 0)) (mat A6) (vec A7) (mat A8) (mat A9))
    (vec A10) (i 1)

/-- The last layer from the mixer's output on, as the reference divides. -/
def layer' : (⟨2, ![16384, 1024]⟩ : Shape).Idx → EReal := fun i =>
  rms (postRow' (row A0 (i 0)) (row A1 (i 0)) (mat A3) (vec A4) (mat A5) (keys A2 (i 0)) (values A2 (i 0)) (mat A6) (vec A7) (mat A8) (mat A9))
    (vec A10) (i 1)

theorem layer_eq (hn : ∀ j, Fin' (vec A4 j)) (hq : ∀ k j, Fin' (mat A5 k j)) (hK : ∀ i m j, Fin' (keys A2 i m j)) :
    layer A0 A1 A2 A3 A4 A5 A6 A7 A8 A9 A10 = layer' A0 A1 A2 A3 A4 A5 A6 A7 A8 A9 A10 := by
  funext i
  unfold layer layer'
  rw [postRow_eq _ _ _ _ _ _ _ _ _ _ _ hn hq (hK (i 0))]

/-- An earlier layer from the mixer's output on, as the kernel divides: no normalisation follows. -/
def inner : (⟨2, ![16384, 1024]⟩ : Shape).Idx → EReal := fun i =>
  postRow (row A0 (i 0)) (row A1 (i 0)) (mat A3) (vec A4) (mat A5) (keys A2 (i 0)) (values A2 (i 0)) (mat A6) (vec A7) (mat A8) (mat A9) (i 1)

/-- An earlier layer from the mixer's output on, as the reference divides. -/
def inner' : (⟨2, ![16384, 1024]⟩ : Shape).Idx → EReal := fun i =>
  postRow' (row A0 (i 0)) (row A1 (i 0)) (mat A3) (vec A4) (mat A5) (keys A2 (i 0)) (values A2 (i 0)) (mat A6) (vec A7) (mat A8) (mat A9) (i 1)

theorem inner_eq (hn : ∀ j, Fin' (vec A4 j)) (hq : ∀ k j, Fin' (mat A5 k j)) (hK : ∀ i m j, Fin' (keys A2 i m j)) :
    inner A0 A1 A2 A3 A4 A5 A6 A7 A8 A9 = inner' A0 A1 A2 A3 A4 A5 A6 A7 A8 A9 :=
  funext fun i => congrFun (postRow_eq _ _ _ _ _ _ _ _ _ _ _ hn hq (hK (i 0))) (i 1)
end

end Cert.Rows

end
-- ==== Proof.Final.lean ====
module

public import proofs.«01_k».proof.Proof.Block
public import proofs.«01_k».proof.Proof.Spec

@[expose] public section

set_option maxRecDepth 16384

noncomputable section

/-! The kernel's result array. -/

namespace Cert.KernelIdeal.Stages

open Cert.KernelIdeal Cert.KernelIdeal.Gen Idealize.ShloMosaic Idealize.ShloMosaic.TcCoe Idealize.SL.Sem Cert.Rows

/-- Which block of its array each grid point reads and writes. -/
theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![t.val / 4, 0] ∧ win0_6.index t = ![t.val / 4, 1] ∧ win0_7.index t = ![0, 0]
    ∧ win0_8.index t = ![0, 0] ∧ win0_9.index t = ![0, 0] ∧ win0_10.index t = ![0, 0] ∧ win0_11.index t = ![0, 0]
    ∧ win0_12.index t = ![t.val, 0] ∧ t.val < 32 :=
  (by decide +kernel : ∀ t : Fin grid0.N, _)

variable (m : (ℓ : Loc nD τ sig) → Buf (Elt Ideal) ℓ) (c : Dev nD) (t : Fin cfg0.N)

theorem blk0 (r : Fin 512) (k : Fin 1024) (h : 512 * t.val + r < 16384) :
    iblk m c 0 t (ix2 r k) = m ((c : Thread nD τ).loc main_arg0) (ix2 ⟨512 * t + r, h⟩ k) := by
  blk_ext [iblk, V, idx t]
theorem blk1 (r : Fin 512) (k : Fin 1024) (h : 512 * t.val + r < 16384) :
    iblk m c 1 t (ix2 r k) = m ((c : Thread nD τ).loc main_arg1) (ix2 ⟨512 * t + r, h⟩ k) := by
  blk_ext [iblk, V, idx t]
theorem blk2 (k j : Fin 1024) : iblk m c 2 t (ix2 k j) = m ((c : Thread nD τ).loc main_arg3) (ix2 k j) := by
  blk_point [iblk, V, idx t]
theorem blk3 (k : Fin 1024) : iblk m c 3 t (ix2 0 k) = m ((c : Thread nD τ).loc main_arg4) (ix1 k) := by
  blk_point [iblk, V, idx t]
theorem blk4 (k j : Fin 1024) : iblk m c 4 t (ix2 k j) = m ((c : Thread nD τ).loc main_arg5) (ix2 k j) := by
  blk_point [iblk, V, idx t]
theorem blk5 (k : Fin 256) (j : Fin 1024) (i : Fin 16384) (h : i.val / 2048 = t.val / 4) :
    iblk m c 5 t (ix2 k j) = keys (m ((c : Thread nD τ).loc main_arg2)) i k j := by
  unfold keys
  blk_ext [iblk, V, idx t]
theorem blk6 (k : Fin 256) (j : Fin 1024) (i : Fin 16384) (h : i.val / 2048 = t.val / 4) :
    iblk m c 6 t (ix2 k j) = values (m ((c : Thread nD τ).loc main_arg2)) i k j := by
  unfold values
  blk_ext [iblk, V, idx t]
theorem blk7 (k j : Fin 1024) : iblk m c 7 t (ix2 k j) = m ((c : Thread nD τ).loc main_arg6) (ix2 k j) := by
  blk_point [iblk, V, idx t]
theorem blk8 (k : Fin 1024) : iblk m c 8 t (ix2 0 k) = m ((c : Thread nD τ).loc main_arg7) (ix1 k) := by
  blk_point [iblk, V, idx t]
theorem blk9 (k : Fin 1024) (j : Fin 5632) : iblk m c 9 t (ix2 k j) = m ((c : Thread nD τ).loc main_arg8) (ix2 k j) := by
  blk_point [iblk, V, idx t]
theorem blk10 (k : Fin 2816) (j : Fin 1024) : iblk m c 10 t (ix2 k j) = m ((c : Thread nD τ).loc main_arg9) (ix2 k j) := by
  blk_point [iblk, V, idx t]
theorem blk11 (k : Fin 1024) : iblk m c 11 t (ix2 0 k) = m ((c : Thread nD τ).loc main_arg10) (ix1 k) := by
  blk_point [iblk, V, idx t]

/-- The kernel's result, from the argument arrays. -/
abbrev result (m : (ℓ : Loc nD τ sig) → Buf (Elt Ideal) ℓ) (c : Dev nD) : S16384x1024.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem point (r : Fin 512) (j : Fin 1024) (h : 512 * t.val + r < 16384) :
    outsAt0 m c t (ix2 r j) = result m c (ix2 ⟨512 * t + r, h⟩ j) := by
  have hi : (⟨512 * t.val + r, h⟩ : Fin 16384).val / 2048 = t.val / 4 := by
    show (512 * t.val + r) / 2048 = _
    omega
  refine (block m c t r j).trans ?_
  have e0 : row (iblk m c 0 t) r = row (m ((c : Thread nD τ).loc main_arg0)) ⟨512 * t + r, h⟩ := funext fun k => blk0 m c t r k h
  have e1 : row (iblk m c 1 t) r = row (m ((c : Thread nD τ).loc main_arg1)) ⟨512 * t + r, h⟩ := funext fun k => blk1 m c t r k h
  have e2 : mat (iblk m c 2 t) = mat (m ((c : Thread nD τ).loc main_arg3)) := funext fun k => funext fun j => blk2 m c t k j
  have e3 : row (iblk m c 3 t) 0 = vec (m ((c : Thread nD τ).loc main_arg4)) := funext fun k => blk3 m c t k
  have e4 : mat (iblk m c 4 t) = mat (m ((c : Thread nD τ).loc main_arg5)) := funext fun k => funext fun j => blk4 m c t k j
  have e5 : mat (iblk m c 5 t) = keys (m ((c : Thread nD τ).loc main_arg2)) ⟨512 * t + r, h⟩ := funext fun k => funext fun j => blk5 m c t k j _ hi
  have e6 : mat (iblk m c 6 t) = values (m ((c : Thread nD τ).loc main_arg2)) ⟨512 * t + r, h⟩ := funext fun k => funext fun j => blk6 m c t k j _ hi
  have e7 : mat (iblk m c 7 t) = mat (m ((c : Thread nD τ).loc main_arg6)) := funext fun k => funext fun j => blk7 m c t k j
  have e8 : row (iblk m c 8 t) 0 = vec (m ((c : Thread nD τ).loc main_arg7)) := funext fun k => blk8 m c t k
  have e9 : mat (iblk m c 9 t) = mat (m ((c : Thread nD τ).loc main_arg8)) := funext fun k => funext fun j => blk9 m c t k j
  have e10 : mat (iblk m c 10 t) = mat (m ((c : Thread nD τ).loc main_arg9)) := funext fun k => funext fun j => blk10 m c t k j
  have e11 : row (iblk m c 11 t) 0 = vec (m ((c : Thread nD τ).loc main_arg10)) := funext fun k => blk11 m c t k
  rw [e0, e1, e2, e3, e4, e5, e6, e7, e8, e9, e10, e11]
  rfl

theorem final (m : (ℓ : Loc nD τ sig) → Buf (Elt Ideal) ℓ) (c : Dev nD) : (dats m 0 c).arrAt 12 cfg0.N = result m c := by
  refine (dats m 0 c).arrAt_eq_of_covers 12 _ (by decide +kernel) fun t hf y => ?_
  blk_simp
  rw [after0_12]
  idx_vars y
  have ht : t.val < 32 := (idx t).2.2.2.2.2.2.2.2.2.2.2.2.2
  refine (point m c t y0 y1 (by omega)).trans ?_
  blk_ext [idx t]

end Cert.KernelIdeal.Stages

end
-- ==== Proof.Stages2.lean ====
module

public import proofs.«01_k».proof.Proof.Gen.Kernel2Ideal.Skeleton
public import proofs.«01_k».proof.Proof.Stages

@[expose] public section

set_option maxRecDepth 16384

noncomputable section

/-! What each vector stage of the feed-forward and in-projection kernel holds at one row and column. -/

namespace Cert.Kernel2Ideal.Stages

open Cert.Kernel2Ideal Cert.Kernel2Ideal.Gen Idealize.ShloMosaic Cert.Rows
open Cert.KernelIdeal.Stages (add)

theorem pay2_at (x : FVec Ideal S512x1024 .f32) (w : FVec Ideal S1x1024 .f32) (r : Fin 512) (j : Fin 1024) :
    k0_pay2 (F := Ideal) x w (ix2 r j) = rms (row x r) (row w 0) j := by
  pointwise! [k0_pay2, rms]

section
variable (h : FVec Ideal S512x1024 .bf16) (g u : FVec Ideal S1024x256 .bf16) (w : FVec Ideal S256x1024 .bf16) (a : FVec Ideal S512x1024 .f32)

theorem first (x : FVec Ideal S512x1024 .f32) (n : FVec Ideal S1x1024 .f32) :
    k0_pay3 (F := Ideal) x n g u w = fun i => chunk (row (k0_pay2 (F := Ideal) x n) (i 0)) (mat g) (mat u) (mat w) (i 1) := by
  funext i; idx_vars i; pointwise! [k0_pay3, chunk, gated, rowMul]
theorem add4 : k0_pay4 (F := Ideal) h g u w a = add h g u w a := by
  funext i; idx_vars i; pointwise! [k0_pay4, add, chunk, gated, rowMul]
theorem add5 : k0_pay6 (F := Ideal) (k0_pay5 (F := Ideal) h g u w a) = add h g u w a := by
  funext i; idx_vars i; pointwise! [k0_pay6, k0_pay5, add, chunk, gated, rowMul]
theorem add7 : k0_pay7 (F := Ideal) h g u w a = add h g u w a := by
  funext i; idx_vars i; pointwise! [k0_pay7, add, chunk, gated, rowMul]
theorem add8 : k0_pay9 (F := Ideal) (k0_pay8 (F := Ideal) h g u w) a = add h g u w a := by
  funext i; idx_vars i; pointwise! [k0_pay9, k0_pay8, add, chunk, gated, rowMul]
theorem add10 : k0_pay10 (F := Ideal) h g u w a = add h g u w a := by
  funext i; idx_vars i; pointwise! [k0_pay10, add, chunk, gated, rowMul]
theorem add11 : k0_pay12 (F := Ideal) (k0_pay11 (F := Ideal) h g u) w a = add h g u w a := by
  funext i; idx_vars i; pointwise! [k0_pay12, k0_pay11, add, chunk, gated, rowMul]
theorem add13 : k0_pay13 (F := Ideal) h g u w a = add h g u w a := by
  funext i; idx_vars i; pointwise! [k0_pay13, add, chunk, gated, rowMul]
theorem add14 : k0_pay15 (F := Ideal) (k0_pay14 (F := Ideal) h g u) w a = add h g u w a := by
  funext i; idx_vars i; pointwise! [k0_pay15, k0_pay14, add, chunk, gated, rowMul]
theorem add16 : k0_pay16 (F := Ideal) h g u w a = add h g u w a := by
  funext i; idx_vars i; pointwise! [k0_pay16, add, chunk, gated, rowMul]
theorem add17 : k0_pay19 (F := Ideal) h (k0_pay17 (F := Ideal) h g) (k0_pay18 (F := Ideal) u) (constant S512x256 .f32 0x00000000#32) w a = add h g u w a := by
  funext i; idx_vars i; pointwise! [k0_pay19, k0_pay18, k0_pay17, add, chunk, gated, rowMul]
end

theorem pay20_at (x a : FVec Ideal S512x1024 .f32) (r : Fin 512) (j : Fin 1024) :
    k0_pay20 (F := Ideal) x a (ix2 r j) = x (ix2 r j) + Ideal.ofBits .f32 0x3F000000#32 * a (ix2 r j) := by
  pointwise! [k0_pay20]

theorem pay21_at (x : FVec Ideal S512x1024 .f32) (w : FVec Ideal S1x1024 .f32) (r : Fin 512) (j : Fin 1024) :
    k0_pay21 (F := Ideal) x w (ix2 r j) = rms (row x r) (row w 0) j := by
  pointwise! [k0_pay21, rms]

theorem pay1_at (h : FVec Ideal S512x1024 .bf16) (w : FVec Ideal S1024x3456 .bf16) (r : Fin 512) (j : Fin 3456) :
    k0_pay1 (F := Ideal) h w (ix2 r j) = rowMul (row h r) (mat w) j := by
  pointwise! [k0_pay1, rowMul]

end Cert.Kernel2Ideal.Stages

end
-- ==== Proof.Columns.lean ====
module

public import proofs.«01_k».proof.Proof.Spec

@[expose] public section

noncomputable section

/-! The feed-forward half step of a row, and the order in which the in-projection's columns are stored. -/

namespace Cert.Rows

open Idealize.ShloMosaic

/-- A row plus half its feed-forward. -/
def ffnRow (x n : Fin 1024 → EReal) (up : Fin 1024 → Fin 5632 → EReal) (down : Fin 2816 → Fin 1024 → EReal) (j : Fin 1024) : EReal :=
  x j + Ideal.ofBits .f32 0x3F000000#32 * ffn (rms x n) up down j

/-- The columns as stored: the step sizes (8 columns from 1536) and the gate's low rank factor (16 columns from 2312) come
    last, and columns of zeros fill the row up. -/
def ordered (t : Fin 3352 → EReal) (j : Fin 3456) : EReal :=
  if h : j.val < 1536 then t ⟨j, by omega⟩
  else if h : j.val - 1536 < 768 then t ⟨1544 + (j - 1536), by omega⟩
  else if h : j.val - 1536 - 768 < 1024 then t ⟨2328 + (j - 1536 - 768), by omega⟩
  else if h : j.val - 1536 - 768 - 1024 < 8 then t ⟨1536 + (j - 1536 - 768 - 1024), by omega⟩
  else if h : j.val - 1536 - 768 - 1024 - 8 < 16 then t ⟨2312 + (j - 1536 - 768 - 1024 - 8), by omega⟩
  else 0

/-- A product with stored columns is the product, stored. -/
theorem rowMul_ordered (h : Fin 1024 → EReal) (w : Fin 1024 → Fin 3352 → EReal) (j : Fin 3456) :
    rowMul h (fun k => ordered (w k)) j = ordered (rowMul h w) j := by
  unfold rowMul ordered
  split_ifs
  all_goals simp only [*, ↓reduceDIte, mul_zero, Finset.sum_const_zero]

/-- The residual stream after the first feed-forward half step, from the call's arguments. -/
def stream {r : ℕ} (x : (⟨2, ![r, 1024]⟩ : Shape).Idx → EReal) (n : (⟨1, ![1024]⟩ : Shape).Idx → EReal) (up : (⟨2, ![1024, 5632]⟩ : Shape).Idx → EReal)
    (down : (⟨2, ![2816, 1024]⟩ : Shape).Idx → EReal) : (⟨2, ![r, 1024]⟩ : Shape).Idx → EReal :=
  fun z => ffnRow (row x (z 0)) (vec n) (mat up) (mat down) (z 1)

/-- The in-projection of the normalised residual stream, its columns as stored. -/
def proj {r : ℕ} (x : (⟨2, ![r, 1024]⟩ : Shape).Idx → EReal) (n : (⟨1, ![1024]⟩ : Shape).Idx → EReal) (up : (⟨2, ![1024, 5632]⟩ : Shape).Idx → EReal)
    (down : (⟨2, ![2816, 1024]⟩ : Shape).Idx → EReal) (n' : (⟨1, ![1024]⟩ : Shape).Idx → EReal) (w : (⟨2, ![1024, 3352]⟩ : Shape).Idx → EReal) :
    (⟨2, ![r, 3456]⟩ : Shape).Idx → EReal :=
  fun z => ordered (rowMul (rms (row (stream x n up down) (z 0)) (vec n')) (mat w)) (z 1)

/-- The residual stream after a block's output projection is added. -/
def joined (x o : (⟨2, ![128, 1024]⟩ : Shape).Idx → EReal) (w : (⟨2, ![1024, 1024]⟩ : Shape).Idx → EReal) : (⟨2, ![128, 1024]⟩ : Shape).Idx → EReal :=
  fun z => x (ix2 (z 0) (z 1)) + rowMul (row o (z 0)) (mat w) (z 1)

/-- The queries of the normalised residual stream. -/
def queries (x : (⟨2, ![128, 1024]⟩ : Shape).Idx → EReal) (n : (⟨1, ![1024]⟩ : Shape).Idx → EReal) (w : (⟨2, ![1024, 1024]⟩ : Shape).Idx → EReal) :
    (⟨2, ![128, 1024]⟩ : Shape).Idx → EReal :=
  fun z => rowMul (rms (row x (z 0)) (vec n)) (mat w) (z 1)

/-- One sample token's line: the attention's output projection added, then half a feed-forward, then the final
    normalisation. -/
def sampleRow (x o : Fin 1024 → EReal) (wo : Fin 1024 → Fin 1024 → EReal) (n : Fin 1024 → EReal) (up : Fin 1024 → Fin 5632 → EReal)
    (down : Fin 2816 → Fin 1024 → EReal) (f : Fin 1024 → EReal) : Fin 1024 → EReal :=
  rms (ffnRow (fun k => x k + rowMul o wo k) n up down) f

/-- All the sample tokens' lines, from the call's arguments. -/
def sample (x o : (⟨2, ![128, 1024]⟩ : Shape).Idx → EReal) (wo : (⟨2, ![1024, 1024]⟩ : Shape).Idx → EReal) (n : (⟨1, ![1024]⟩ : Shape).Idx → EReal)
    (up : (⟨2, ![1024, 5632]⟩ : Shape).Idx → EReal) (down : (⟨2, ![2816, 1024]⟩ : Shape).Idx → EReal) (f : (⟨1, ![1024]⟩ : Shape).Idx → EReal) :
    (⟨2, ![128, 1024]⟩ : Shape).Idx → EReal :=
  fun z => sampleRow (row x (z 0)) (row o (z 0)) (mat wo) (vec n) (mat up) (mat down) (vec f) (z 1)

end Cert.Rows

end
-- ==== Proof.Block2.lean ====
module

public import proofs.«01_k».proof.Proof.Gen.Kernel2Ideal.Value
public import proofs.«01_k».proof.Proof.Stages2
public import proofs.«01_k».proof.Proof.Block
public import proofs.«01_k».proof.Proof.Columns

@[expose] public section

set_option maxRecDepth 16384

noncomputable section

/-! What one grid point of the feed-forward and in-projection kernel writes, row by row. -/

namespace Cert.Kernel2Ideal.Stages

open Cert.Kernel2Ideal Cert.Kernel2Ideal.Gen Idealize.ShloMosaic Idealize.ShloMosaic.TcCoe Idealize.SL.Sem Cert.Rows
open Cert.KernelIdeal.Stages (add mat_ld_cols mat_ld_rows)

variable (m : (ℓ : Loc nD τ sig) → Buf (Elt Ideal) ℓ)

set_option maxHeartbeats 1600000 in
/-- The residual stream that point `t` writes, at row `r` of its block. -/
theorem block (c : Dev nD) (t : Fin cfg0.N) (r : Fin 512) (j : Fin 1024) :
    (outsAt0 m c t).1 (ix2 r j) = ffnRow (row (iblk m c 0 t) r) (row (iblk m c 1 t) 0) (mat (iblk m c 2 t)) (mat (iblk m c 3 t)) j := by
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  refine (pay20_at _ _ r j).trans ?_
  have h : row (k0_pay2 (F := Ideal) X0 X1) r = rms (row X0 r) (row X1 0) := funext fun k => pay2_at _ _ r k
  rw [add17, add16, add14, add13, add11, add10, add8, add7, add5, add4, first]
  refine congrArg₂ (· + ·) rfl (congrArg _ ?_)
  rw [ffn_eq_chunks, ← h]
  simp only [Fin.sum_univ_castSucc, Fin.sum_univ_zero, add, mat_ld_cols, mat_ld_rows, zero_add]
  rfl

set_option maxHeartbeats 1600000 in
/-- The projections that point `t` writes, from the residual stream it writes. -/
theorem block_proj (c : Dev nD) (t : Fin cfg0.N) (r : Fin 512) (j : Fin 3456) :
    (outsAt0 m c t).2 (ix2 r j) = rowMul (rms (row (outsAt0 m c t).1 r) (row (iblk m c 4 t) 0)) (mat (iblk m c 5 t)) j := by
  unfold outsAt0
  frame_open
  simp (disch := decide) only [↓ View.readCov_skip, ↓ View.readCov_cons_toLoadRect, ↓ View.readCov_fill]
  frame_out
  refine (pay1_at _ _ r j).trans (congrArg (rowMul · _ j) (funext fun k => ?_))
  refine (pay21_at _ _ r k).trans ?_
  rfl

end Cert.Kernel2Ideal.Stages

end
-- ==== Proof.Final2.lean ====
module

public import proofs.«01_k».proof.Proof.Block2

@[expose] public section

set_option maxRecDepth 16384

noncomputable section

/-! The feed-forward and in-projection kernel's result arrays. -/

namespace Cert.Kernel2Ideal.Stages

open Cert.Kernel2Ideal Cert.Kernel2Ideal.Gen Idealize.ShloMosaic Idealize.ShloMosaic.TcCoe Idealize.SL.Sem Cert.Rows

/-- Which block of its array each grid point reads and writes. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ win0_7.index t = ![t.val, 0] ∧ t.val < 32 :=
  (by decide +kernel : ∀ t : Fin grid0.N, _)

variable (m : (ℓ : Loc nD τ sig) → Buf (Elt Ideal) ℓ) (c : Dev nD) (t : Fin cfg0.N)

theorem blk0 (r : Fin 512) (k : Fin 1024) (h : 512 * t.val + r < 16384) :
    iblk m c 0 t (ix2 r k) = m ((c : Thread nD τ).loc main_arg0) (ix2 ⟨512 * t + r, h⟩ k) := by
  blk_ext [iblk, V, idx t]
theorem blk1 (k : Fin 1024) : iblk m c 1 t (ix2 0 k) = m ((c : Thread nD τ).loc main_arg1) (ix1 k) := by
  blk_point [iblk, V, idx t]
theorem blk2 (k : Fin 1024) (j : Fin 5632) : iblk m c 2 t (ix2 k j) = m ((c : Thread nD τ).loc main_arg2) (ix2 k j) := by
  blk_point [iblk, V, idx t]
theorem blk3 (k : Fin 2816) (j : Fin 1024) : iblk m c 3 t (ix2 k j) = m ((c : Thread nD τ).loc main_arg3) (ix2 k j) := by
  blk_point [iblk, V, idx t]
theorem blk4 (k : Fin 1024) : iblk m c 4 t (ix2 0 k) = m ((c : Thread nD τ).loc main_arg4) (ix1 k) := by
  blk_point [iblk, V, idx t]
/-- The in-projection's weights as the call packs them. -/
def pack (w : FVec Ideal S1024x3352 .f32) : FVec Ideal S1024x3456 .bf16 :=
  truncf .bf16 (concatenate S1024x3456 1 [⟨S1024x1536, extractStridedSlice S1024x1536 ![0, 0] w slices_S1024x3352_S1024x1536_0_0⟩,
    ⟨S1024x768, extractStridedSlice S1024x768 ![0, 1544] w slices_S1024x3352_S1024x768_0_1544⟩,
    ⟨S1024x1024, extractStridedSlice S1024x1024 ![0, 2328] w slices_S1024x3352_S1024x1024_0_2328⟩,
    ⟨S1024x8, extractStridedSlice S1024x8 ![0, 1536] w slices_S1024x3352_S1024x8_0_1536⟩,
    ⟨S1024x16, extractStridedSlice S1024x16 ![0, 2312] w slices_S1024x3352_S1024x16_0_2312⟩,
    ⟨S1024x104, broadcastInDim S1024x104 ![] bcast_S_S1024x104 (constant S_ .f32 0x00000000#32)⟩]
    concatenates_S1024x1536_S1024x768_S1024x1024_S1024x8_S1024x16_S1024x104_S1024x3456_d1) bitsLt_bf16_f32

set_option maxHeartbeats 800000 in
theorem packed (w : FVec Ideal S1024x3352 .f32) (k : Fin 1024) (j : Fin 3456) : pack w (ix2 k j) = ordered (mat w k) j := by
  pointwise! [pack, ordered]

theorem blk5 (k : Fin 1024) (j : Fin 3456) :
    iblk m c 5 t (ix2 k j) = ordered (fun i => m ((c : Thread nD τ).loc main_arg5) (ix2 k i)) j := by
  refine Eq.trans ?_ (packed (m ((c : Thread nD τ).loc main_arg5)) k j)
  blk_ext [iblk, V, idx t]

/-- The two results, from the argument arrays. -/
abbrev result6 (m : (ℓ : Loc nD τ sig) → Buf (Elt Ideal) ℓ) (c : Dev nD) : S16384x1024.Idx → EReal :=
  stream (m ((c : Thread nD τ).loc main_arg0)) (m ((c : Thread nD τ).loc main_arg1)) (m ((c : Thread nD τ).loc main_arg2))
    (m ((c : Thread nD τ).loc main_arg3))
abbrev result7 (m : (ℓ : Loc nD τ sig) → Buf (Elt Ideal) ℓ) (c : Dev nD) : S16384x3456.Idx → EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem point6 (r : Fin 512) (j : Fin 1024) (h : 512 * t.val + r < 16384) :
    (outsAt0 m c t).1 (ix2 r j) = result6 m c (ix2 ⟨512 * t + r, h⟩ j) := by
  refine (block m c t r j).trans ?_
  have e0 : row (iblk m c 0 t) r = row (m ((c : Thread nD τ).loc main_arg0)) ⟨512 * t + r, h⟩ := funext fun k => blk0 m c t r k h
  have e1 : row (iblk m c 1 t) 0 = vec (m ((c : Thread nD τ).loc main_arg1)) := funext fun k => blk1 m c t k
  have e2 : mat (iblk m c 2 t) = mat (m ((c : Thread nD τ).loc main_arg2)) := funext fun k => funext fun j => blk2 m c t k j
  have e3 : mat (iblk m c 3 t) = mat (m ((c : Thread nD τ).loc main_arg3)) := funext fun k => funext fun j => blk3 m c t k j
  rw [e0, e1, e2, e3]
  rfl

theorem point7 (r : Fin 512) (j : Fin 3456) (h : 512 * t.val + r < 16384) :
    (outsAt0 m c t).2 (ix2 r j) = result7 m c (ix2 ⟨512 * t + r, h⟩ j) := by
  refine (block_proj m c t r j).trans ?_
  have e0 : row (outsAt0 m c t).1 r = row (result6 m c) ⟨512 * t + r, h⟩ := funext fun k => point6 m c t r k h
  have e4 : row (iblk m c 4 t) 0 = vec (m ((c : Thread nD τ).loc main_arg4)) := funext fun k => blk4 m c t k
  have e5 : mat (iblk m c 5 t) = fun k => ordered (mat (m ((c : Thread nD τ).loc main_arg5)) k) := funext fun k => funext fun j => blk5 m c t k j
  rw [e0, e4, e5, rowMul_ordered]
  rfl

theorem final6 (m : (ℓ : Loc nD τ sig) → Buf (Elt Ideal) ℓ) (c : Dev nD) : (dats m 0 c).arrAt 6 cfg0.N = result6 m c := by
  refine (dats m 0 c).arrAt_eq_of_covers 6 _ (by decide +kernel) fun t hf y => ?_
  blk_simp
  rw [after0_6]
  idx_vars y
  have ht : t.val < 32 := (idx t).2.2.2.2.2.2.2.2
  refine (point6 m c t y0 y1 (by omega)).trans ?_
  blk_ext [idx t]

theorem final7 (m : (ℓ : Loc nD τ sig) → Buf (Elt Ideal) ℓ) (c : Dev nD) : (dats m 0 c).arrAt 7 cfg0.N = result7 m c := by
  refine (dats m 0 c).arrAt_eq_of_covers 7 _ (by decide +kernel) fun t hf y => ?_
  blk_simp
  rw [after0_7]
  idx_vars y
  have ht : t.val < 32 := (idx t).2.2.2.2.2.2.2.2
  refine (point7 m c t y0 y1 (by omega)).trans ?_
  blk_ext [idx t]

end Cert.Kernel2Ideal.Stages

end
-- ==== Proof.Memory.lean ====
module

public import proofs.«01_k».proof.Proof.Spec

@[expose] public section

noncomputable section

/-! The memory's keys and values. -/

namespace Cert.Rows

open Idealize.ShloMosaic

/-- Two matrices side by side. -/
def sides (a b : Fin 1024 → Fin 1024 → EReal) (k : Fin 1024) (j : Fin 2048) : EReal :=
  if h : j.val < 1024 then a k ⟨j, h⟩ else b k ⟨j - 1024, by omega⟩

/-- A product with two matrices side by side. -/
theorem rowMul_sides (h : Fin 1024 → EReal) (a b : Fin 1024 → Fin 1024 → EReal) (j : Fin 2048) :
    rowMul h (sides a b) j = if hj : j.val < 1024 then rowMul h a ⟨j, hj⟩ else rowMul h b ⟨j - 1024, by omega⟩ := by
  unfold rowMul sides
  split_ifs
  all_goals simp only [*, ↓reduceDIte]

/-- The keys and values of every memory position, side by side, from the memory and the two weights. -/
def memory (x : (⟨3, ![8, 256, 1024]⟩ : Shape).Idx → EReal) (wk wv : (⟨2, ![1024, 1024]⟩ : Shape).Idx → EReal) :
    (⟨2, ![2048, 2048]⟩ : Shape).Idx → EReal := fun z =>
  rowMul (fun k => x (ix3 (⟨(z 0).val / 256, by have : (z 0).val < 2048 := (z 0).isLt; omega⟩ : Fin 8) (⟨(z 0).val % 256, by omega⟩ : Fin 256) k))
    (sides (mat wk) (mat wv)) (z 1)

end Cert.Rows

end
-- ==== Proof.Final3.lean ====
module

public import proofs.«01_k».proof.Proof.Gen.Kernel3Ideal.Value
public import proofs.«01_k».proof.Proof.Memory
public import Idealize.ShloMosaic.Lib.Pipeline.ValueKit
public import Idealize.ShloMosaic.Lib.Pipeline.ReadBack

@[expose] public section

set_option maxRecDepth 16384

noncomputable section

/-! The memory kernel's result arrays. -/

namespace Cert.Kernel3Ideal.Stages

open Cert.Kernel3Ideal Cert.Kernel3Ideal.Gen Idealize.ShloMosaic Idealize.ShloMosaic.TcCoe Idealize.SL.Sem Cert.Rows

theorem pay1_at (x : FVec Ideal S512x1024 .f32) (w : FVec Ideal S1024x2048 .bf16) (r : Fin 512) (j : Fin 2048) :
    k0_pay1 (F := Ideal) x w (ix2 r j) = rowMul (row x r) (mat w) j := by
  pointwise! [k0_pay1, rowMul]

theorem pay2_at (x : FVec Ideal S512x1024 .f32) (w : FVec Ideal S1024x2048 .bf16) (r : Fin 512) (j : Fin 2048) :
    k0_pay2 (F := Ideal) x w (ix2 r j) = rowMul (row x r) (mat w) j := by
  pointwise! [k0_pay2, k0_pay1, rowMul]

/-- Which block of its array each grid point reads and writes. -/
theorem idx : ∀ t : Fin cfg0.N,
    win0_0.index t = ![t.val, 0] ∧ win0_1.index t = ![0, 0] ∧ win0_2.index t = ![t.val, 0] ∧ win0_3.index t = ![t.val, 0] ∧ t.val < 4 :=
  (by decide +kernel : ∀ t : Fin grid0.N, _)

variable (m : (ℓ : Loc nD τ sig) → Buf (Elt Ideal) ℓ) (c : Dev nD) (t : Fin cfg0.N)

theorem block2 (x : FVec Ideal S512x1024 .f32) (w : FVec Ideal S1024x2048 .bf16) (r : Fin 512) (j : Fin 2048) :
    out0_2 (F := Ideal) x w (ix2 r j) = rowMul (row x r) (mat w) j := by
  unfold out0_2
  frame_out
  exact pay1_at _ _ r j

theorem block3 (x : FVec Ideal S512x1024 .f32) (w : FVec Ideal S1024x2048 .bf16) (r : Fin 512) (j : Fin 2048) :
    out0_3 (F := Ideal) x w (ix2 r j) = rowMul (row x r) (mat w) j := by
  unfold out0_3
  frame_out
  exact pay2_at _ _ r j

theorem blk0 (r : Fin 512) (k : Fin 1024) (h : 512 * t.val + r < 2048) :
    iblk m c 0 t (ix2 r k) = m ((c : Thread nD τ).loc main_arg0)
      (ix3 (⟨(512 * t + r) / 256, by omega⟩ : Fin 8) (⟨(512 * t + r) % 256, by omega⟩ : Fin 256) k) := by
  blk_point [iblk, V, idx t]

theorem both (a b : FVec Ideal S1024x1024 .f32) (k : Fin 1024) (j : Fin 2048) :
    truncf .bf16 (concatenate S1024x2048 1 [⟨S1024x1024, a⟩, ⟨S1024x1024, b⟩] concatenates_S1024x1024_S1024x1024_S1024x2048_d1) bitsLt_bf16_f32 (ix2 k j)
      = sides (mat a) (mat b) k j := by
  pointwise! [sides]

theorem blk1 (k : Fin 1024) (j : Fin 2048) :
    iblk m c 1 t (ix2 k j) = sides (mat (m ((c : Thread nD τ).loc main_arg1))) (mat (m ((c : Thread nD τ).loc main_arg2))) k j := by
  refine Eq.trans ?_ (both (m ((c : Thread nD τ).loc main_arg1)) (m ((c : Thread nD τ).loc main_arg2)) k j)
  blk_ext [iblk, V, idx t]

/-- Both results, from the argument arrays. -/
abbrev result (m : (ℓ : Loc nD τ sig) → Buf (Elt Ideal) ℓ) (c : Dev nD) : S2048x2048.Idx → EReal :=
  memory (m ((c : Thread nD τ).loc main_arg0)) (m ((c : Thread nD τ).loc main_arg1)) (m ((c : Thread nD τ).loc main_arg2))

theorem point (r : Fin 512) (j : Fin 2048) (h : 512 * t.val + r < 2048) :
    rowMul (row (iblk m c 0 t) r) (mat (iblk m c 1 t)) j = result m c (ix2 ⟨512 * t + r, h⟩ j) := by
  have e0 : row (iblk m c 0 t) r = _ := funext fun k => blk0 m c t r k h
  have e1 : mat (iblk m c 1 t) = _ := funext fun k => funext fun j => blk1 m c t k j
  rw [e0, e1]
  rfl

theorem final2 (m : (ℓ : Loc nD τ sig) → Buf (Elt Ideal) ℓ) (c : Dev nD) : (dats m 0 c).arrAt 2 cfg0.N = result m c := by
  refine (dats m 0 c).arrAt_eq_of_covers 2 _ (by decide +kernel) fun t hf y => ?_
  blk_simp
  rw [after0_2]
  idx_vars y
  have ht : t.val < 4 := (idx t).2.2.2.2
  refine ((block2 _ _ y0 y1).trans (point m c t y0 y1 (by omega))).trans ?_
  blk_ext [idx t]

theorem final3 (m : (ℓ : Loc nD τ sig) → Buf (Elt Ideal) ℓ) (c : Dev nD) : (dats m 0 c).arrAt 3 cfg0.N = result m c := by
  refine (dats m 0 c).arrAt_eq_of_covers 3 _ (by decide +kernel) fun t hf y => ?_
  blk_simp
  rw [after0_3]
  idx_vars y
  have ht : t.val < 4 := (idx t).2.2.2.2
  refine ((block3 _ _ y0 y1).trans (point m c t y0 y1 (by omega))).trans ?_
  blk_ext [idx t]

end Cert.Kernel3Ideal.Stages

end
-- ==== Proof.Stages4.lean ====
module

public import proofs.«01_k».proof.Proof.Gen.Kernel4Ideal.Value
public import proofs.«01_k».proof.Proof.Block

@[expose] public section

set_option maxRecDepth 16384

noncomputable section

/-! The kernel without the final normalisation: its vector stages are those of the one with it. -/

namespace Cert.Kernel4Ideal.Stages

open Cert.Kernel4Ideal Cert.Kernel4Ideal.Gen Idealize.ShloMosaic Idealize.ShloMosaic.TcCoe Idealize.SL.Sem Cert.Rows
open Cert.KernelIdeal.Stages (add mat_ld_cols mat_ld_rows attention head_of attended_row first add14 add15 add17 add18 add21 add22 add24 add25 add29 add30
  pay45_zero pay6_at pay78_at pay9_at pay11_at pay32_at)

theorem same1 (v134 : FVec Ideal S512x1024 .bf16) (v315 : FVec Ideal S512x256 .f32) (v316 : Vec Ideal S1024x256 .bf16) (v323 : Vec Ideal S256x1024 .bf16) (v326 : Vec Ideal S512x1024 .f32) : k0_pay1 (F := Ideal) v134 v315 v316 v323 v326 = Cert.KernelIdeal.Gen.k0_pay31 (F := Ideal) v134 v315 v316 v323 v326 := rfl
theorem same2 (v331 : Vec Ideal S512x1024 .f32) (v333 : Vec Ideal S512x1024 .f32) : k0_pay2 (F := Ideal) v331 v333 = Cert.KernelIdeal.Gen.k0_pay32 (F := Ideal) v331 v333 := rfl
theorem same3 (v0 : Vec Ideal S512x1024 .f32) (v1 : Vec Ideal S512x1024 .bf16) (v2 : Vec Ideal S1024x1024 .bf16) : k0_pay3 (F := Ideal) v0 v1 v2 = Cert.KernelIdeal.Gen.k0_pay2 (F := Ideal) v0 v1 v2 := rfl
theorem same4 (v0 : Vec Ideal S512x1024 .f32) (v1 : Vec Ideal S512x1024 .bf16) (v2 : Vec Ideal S1024x1024 .bf16) (v6 : Vec Ideal S1x1024 .f32) (v21 : Vec Ideal S1024x1024 .bf16) : k0_pay4 (F := Ideal) v0 v1 v2 v6 v21 = Cert.KernelIdeal.Gen.k0_pay3 (F := Ideal) v0 v1 v2 v6 v21 := rfl
theorem same5 (v0 : Vec Ideal S512x1024 .f32) (v1 : Vec Ideal S512x1024 .bf16) (v2 : Vec Ideal S1024x1024 .bf16) (v6 : Vec Ideal S1x1024 .f32) (v21 : Vec Ideal S1024x1024 .bf16) (v25 : Vec Ideal S256x256 .bf16) : k0_pay5 (F := Ideal) v0 v1 v2 v6 v21 v25 = Cert.KernelIdeal.Gen.k0_pay4 (F := Ideal) v0 v1 v2 v6 v21 v25 := rfl
theorem same6 (v28 : Vec Ideal S256x256 .bf16) (v35 : FVec Ideal S512x256 .f32) : k0_pay6 (F := Ideal) v28 v35 = Cert.KernelIdeal.Gen.k0_pay5 (F := Ideal) v28 v35 := rfl
theorem same7 (v23 : FVec Ideal S512x1024 .f32) (v47 : Vec Ideal S256x256 .bf16) (v50 : Vec Ideal S256x256 .bf16) : k0_pay7 (F := Ideal) v23 v47 v50 = Cert.KernelIdeal.Gen.k0_pay6 (F := Ideal) v23 v47 v50 := rfl
theorem same8 (v23 : FVec Ideal S512x1024 .f32) (v69 : Vec Ideal S256x256 .bf16) : k0_pay8 (F := Ideal) v23 v69 = Cert.KernelIdeal.Gen.k0_pay7 (F := Ideal) v23 v69 := rfl
theorem same9 (v71 : FVec Ideal S512x256 .f32) (v72 : Vec Ideal S256x256 .bf16) (z : Ideal .f32) : k0_pay9 (F := Ideal) v71 v72 z = Cert.KernelIdeal.Gen.k0_pay8 (F := Ideal) v71 v72 z := rfl
theorem same10 (v23 : FVec Ideal S512x1024 .f32) (v91 : Vec Ideal S256x256 .bf16) (v94 : Vec Ideal S256x256 .bf16) : k0_pay10 (F := Ideal) v23 v91 v94 = Cert.KernelIdeal.Gen.k0_pay9 (F := Ideal) v23 v91 v94 := rfl
theorem same11 (v5 : FVec Ideal S512x1024 .f32) (v112 : Vec Ideal S512x1024 .bf16) (v113 : Vec Ideal S1024x1024 .bf16) : k0_pay11 (F := Ideal) v5 v112 v113 = Cert.KernelIdeal.Gen.k0_pay10 (F := Ideal) v5 v112 v113 := rfl
theorem same12 (v118 : Vec Ideal S512x1024 .f32) (v120 : Vec Ideal S1x1024 .f32) : k0_pay12 (F := Ideal) v118 v120 = Cert.KernelIdeal.Gen.k0_pay11 (F := Ideal) v118 v120 := rfl
theorem same13 (v118 : Vec Ideal S512x1024 .f32) (v120 : Vec Ideal S1x1024 .f32) (v135 : Vec Ideal S1024x256 .bf16) (v138 : Vec Ideal S1024x256 .bf16) (v145 : Vec Ideal S256x1024 .bf16) : k0_pay13 (F := Ideal) v118 v120 v135 v138 v145 = Cert.KernelIdeal.Gen.k0_pay12 (F := Ideal) v118 v120 v135 v138 v145 := rfl
theorem same14 (v147 : FVec Ideal S512x1024 .f32) : k0_pay14 (F := Ideal) v147 = Cert.KernelIdeal.Gen.k0_pay13 (F := Ideal) v147 := rfl
theorem same15 (v134 : FVec Ideal S512x1024 .bf16) (v151 : Vec Ideal S1024x256 .bf16) (v154 : Vec Ideal S1024x256 .bf16) (v161 : Vec Ideal S256x1024 .bf16) (v164 : Vec Ideal S512x1024 .f32) : k0_pay15 (F := Ideal) v134 v151 v154 v161 v164 = Cert.KernelIdeal.Gen.k0_pay14 (F := Ideal) v134 v151 v154 v161 v164 := rfl
theorem same16 (v134 : FVec Ideal S512x1024 .bf16) (v169 : Vec Ideal S1024x256 .bf16) (v172 : Vec Ideal S1024x256 .bf16) (v179 : Vec Ideal S256x1024 .bf16) : k0_pay16 (F := Ideal) v134 v169 v172 v179 = Cert.KernelIdeal.Gen.k0_pay15 (F := Ideal) v134 v169 v172 v179 := rfl
theorem same17 (v181 : FVec Ideal S512x1024 .f32) (v182 : Vec Ideal S512x1024 .f32) : k0_pay17 (F := Ideal) v181 v182 = Cert.KernelIdeal.Gen.k0_pay16 (F := Ideal) v181 v182 := rfl
theorem same18 (v134 : FVec Ideal S512x1024 .bf16) (v187 : Vec Ideal S1024x256 .bf16) (v190 : Vec Ideal S1024x256 .bf16) (v197 : Vec Ideal S256x1024 .bf16) (v200 : Vec Ideal S512x1024 .f32) : k0_pay18 (F := Ideal) v134 v187 v190 v197 v200 = Cert.KernelIdeal.Gen.k0_pay17 (F := Ideal) v134 v187 v190 v197 v200 := rfl
theorem same19 (v134 : FVec Ideal S512x1024 .bf16) (v205 : Vec Ideal S1024x256 .bf16) (v208 : Vec Ideal S1024x256 .bf16) : k0_pay19 (F := Ideal) v134 v205 v208 = Cert.KernelIdeal.Gen.k0_pay18 (F := Ideal) v134 v205 v208 := rfl
theorem same20 (v215 : Vec Ideal S256x1024 .bf16) : k0_pay20 (F := Ideal) v215 = Cert.KernelIdeal.Gen.k0_pay19 (F := Ideal) v215 := rfl
theorem same21 (v214 : FVec Ideal S512x256 .bf16) (v216 : FVec Ideal S256x1024 .bf16) (z : FVec Ideal S512x1024 .f32) (v218 : Vec Ideal S512x1024 .f32) : k0_pay21 (F := Ideal) v214 v216 z v218 = Cert.KernelIdeal.Gen.k0_pay20 (F := Ideal) v214 v216 z v218 := rfl
theorem same22 (v134 : FVec Ideal S512x1024 .bf16) (v223 : Vec Ideal S1024x256 .bf16) (v226 : Vec Ideal S1024x256 .bf16) (v233 : Vec Ideal S256x1024 .bf16) (v236 : Vec Ideal S512x1024 .f32) : k0_pay22 (F := Ideal) v134 v223 v226 v233 v236 = Cert.KernelIdeal.Gen.k0_pay21 (F := Ideal) v134 v223 v226 v233 v236 := rfl
theorem same23 (v134 : FVec Ideal S512x1024 .bf16) (v241 : Vec Ideal S1024x256 .bf16) (v244 : Vec Ideal S1024x256 .bf16) : k0_pay23 (F := Ideal) v134 v241 v244 = Cert.KernelIdeal.Gen.k0_pay22 (F := Ideal) v134 v241 v244 := rfl
theorem same24 (v250 : FVec Ideal S512x256 .bf16) (v251 : Vec Ideal S256x1024 .bf16) (v254 : Vec Ideal S512x1024 .f32) : k0_pay24 (F := Ideal) v250 v251 v254 = Cert.KernelIdeal.Gen.k0_pay23 (F := Ideal) v250 v251 v254 := rfl
theorem same25 (v134 : FVec Ideal S512x1024 .bf16) (v259 : Vec Ideal S1024x256 .bf16) (v262 : Vec Ideal S1024x256 .bf16) (v269 : Vec Ideal S256x1024 .bf16) (v272 : Vec Ideal S512x1024 .f32) : k0_pay25 (F := Ideal) v134 v259 v262 v269 v272 = Cert.KernelIdeal.Gen.k0_pay24 (F := Ideal) v134 v259 v262 v269 v272 := rfl
theorem same26 (v134 : FVec Ideal S512x1024 .bf16) (v277 : Vec Ideal S1024x256 .bf16) : k0_pay26 (F := Ideal) v134 v277 = Cert.KernelIdeal.Gen.k0_pay25 (F := Ideal) v134 v277 := rfl
theorem same27 (v134 : FVec Ideal S512x1024 .bf16) (v280 : Vec Ideal S1024x256 .bf16) : k0_pay27 (F := Ideal) v134 v280 = Cert.KernelIdeal.Gen.k0_pay26 (F := Ideal) v134 v280 := rfl
theorem same28 (v134 : FVec Ideal S512x1024 .bf16) (v277 : Vec Ideal S1024x256 .bf16) : k0_pay28 (F := Ideal) v134 v277 = Cert.KernelIdeal.Gen.k0_pay27 (F := Ideal) v134 v277 := rfl
theorem same29 (v279 : FVec Ideal S512x256 .f32) (v282 : FVec Ideal S512x256 .f32) (v283 : FVec Ideal S512x256 .f32) (v287 : Vec Ideal S256x1024 .bf16) (v290 : Vec Ideal S512x1024 .f32) : k0_pay29 (F := Ideal) v279 v282 v283 v287 v290 = Cert.KernelIdeal.Gen.k0_pay28 (F := Ideal) v279 v282 v283 v287 v290 := rfl
theorem same30 (v134 : FVec Ideal S512x1024 .bf16) (v295 : Vec Ideal S1024x256 .bf16) (v298 : Vec Ideal S1024x256 .bf16) (v305 : Vec Ideal S256x1024 .bf16) (v308 : Vec Ideal S512x1024 .f32) : k0_pay30 (F := Ideal) v134 v295 v298 v305 v308 = Cert.KernelIdeal.Gen.k0_pay29 (F := Ideal) v134 v295 v298 v305 v308 := rfl
theorem same31 (v134 : FVec Ideal S512x1024 .bf16) (v313 : Vec Ideal S1024x256 .bf16) : k0_pay31 (F := Ideal) v134 v313 = Cert.KernelIdeal.Gen.k0_pay30 (F := Ideal) v134 v313 := rfl

variable (m : (ℓ : Loc nD τ sig) → Buf (Elt Ideal) ℓ)

set_option maxHeartbeats 1600000 in
/-- What point `t` writes, at row `r` of its block. -/
theorem block (c : Dev nD) (t : Fin cfg0.N) (r : Fin 512) (j : Fin 1024) :
    outsAt0 m c t (ix2 r j) = postRow (row (iblk m c 0 t) r) (row (iblk m c 1 t) r) (mat (iblk m c 2 t)) (row (iblk m c 3 t) 0) (mat (iblk m c 4 t))
      (mat (iblk m c 5 t)) (mat (iblk m c 6 t)) (mat (iblk m c 7 t)) (row (iblk m c 8 t) 0) (mat (iblk m c 9 t)) (mat (iblk m c 10 t)) j := by
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  generalize iblk m c 9 t = X9
  generalize iblk m c 10 t = X10
  generalize hO : View.readCov (Val := Elt Ideal) (View.whole cc0_scratch1) _ _ = O
  have hA : O = attention (Cert.KernelIdeal.Gen.k0_pay3 (F := Ideal) X0 X1 X2 X3 X4) X5 X6 := by
    rw [← hO, View.readCov_eq_canon']
    funext y
    canon_tiles x h
    · exact head_of 3 768 (by omega) rfl _ _ X5 X6 _ _ (pay9_at _ _ _) (mat_ld_cols _ _) (mat_ld_cols _ _) y x (by simpa using h0) (by simpa using h1)
    · exact head_of 2 512 (by omega) rfl _ _ X5 X6 _ _ (pay78_at _ _ _) (mat_ld_cols _ _) (mat_ld_cols _ _) y x (by simpa using h0) (by simpa using h1)
    · exact head_of 1 256 (by omega) rfl _ _ X5 X6 _ _ (pay6_at _ _ _) (mat_ld_cols _ _) (mat_ld_cols _ _) y x (by simpa using h0) (by simpa using h1)
    · exact head_of 0 0 (by omega) rfl _ _ X5 X6 _ _ (pay45_zero _ _ _ _ _ _ _) (mat_ld_cols _ _) (mat_ld_cols _ _) y x (by simpa using h0) (by simpa using h1)
  clear hO
  subst hA
  simp only [same1, same2, same3, same4, same11, same12, same13, same14, same15, same16, same17, same18, same19, same20, same21, same22, same23, same24,
    same25, same26, same27, same28, same29, same30, same31]
  refine (pay32_at _ _ r j).trans ?_
  have h2 := attended_row X0 X1 X2 X3 X4 X5 X6 X7 r
  have h3 : row (Cert.KernelIdeal.Gen.k0_pay11 (F := Ideal) (Cert.KernelIdeal.Gen.k0_pay10 (Cert.KernelIdeal.Gen.k0_pay2 X0 X1 X2)
    (attention (Cert.KernelIdeal.Gen.k0_pay3 X0 X1 X2 X3 X4) X5 X6) X7) X8) r = _ := funext fun k => pay11_at _ _ r k
  rw [h2] at h3
  rw [add30, add29, add25, add24, add22, add21, add18, add17, add15, add14, first]
  simp only [postRow]
  refine congrArg₂ (· + ·) (congrFun h2 j) (congrArg _ ?_)
  rw [ffn_eq_chunks, ← h3]
  simp only [Fin.sum_univ_castSucc, Fin.sum_univ_zero, add, mat_ld_cols, mat_ld_rows, zero_add]
  rfl

end Cert.Kernel4Ideal.Stages

end
-- ==== Proof.Final4.lean ====
module

public import proofs.«01_k».proof.Proof.Stages4
public import proofs.«01_k».proof.Proof.Spec

@[expose] public section

set_option maxRecDepth 16384

noncomputable section

/-! The result array of the kernel without the final normalisation. -/

namespace Cert.Kernel4Ideal.Stages

open Cert.Kernel4Ideal Cert.Kernel4Ideal.Gen Idealize.ShloMosaic Idealize.ShloMosaic.TcCoe Idealize.SL.Sem Cert.Rows

/-- Which block of its array each grid point reads and writes. -/
theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![t.val / 4, 0] ∧ win0_6.index t = ![t.val / 4, 1] ∧ win0_7.index t = ![0, 0]
    ∧ win0_8.index t = ![0, 0] ∧ win0_9.index t = ![0, 0] ∧ win0_10.index t = ![0, 0]
    ∧ win0_11.index t = ![t.val, 0] ∧ t.val < 32 :=
  (by decide +kernel : ∀ t : Fin grid0.N, _)

variable (m : (ℓ : Loc nD τ sig) → Buf (Elt Ideal) ℓ) (c : Dev nD) (t : Fin cfg0.N)

theorem blk0 (r : Fin 512) (k : Fin 1024) (h : 512 * t.val + r < 16384) :
    iblk m c 0 t (ix2 r k) = m ((c : Thread nD τ).loc main_arg0) (ix2 ⟨512 * t + r, h⟩ k) := by
  blk_ext [iblk, V, idx t]
theorem blk1 (r : Fin 512) (k : Fin 1024) (h : 512 * t.val + r < 16384) :
    iblk m c 1 t (ix2 r k) = m ((c : Thread nD τ).loc main_arg1) (ix2 ⟨512 * t + r, h⟩ k) := by
  blk_ext [iblk, V, idx t]
theorem blk2 (k j : Fin 1024) : iblk m c 2 t (ix2 k j) = m ((c : Thread nD τ).loc main_arg3) (ix2 k j) := by
  blk_point [iblk, V, idx t]
theorem blk3 (k : Fin 1024) : iblk m c 3 t (ix2 0 k) = m ((c : Thread nD τ).loc main_arg4) (ix1 k) := by
  blk_point [iblk, V, idx t]
theorem blk4 (k j : Fin 1024) : iblk m c 4 t (ix2 k j) = m ((c : Thread nD τ).loc main_arg5) (ix2 k j) := by
  blk_point [iblk, V, idx t]
theorem blk5 (k : Fin 256) (j : Fin 1024) (i : Fin 16384) (h : i.val / 2048 = t.val / 4) :
    iblk m c 5 t (ix2 k j) = keys (m ((c : Thread nD τ).loc main_arg2)) i k j := by
  unfold keys
  blk_ext [iblk, V, idx t]
theorem blk6 (k : Fin 256) (j : Fin 1024) (i : Fin 16384) (h : i.val / 2048 = t.val / 4) :
    iblk m c 6 t (ix2 k j) = values (m ((c : Thread nD τ).loc main_arg2)) i k j := by
  unfold values
  blk_ext [iblk, V, idx t]
theorem blk7 (k j : Fin 1024) : iblk m c 7 t (ix2 k j) = m ((c : Thread nD τ).loc main_arg6) (ix2 k j) := by
  blk_point [iblk, V, idx t]
theorem blk8 (k : Fin 1024) : iblk m c 8 t (ix2 0 k) = m ((c : Thread nD τ).loc main_arg7) (ix1 k) := by
  blk_point [iblk, V, idx t]
theorem blk9 (k : Fin 1024) (j : Fin 5632) : iblk m c 9 t (ix2 k j) = m ((c : Thread nD τ).loc main_arg8) (ix2 k j) := by
  blk_point [iblk, V, idx t]
theorem blk10 (k : Fin 2816) (j : Fin 1024) : iblk m c 10 t (ix2 k j) = m ((c : Thread nD τ).loc main_arg9) (ix2 k j) := by
  blk_point [iblk, V, idx t]
/-- The kernel's result, from the argument arrays. -/
abbrev result (m : (ℓ : Loc nD τ sig) → Buf (Elt Ideal) ℓ) (c : Dev nD) : S16384x1024.Idx → EReal :=
  inner (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

theorem point (r : Fin 512) (j : Fin 1024) (h : 512 * t.val + r < 16384) :
    outsAt0 m c t (ix2 r j) = result m c (ix2 ⟨512 * t + r, h⟩ j) := by
  have hi : (⟨512 * t.val + r, h⟩ : Fin 16384).val / 2048 = t.val / 4 := by
    show (512 * t.val + r) / 2048 = _
    omega
  refine (block m c t r j).trans ?_
  have e0 : row (iblk m c 0 t) r = row (m ((c : Thread nD τ).loc main_arg0)) ⟨512 * t + r, h⟩ := funext fun k => blk0 m c t r k h
  have e1 : row (iblk m c 1 t) r = row (m ((c : Thread nD τ).loc main_arg1)) ⟨512 * t + r, h⟩ := funext fun k => blk1 m c t r k h
  have e2 : mat (iblk m c 2 t) = mat (m ((c : Thread nD τ).loc main_arg3)) := funext fun k => funext fun j => blk2 m c t k j
  have e3 : row (iblk m c 3 t) 0 = vec (m ((c : Thread nD τ).loc main_arg4)) := funext fun k => blk3 m c t k
  have e4 : mat (iblk m c 4 t) = mat (m ((c : Thread nD τ).loc main_arg5)) := funext fun k => funext fun j => blk4 m c t k j
  have e5 : mat (iblk m c 5 t) = keys (m ((c : Thread nD τ).loc main_arg2)) ⟨512 * t + r, h⟩ := funext fun k => funext fun j => blk5 m c t k j _ hi
  have e6 : mat (iblk m c 6 t) = values (m ((c : Thread nD τ).loc main_arg2)) ⟨512 * t + r, h⟩ := funext fun k => funext fun j => blk6 m c t k j _ hi
  have e7 : mat (iblk m c 7 t) = mat (m ((c : Thread nD τ).loc main_arg6)) := funext fun k => funext fun j => blk7 m c t k j
  have e8 : row (iblk m c 8 t) 0 = vec (m ((c : Thread nD τ).loc main_arg7)) := funext fun k => blk8 m c t k
  have e9 : mat (iblk m c 9 t) = mat (m ((c : Thread nD τ).loc main_arg8)) := funext fun k => funext fun j => blk9 m c t k j
  have e10 : mat (iblk m c 10 t) = mat (m ((c : Thread nD τ).loc main_arg9)) := funext fun k => funext fun j => blk10 m c t k j
  rw [e0, e1, e2, e3, e4, e5, e6, e7, e8, e9, e10]
  rfl

theorem final (m : (ℓ : Loc nD τ sig) → Buf (Elt Ideal) ℓ) (c : Dev nD) : (dats m 0 c).arrAt 11 cfg0.N = result m c := by
  refine (dats m 0 c).arrAt_eq_of_covers 11 _ (by decide +kernel) fun t hf y => ?_
  blk_simp
  rw [after0_11]
  idx_vars y
  have ht : t.val < 32 := (idx t).2.2.2.2.2.2.2.2.2.2.2.2
  refine (point m c t y0 y1 (by omega)).trans ?_
  blk_ext [idx t]

end Cert.Kernel4Ideal.Stages

end
-- ==== Proof.Stages5.lean ====
module

public import proofs.«01_k».proof.Proof.Gen.Kernel5Ideal.Skeleton
public import proofs.«01_k».proof.Proof.Stages

@[expose] public section

set_option maxRecDepth 16384

noncomputable section

/-! What each vector stage of the sample tokens' feed-forward kernel holds at one row and column. -/

namespace Cert.Kernel5Ideal.Stages

open Cert.Kernel5Ideal Cert.Kernel5Ideal.Gen Idealize.ShloMosaic Cert.Rows

theorem pay2_at (x o : FVec Ideal S128x1024 .f32) (w : FVec Ideal S1024x1024 .bf16) (r : Fin 128) (j : Fin 1024) :
    k0_pay2 (F := Ideal) x o w (ix2 r j) = x (ix2 r j) + rowMul (row o r) (mat w) j := by
  pointwise! [k0_pay2, rowMul]

theorem pay3_at (x : FVec Ideal S128x1024 .f32) (w : FVec Ideal S1x1024 .f32) (r : Fin 128) (j : Fin 1024) :
    k0_pay3 (F := Ideal) x w (ix2 r j) = rms (row x r) (row w 0) j := by
  pointwise! [k0_pay3, rms]

section
variable (h : FVec Ideal S128x1024 .bf16) (g u : FVec Ideal S1024x256 .bf16) (w : FVec Ideal S256x1024 .bf16) (a : FVec Ideal S128x1024 .f32)

/-- One more chunk of hidden columns on top of what is summed up already. -/
abbrev add : FVec Ideal S128x1024 .f32 := fun i => a i + chunk (row h (i 0)) (mat g) (mat u) (mat w) (i 1)

theorem first (x : FVec Ideal S128x1024 .f32) (n : FVec Ideal S1x1024 .f32) :
    k0_pay5 (F := Ideal) (k0_pay4 (F := Ideal) x n g u) w = fun i => chunk (row (k0_pay3 (F := Ideal) x n) (i 0)) (mat g) (mat u) (mat w) (i 1) := by
  funext i; idx_vars i; pointwise! [k0_pay5, k0_pay4, chunk, gated, rowMul]
theorem add6 : k0_pay6 (F := Ideal) h g u w a = add h g u w a := by
  funext i; idx_vars i; pointwise! [k0_pay6, add, chunk, gated, rowMul]
theorem add7 : k0_pay8 (F := Ideal) (k0_pay7 (F := Ideal) h g u) w a = add h g u w a := by
  funext i; idx_vars i; pointwise! [k0_pay8, k0_pay7, add, chunk, gated, rowMul]
theorem add9 : k0_pay9 (F := Ideal) h g u w a = add h g u w a := by
  funext i; idx_vars i; pointwise! [k0_pay9, add, chunk, gated, rowMul]
theorem add10 : k0_pay12 (F := Ideal) (k0_pay10 (F := Ideal) h g) (k0_pay11 (F := Ideal) h u) w a = add h g u w a := by
  funext i; idx_vars i; pointwise! [k0_pay12, k0_pay11, k0_pay10, add, chunk, gated, rowMul]
theorem add13 : k0_pay13 (F := Ideal) h g u w a = add h g u w a := by
  funext i; idx_vars i; pointwise! [k0_pay13, add, chunk, gated, rowMul]
theorem add14 : k0_pay15 (F := Ideal) h (k0_pay14 (F := Ideal) h g) u w a = add h g u w a := by
  funext i; idx_vars i; pointwise! [k0_pay15, k0_pay14, add, chunk, gated, rowMul]
theorem add16 : k0_pay16 (F := Ideal) h g u w a = add h g u w a := by
  funext i; idx_vars i; pointwise! [k0_pay16, add, chunk, gated, rowMul]
theorem add17 : k0_pay18 (F := Ideal) h (k0_pay17 (F := Ideal) g) u w a = add h g u w a := by
  funext i; idx_vars i; pointwise! [k0_pay18, k0_pay17, add, chunk, gated, rowMul]
theorem add19 : k0_pay19 (F := Ideal) h g u w a = add h g u w a := by
  funext i; idx_vars i; pointwise! [k0_pay19, add, chunk, gated, rowMul]
theorem add20 : k0_pay20 (F := Ideal) h g u w a = add h g u w a := by
  funext i; idx_vars i; pointwise! [k0_pay20, add, chunk, gated, rowMul]
end

theorem pay21_at (x a : FVec Ideal S128x1024 .f32) (r : Fin 128) (j : Fin 1024) :
    k0_pay21 (F := Ideal) x a (ix2 r j) = x (ix2 r j) + Ideal.ofBits .f32 0x3F000000#32 * a (ix2 r j) := by
  pointwise! [k0_pay21]

theorem last_at (x : FVec Ideal S128x1024 .f32) (w : FVec Ideal S1x1024 .f32) (r : Fin 128) (j : Fin 1024) :
    k0_pay1 (F := Ideal) (k0_pay22 (F := Ideal) x) (k0_pay23 (F := Ideal) w) (k0_pay24 (F := Ideal) x) (Scalar.ofBits .f32 0x44800000#32) (ix2 r j)
      = rms (row x r) (row w 0) j := by
  pointwise! [k0_pay1, k0_pay22, k0_pay23, k0_pay24, rms]

end Cert.Kernel5Ideal.Stages

end
-- ==== Proof.Block5.lean ====
module

public import proofs.«01_k».proof.Proof.Gen.Kernel5Ideal.Value
public import proofs.«01_k».proof.Proof.Stages5
public import proofs.«01_k».proof.Proof.Block
public import proofs.«01_k».proof.Proof.Columns

@[expose] public section

set_option maxRecDepth 16384

noncomputable section

/-! What the sample tokens' feed-forward kernel writes, row by row. -/

namespace Cert.Kernel5Ideal.Stages

open Cert.Kernel5Ideal Cert.Kernel5Ideal.Gen Idealize.ShloMosaic Idealize.ShloMosaic.TcCoe Idealize.SL.Sem Cert.Rows
open Cert.KernelIdeal.Stages (mat_ld_cols mat_ld_rows)

variable (m : (ℓ : Loc nD τ sig) → Buf (Elt Ideal) ℓ)

set_option maxHeartbeats 1600000 in
/-- What the kernel writes, at row `r` of its block. -/
theorem block (c : Dev nD) (t : Fin cfg0.N) (r : Fin 128) (j : Fin 1024) :
    outsAt0 m c t (ix2 r j) = sampleRow (row (iblk m c 0 t) r) (row (iblk m c 1 t) r) (mat (iblk m c 2 t)) (row (iblk m c 3 t) 0)
      (mat (iblk m c 4 t)) (mat (iblk m c 5 t)) (row (iblk m c 6 t) 0) j := by
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  refine (last_at _ _ r j).trans (congrArg (rms · _ j) (funext fun i => ?_))
  refine (pay21_at _ _ r i).trans ?_
  have h1 : row (k0_pay2 (F := Ideal) X0 X1 X2) r = fun k => row X0 r k + rowMul (row X1 r) (mat X2) k := funext fun k => pay2_at _ _ _ r k
  have h : row (k0_pay3 (F := Ideal) (k0_pay2 X0 X1 X2) X3) r = rms (row (k0_pay2 (F := Ideal) X0 X1 X2) r) (row X3 0) := funext fun k => pay3_at _ _ r k
  rw [add20, add19, add17, add16, add14, add13, add10, add9, add7, add6, first]
  rw [← h1]
  refine congrArg₂ (· + ·) rfl (congrArg _ ?_)
  rw [ffn_eq_chunks, ← h]
  simp only [Fin.sum_univ_castSucc, Fin.sum_univ_zero, add, mat_ld_cols, mat_ld_rows, zero_add]
  rfl

end Cert.Kernel5Ideal.Stages

end
-- ==== Proof.Final5.lean ====
module

public import proofs.«01_k».proof.Proof.Block5

@[expose] public section

set_option maxRecDepth 16384

noncomputable section

/-! The result array of the sample tokens' feed-forward kernel. -/

namespace Cert.Kernel5Ideal.Stages

open Cert.Kernel5Ideal Cert.Kernel5Ideal.Gen Idealize.ShloMosaic Idealize.ShloMosaic.TcCoe Idealize.SL.Sem Cert.Rows

variable (m : (ℓ : Loc nD τ sig) → Buf (Elt Ideal) ℓ)

/-- Which block of its array the grid's point reads and writes: the first and only one. -/
theorem idx : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable (c : Dev nD) (t : Fin cfg0.N)

theorem blk0 (r : Fin 128) (k : Fin 1024) : iblk m c 0 t (ix2 r k) = m ((c : Thread nD τ).loc main_arg0) (ix2 r k) := by
  blk_point [iblk, V, idx t]
theorem blk1 (r : Fin 128) (k : Fin 1024) : iblk m c 1 t (ix2 r k) = m ((c : Thread nD τ).loc main_arg1) (ix2 r k) := by
  blk_point [iblk, V, idx t]
theorem blk2 (k j : Fin 1024) : iblk m c 2 t (ix2 k j) = m ((c : Thread nD τ).loc main_arg2) (ix2 k j) := by
  blk_point [iblk, V, idx t]
theorem blk3 (k : Fin 1024) : iblk m c 3 t (ix2 0 k) = m ((c : Thread nD τ).loc main_arg3) (ix1 k) := by
  blk_point [iblk, V, idx t]
theorem blk4 (k : Fin 1024) (j : Fin 5632) : iblk m c 4 t (ix2 k j) = m ((c : Thread nD τ).loc main_arg4) (ix2 k j) := by
  blk_point [iblk, V, idx t]
theorem blk5 (k : Fin 2816) (j : Fin 1024) : iblk m c 5 t (ix2 k j) = m ((c : Thread nD τ).loc main_arg5) (ix2 k j) := by
  blk_point [iblk, V, idx t]
theorem blk6 (k : Fin 1024) : iblk m c 6 t (ix2 0 k) = m ((c : Thread nD τ).loc main_arg6) (ix1 k) := by
  blk_point [iblk, V, idx t]

/-- The kernel's result, from the argument arrays. -/
abbrev result (m : (ℓ : Loc nD τ sig) → Buf (Elt Ideal) ℓ) (c : Dev nD) : S128x1024.Idx → EReal :=
  sample (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem point (r : Fin 128) (j : Fin 1024) : outsAt0 m c t (ix2 r j) = result m c (ix2 r j) := by
  refine (block m c t r j).trans ?_
  have e0 : row (iblk m c 0 t) r = row (m ((c : Thread nD τ).loc main_arg0)) r := funext fun k => blk0 m c t r k
  have e1 : row (iblk m c 1 t) r = row (m ((c : Thread nD τ).loc main_arg1)) r := funext fun k => blk1 m c t r k
  have e2 : mat (iblk m c 2 t) = mat (m ((c : Thread nD τ).loc main_arg2)) := funext fun k => funext fun j => blk2 m c t k j
  have e3 : row (iblk m c 3 t) 0 = vec (m ((c : Thread nD τ).loc main_arg3)) := funext fun k => blk3 m c t k
  have e4 : mat (iblk m c 4 t) = mat (m ((c : Thread nD τ).loc main_arg4)) := funext fun k => funext fun j => blk4 m c t k j
  have e5 : mat (iblk m c 5 t) = mat (m ((c : Thread nD τ).loc main_arg5)) := funext fun k => funext fun j => blk5 m c t k j
  have e6 : row (iblk m c 6 t) 0 = vec (m ((c : Thread nD τ).loc main_arg6)) := funext fun k => blk6 m c t k
  rw [e0, e1, e2, e3, e4, e5, e6]
  rfl

theorem final (m : (ℓ : Loc nD τ sig) → Buf (Elt Ideal) ℓ) (c : Dev nD) : (dats m 0 c).arrAt 7 cfg0.N = result m c := by
  refine (dats m 0 c).arrAt_eq_of_covers 7 _ (by decide +kernel) fun t hf y => ?_
  blk_simp
  rw [after0_7]
  idx_vars y
  refine (point m c t y0 y1).trans ?_
  blk_ext [idx t]

end Cert.Kernel5Ideal.Stages

end
-- ==== Proof.Stages6.lean ====
module

public import proofs.«01_k».proof.Proof.Gen.Kernel6Ideal.Skeleton
public import proofs.«01_k».proof.Proof.Stages5

@[expose] public section

set_option maxRecDepth 16384

noncomputable section

/-! What each vector stage of the sample tokens' feed-forward and in-projection kernel holds at one row and column. -/

namespace Cert.Kernel6Ideal.Stages

open Cert.Kernel6Ideal Cert.Kernel6Ideal.Gen Idealize.ShloMosaic Cert.Rows
open Cert.Kernel5Ideal.Stages (add)

theorem pay2_at (x : FVec Ideal S128x1024 .f32) (w : FVec Ideal S1x1024 .f32) (r : Fin 128) (j : Fin 1024) :
    k0_pay2 (F := Ideal) x w (ix2 r j) = rms (row x r) (row w 0) j := by
  pointwise! [k0_pay2, rms]

section
variable (h : FVec Ideal S128x1024 .bf16) (g u : FVec Ideal S1024x256 .bf16) (w : FVec Ideal S256x1024 .bf16) (a : FVec Ideal S128x1024 .f32)

theorem first (x : FVec Ideal S128x1024 .f32) (n : FVec Ideal S1x1024 .f32) :
    k0_pay3 (F := Ideal) x n g u w = fun i => chunk (row (k0_pay2 (F := Ideal) x n) (i 0)) (mat g) (mat u) (mat w) (i 1) := by
  funext i; idx_vars i; pointwise! [k0_pay3, chunk, gated, rowMul]
theorem add4 : k0_pay4 (F := Ideal) h g u w a = add h g u w a := by
  funext i; idx_vars i; pointwise! [k0_pay4, add, chunk, gated, rowMul]
theorem add5 : k0_pay6 (F := Ideal) (k0_pay5 (F := Ideal) h g u w a) = add h g u w a := by
  funext i; idx_vars i; pointwise! [k0_pay6, k0_pay5, add, chunk, gated, rowMul]
theorem add7 : k0_pay7 (F := Ideal) h g u w a = add h g u w a := by
  funext i; idx_vars i; pointwise! [k0_pay7, add, chunk, gated, rowMul]
theorem add8 : k0_pay9 (F := Ideal) (k0_pay8 (F := Ideal) h g u w) a = add h g u w a := by
  funext i; idx_vars i; pointwise! [k0_pay9, k0_pay8, add, chunk, gated, rowMul]
theorem add10 : k0_pay10 (F := Ideal) h g u w a = add h g u w a := by
  funext i; idx_vars i; pointwise! [k0_pay10, add, chunk, gated, rowMul]
theorem add11 : k0_pay12 (F := Ideal) (k0_pay11 (F := Ideal) h g u) w a = add h g u w a := by
  funext i; idx_vars i; pointwise! [k0_pay12, k0_pay11, add, chunk, gated, rowMul]
theorem add13 : k0_pay13 (F := Ideal) h g u w a = add h g u w a := by
  funext i; idx_vars i; pointwise! [k0_pay13, add, chunk, gated, rowMul]
theorem add14 : k0_pay15 (F := Ideal) (k0_pay14 (F := Ideal) h g u) w a = add h g u w a := by
  funext i; idx_vars i; pointwise! [k0_pay15, k0_pay14, add, chunk, gated, rowMul]
theorem add16 : k0_pay16 (F := Ideal) h g u w a = add h g u w a := by
  funext i; idx_vars i; pointwise! [k0_pay16, add, chunk, gated, rowMul]
theorem add17 : k0_pay19 (F := Ideal) h (k0_pay17 (F := Ideal) h g) (k0_pay18 (F := Ideal) u) (constant S128x256 .f32 0x00000000#32) w a = add h g u w a := by
  funext i; idx_vars i; pointwise! [k0_pay19, k0_pay18, k0_pay17, add, chunk, gated, rowMul]
end

theorem pay20_at (x a : FVec Ideal S128x1024 .f32) (r : Fin 128) (j : Fin 1024) :
    k0_pay20 (F := Ideal) x a (ix2 r j) = x (ix2 r j) + Ideal.ofBits .f32 0x3F000000#32 * a (ix2 r j) := by
  pointwise! [k0_pay20]

theorem pay21_at (x : FVec Ideal S128x1024 .f32) (w : FVec Ideal S1x1024 .f32) (r : Fin 128) (j : Fin 1024) :
    k0_pay21 (F := Ideal) x w (ix2 r j) = rms (row x r) (row w 0) j := by
  pointwise! [k0_pay21, rms]

theorem pay1_at (h : FVec Ideal S128x1024 .bf16) (w : FVec Ideal S1024x3456 .bf16) (r : Fin 128) (j : Fin 3456) :
    k0_pay1 (F := Ideal) h w (ix2 r j) = rowMul (row h r) (mat w) j := by
  pointwise! [k0_pay1, rowMul]

end Cert.Kernel6Ideal.Stages

end
-- ==== Proof.Block6.lean ====
module

public import proofs.«01_k».proof.Proof.Gen.Kernel6Ideal.Value
public import proofs.«01_k».proof.Proof.Stages6
public import proofs.«01_k».proof.Proof.Block
public import proofs.«01_k».proof.Proof.Columns

@[expose] public section

set_option maxRecDepth 16384

noncomputable section

/-! What one grid point of the sample tokens' feed-forward and in-projection kernel writes, row by row. -/

namespace Cert.Kernel6Ideal.Stages

open Cert.Kernel6Ideal Cert.Kernel6Ideal.Gen Idealize.ShloMosaic Idealize.ShloMosaic.TcCoe Idealize.SL.Sem Cert.Rows
open Cert.KernelIdeal.Stages (mat_ld_cols mat_ld_rows)
open Cert.Kernel5Ideal.Stages (add)

variable (m : (ℓ : Loc nD τ sig) → Buf (Elt Ideal) ℓ)

set_option maxHeartbeats 1600000 in
/-- The residual stream that point `t` writes, at row `r` of its block. -/
theorem block (c : Dev nD) (t : Fin cfg0.N) (r : Fin 128) (j : Fin 1024) :
    (outsAt0 m c t).1 (ix2 r j) = ffnRow (row (iblk m c 0 t) r) (row (iblk m c 1 t) 0) (mat (iblk m c 2 t)) (mat (iblk m c 3 t)) j := by
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  refine (pay20_at _ _ r j).trans ?_
  have h : row (k0_pay2 (F := Ideal) X0 X1) r = rms (row X0 r) (row X1 0) := funext fun k => pay2_at _ _ r k
  rw [add17, add16, add14, add13, add11, add10, add8, add7, add5, add4, first]
  refine congrArg₂ (· + ·) rfl (congrArg _ ?_)
  rw [ffn_eq_chunks, ← h]
  simp only [Fin.sum_univ_castSucc, Fin.sum_univ_zero, add, mat_ld_cols, mat_ld_rows, zero_add]
  rfl

set_option maxHeartbeats 1600000 in
/-- The projections that point `t` writes, from the residual stream it writes. -/
theorem block_proj (c : Dev nD) (t : Fin cfg0.N) (r : Fin 128) (j : Fin 3456) :
    (outsAt0 m c t).2 (ix2 r j) = rowMul (rms (row (outsAt0 m c t).1 r) (row (iblk m c 4 t) 0)) (mat (iblk m c 5 t)) j := by
  unfold outsAt0
  frame_open
  simp (disch := decide) only [↓ View.readCov_skip, ↓ View.readCov_cons_toLoadRect, ↓ View.readCov_fill]
  frame_out
  refine (pay1_at _ _ r j).trans (congrArg (rowMul · _ j) (funext fun k => ?_))
  refine (pay21_at _ _ r k).trans ?_
  rfl

end Cert.Kernel6Ideal.Stages

end
-- ==== Proof.Final6.lean ====
module

public import proofs.«01_k».proof.Proof.Block6
public import proofs.«01_k».proof.Proof.Final2

@[expose] public section

set_option maxRecDepth 16384

noncomputable section

/-! The sample tokens' feed-forward and in-projection kernel's result arrays. -/

namespace Cert.Kernel6Ideal.Stages

open Cert.Kernel6Ideal Cert.Kernel6Ideal.Gen Idealize.ShloMosaic Idealize.ShloMosaic.TcCoe Idealize.SL.Sem Cert.Rows
open Cert.Kernel2Ideal.Stages (packed)

/-- Which block of its array the grid's point reads and writes: the first and only one. -/
theorem idx : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ) (c : Dev nD) (t : Fin cfg0.N)

theorem blk0 (r : Fin 128) (k : Fin 1024) : iblk m c 0 t (ix2 r k) = m ((c : Thread nD τ).loc main_arg0) (ix2 r k) := by
  blk_point [iblk, V, idx t]
theorem blk1 (k : Fin 1024) : iblk m c 1 t (ix2 0 k) = m ((c : Thread nD τ).loc main_arg1) (ix1 k) := by
  blk_point [iblk, V, idx t]
theorem blk2 (k : Fin 1024) (j : Fin 5632) : iblk m c 2 t (ix2 k j) = m ((c : Thread nD τ).loc main_arg2) (ix2 k j) := by
  blk_point [iblk, V, idx t]
theorem blk3 (k : Fin 2816) (j : Fin 1024) : iblk m c 3 t (ix2 k j) = m ((c : Thread nD τ).loc main_arg3) (ix2 k j) := by
  blk_point [iblk, V, idx t]
theorem blk4 (k : Fin 1024) : iblk m c 4 t (ix2 0 k) = m ((c : Thread nD τ).loc main_arg4) (ix1 k) := by
  blk_point [iblk, V, idx t]

theorem blk5 (k : Fin 1024) (j : Fin 3456) :
    iblk m c 5 t (ix2 k j) = ordered (fun i => m ((c : Thread nD τ).loc main_arg5) (ix2 k i)) j := by
  refine Eq.trans ?_ (packed (m ((c : Thread nD τ).loc main_arg5)) k j)
  blk_ext [iblk, V, idx t]

/-- The two results, from the argument arrays. -/
abbrev result6 (m : (ℓ : Loc nD τ sig) → Buf (Elt Ideal) ℓ) (c : Dev nD) : S128x1024.Idx → EReal :=
  stream (m ((c : Thread nD τ).loc main_arg0)) (m ((c : Thread nD τ).loc main_arg1)) (m ((c : Thread nD τ).loc main_arg2))
    (m ((c : Thread nD τ).loc main_arg3))
abbrev result7 (m : (ℓ : Loc nD τ sig) → Buf (Elt Ideal) ℓ) (c : Dev nD) : S128x3456.Idx → EReal :=
  proj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem point6 (r : Fin 128) (j : Fin 1024) :
    (outsAt0 m c t).1 (ix2 r j) = result6 m c (ix2 r j) := by
  refine (block m c t r j).trans ?_
  have e0 : row (iblk m c 0 t) r = row (m ((c : Thread nD τ).loc main_arg0)) r := funext fun k => blk0 m c t r k
  have e1 : row (iblk m c 1 t) 0 = vec (m ((c : Thread nD τ).loc main_arg1)) := funext fun k => blk1 m c t k
  have e2 : mat (iblk m c 2 t) = mat (m ((c : Thread nD τ).loc main_arg2)) := funext fun k => funext fun j => blk2 m c t k j
  have e3 : mat (iblk m c 3 t) = mat (m ((c : Thread nD τ).loc main_arg3)) := funext fun k => funext fun j => blk3 m c t k j
  rw [e0, e1, e2, e3]
  rfl

theorem point7 (r : Fin 128) (j : Fin 3456) :
    (outsAt0 m c t).2 (ix2 r j) = result7 m c (ix2 r j) := by
  refine (block_proj m c t r j).trans ?_
  have e0 : row (outsAt0 m c t).1 r = row (result6 m c) r := funext fun k => point6 m c t r k
  have e4 : row (iblk m c 4 t) 0 = vec (m ((c : Thread nD τ).loc main_arg4)) := funext fun k => blk4 m c t k
  have e5 : mat (iblk m c 5 t) = fun k => ordered (mat (m ((c : Thread nD τ).loc main_arg5)) k) := funext fun k => funext fun j => blk5 m c t k j
  rw [e0, e4, e5, rowMul_ordered]
  rfl

theorem final6 (m : (ℓ : Loc nD τ sig) → Buf (Elt Ideal) ℓ) (c : Dev nD) : (dats m 0 c).arrAt 6 cfg0.N = result6 m c := by
  refine (dats m 0 c).arrAt_eq_of_covers 6 _ (by decide +kernel) fun t hf y => ?_
  blk_simp
  rw [after0_6]
  idx_vars y
  refine (point6 m c t y0 y1).trans ?_
  blk_ext [idx t]

theorem final7 (m : (ℓ : Loc nD τ sig) → Buf (Elt Ideal) ℓ) (c : Dev nD) : (dats m 0 c).arrAt 7 cfg0.N = result7 m c := by
  refine (dats m 0 c).arrAt_eq_of_covers 7 _ (by decide +kernel) fun t hf y => ?_
  blk_simp
  rw [after0_7]
  idx_vars y
  refine (point7 m c t y0 y1).trans ?_
  blk_ext [idx t]

end Cert.Kernel6Ideal.Stages

end
-- ==== Proof.Stages7.lean ====
module

public import proofs.«01_k».proof.Proof.Gen.Kernel7Ideal.Skeleton
public import proofs.«01_k».proof.Proof.Stages5

@[expose] public section

set_option maxRecDepth 16384

noncomputable section

/-! The sample tokens' feed-forward kernel without the final normalisation: its vector stages are those of the one with it. -/

namespace Cert.Kernel7Ideal.Stages

open Cert.Kernel7Ideal Cert.Kernel7Ideal.Gen Idealize.ShloMosaic

theorem same1 (v24 : FVec Ideal S128x1024 .bf16) (v203 : Vec Ideal S1024x256 .bf16) (v206 : Vec Ideal S1024x256 .bf16) (v213 : Vec Ideal S256x1024 .bf16) (v216 : Vec Ideal S128x1024 .f32) : k0_pay1 (F := Ideal) v24 v203 v206 v213 v216 = Cert.Kernel5Ideal.Gen.k0_pay20 (F := Ideal) v24 v203 v206 v213 v216 := rfl
theorem same2 (v221 : Vec Ideal S128x1024 .f32) (v223 : Vec Ideal S128x1024 .f32) : k0_pay2 (F := Ideal) v221 v223 = Cert.Kernel5Ideal.Gen.k0_pay21 (F := Ideal) v221 v223 := rfl
theorem same3 (v0 : Vec Ideal S128x1024 .f32) (v1 : Vec Ideal S128x1024 .f32) (v2 : Vec Ideal S1024x1024 .bf16) : k0_pay3 (F := Ideal) v0 v1 v2 = Cert.Kernel5Ideal.Gen.k0_pay2 (F := Ideal) v0 v1 v2 := rfl
theorem same4 (v8 : Vec Ideal S128x1024 .f32) (v10 : Vec Ideal S1x1024 .f32) : k0_pay4 (F := Ideal) v8 v10 = Cert.Kernel5Ideal.Gen.k0_pay3 (F := Ideal) v8 v10 := rfl
theorem same5 (v8 : Vec Ideal S128x1024 .f32) (v10 : Vec Ideal S1x1024 .f32) (v25 : Vec Ideal S1024x256 .bf16) (v28 : Vec Ideal S1024x256 .bf16) : k0_pay5 (F := Ideal) v8 v10 v25 v28 = Cert.Kernel5Ideal.Gen.k0_pay4 (F := Ideal) v8 v10 v25 v28 := rfl
theorem same6 (v34 : FVec Ideal S128x256 .bf16) (v35 : Vec Ideal S256x1024 .bf16) : k0_pay6 (F := Ideal) v34 v35 = Cert.Kernel5Ideal.Gen.k0_pay5 (F := Ideal) v34 v35 := rfl
theorem same7 (v24 : FVec Ideal S128x1024 .bf16) (v41 : Vec Ideal S1024x256 .bf16) (v44 : Vec Ideal S1024x256 .bf16) (v51 : Vec Ideal S256x1024 .bf16) (v54 : Vec Ideal S128x1024 .f32) : k0_pay7 (F := Ideal) v24 v41 v44 v51 v54 = Cert.Kernel5Ideal.Gen.k0_pay6 (F := Ideal) v24 v41 v44 v51 v54 := rfl
theorem same8 (v24 : FVec Ideal S128x1024 .bf16) (v59 : Vec Ideal S1024x256 .bf16) (v62 : Vec Ideal S1024x256 .bf16) : k0_pay8 (F := Ideal) v24 v59 v62 = Cert.Kernel5Ideal.Gen.k0_pay7 (F := Ideal) v24 v59 v62 := rfl
theorem same9 (v68 : FVec Ideal S128x256 .bf16) (v69 : Vec Ideal S256x1024 .bf16) (v72 : Vec Ideal S128x1024 .f32) : k0_pay9 (F := Ideal) v68 v69 v72 = Cert.Kernel5Ideal.Gen.k0_pay8 (F := Ideal) v68 v69 v72 := rfl
theorem same10 (v24 : FVec Ideal S128x1024 .bf16) (v77 : Vec Ideal S1024x256 .bf16) (v80 : Vec Ideal S1024x256 .bf16) (v87 : Vec Ideal S256x1024 .bf16) (v90 : Vec Ideal S128x1024 .f32) : k0_pay10 (F := Ideal) v24 v77 v80 v87 v90 = Cert.Kernel5Ideal.Gen.k0_pay9 (F := Ideal) v24 v77 v80 v87 v90 := rfl
theorem same11 (v24 : FVec Ideal S128x1024 .bf16) (v95 : Vec Ideal S1024x256 .bf16) : k0_pay11 (F := Ideal) v24 v95 = Cert.Kernel5Ideal.Gen.k0_pay10 (F := Ideal) v24 v95 := rfl
theorem same12 (v24 : FVec Ideal S128x1024 .bf16) (v98 : Vec Ideal S1024x256 .bf16) : k0_pay12 (F := Ideal) v24 v98 = Cert.Kernel5Ideal.Gen.k0_pay11 (F := Ideal) v24 v98 := rfl
theorem same13 (v97 : FVec Ideal S128x256 .f32) (v100 : FVec Ideal S128x256 .f32) (v105 : Vec Ideal S256x1024 .bf16) (v108 : Vec Ideal S128x1024 .f32) : k0_pay13 (F := Ideal) v97 v100 v105 v108 = Cert.Kernel5Ideal.Gen.k0_pay12 (F := Ideal) v97 v100 v105 v108 := rfl
theorem same14 (v24 : FVec Ideal S128x1024 .bf16) (v113 : Vec Ideal S1024x256 .bf16) (v116 : Vec Ideal S1024x256 .bf16) (v123 : Vec Ideal S256x1024 .bf16) (v126 : Vec Ideal S128x1024 .f32) : k0_pay14 (F := Ideal) v24 v113 v116 v123 v126 = Cert.Kernel5Ideal.Gen.k0_pay13 (F := Ideal) v24 v113 v116 v123 v126 := rfl
theorem same15 (v24 : FVec Ideal S128x1024 .bf16) (v131 : Vec Ideal S1024x256 .bf16) : k0_pay15 (F := Ideal) v24 v131 = Cert.Kernel5Ideal.Gen.k0_pay14 (F := Ideal) v24 v131 := rfl
theorem same16 (v24 : FVec Ideal S128x1024 .bf16) (v133 : FVec Ideal S128x256 .f32) (v134 : Vec Ideal S1024x256 .bf16) (v141 : Vec Ideal S256x1024 .bf16) (v144 : Vec Ideal S128x1024 .f32) : k0_pay16 (F := Ideal) v24 v133 v134 v141 v144 = Cert.Kernel5Ideal.Gen.k0_pay15 (F := Ideal) v24 v133 v134 v141 v144 := rfl
theorem same17 (v24 : FVec Ideal S128x1024 .bf16) (v149 : Vec Ideal S1024x256 .bf16) (v152 : Vec Ideal S1024x256 .bf16) (v159 : Vec Ideal S256x1024 .bf16) (v162 : Vec Ideal S128x1024 .f32) : k0_pay17 (F := Ideal) v24 v149 v152 v159 v162 = Cert.Kernel5Ideal.Gen.k0_pay16 (F := Ideal) v24 v149 v152 v159 v162 := rfl
theorem same18 (v167 : Vec Ideal S1024x256 .bf16) : k0_pay18 (F := Ideal) v167 = Cert.Kernel5Ideal.Gen.k0_pay17 (F := Ideal) v167 := rfl
theorem same19 (v24 : FVec Ideal S128x1024 .bf16) (v168 : FVec Ideal S1024x256 .bf16) (v170 : Vec Ideal S1024x256 .bf16) (v177 : Vec Ideal S256x1024 .bf16) (v180 : Vec Ideal S128x1024 .f32) : k0_pay19 (F := Ideal) v24 v168 v170 v177 v180 = Cert.Kernel5Ideal.Gen.k0_pay18 (F := Ideal) v24 v168 v170 v177 v180 := rfl
theorem same20 (v24 : FVec Ideal S128x1024 .bf16) (v185 : Vec Ideal S1024x256 .bf16) (v188 : Vec Ideal S1024x256 .bf16) (v195 : Vec Ideal S256x1024 .bf16) (v198 : Vec Ideal S128x1024 .f32) : k0_pay20 (F := Ideal) v24 v185 v188 v195 v198 = Cert.Kernel5Ideal.Gen.k0_pay19 (F := Ideal) v24 v185 v188 v195 v198 := rfl

end Cert.Kernel7Ideal.Stages

end
-- ==== Proof.Block7.lean ====
module

public import proofs.«01_k».proof.Proof.Gen.Kernel7Ideal.Value
public import proofs.«01_k».proof.Proof.Stages7
public import proofs.«01_k».proof.Proof.Block
public import proofs.«01_k».proof.Proof.Columns

@[expose] public section

set_option maxRecDepth 16384

noncomputable section

/-! What the sample tokens' feed-forward kernel of an earlier layer writes, row by row. -/

namespace Cert.Kernel7Ideal.Stages

open Cert.Kernel7Ideal Cert.Kernel7Ideal.Gen Idealize.ShloMosaic Idealize.ShloMosaic.TcCoe Idealize.SL.Sem Cert.Rows
open Cert.KernelIdeal.Stages (mat_ld_cols mat_ld_rows)
open Cert.Kernel5Ideal.Stages (pay2_at pay3_at add first add6 add7 add9 add10 add13 add14 add16 add17 add19 add20 pay21_at)

variable (m : (ℓ : Loc nD τ sig) → Buf (Elt Ideal) ℓ)

set_option maxHeartbeats 1600000 in
/-- What the kernel writes, at row `r` of its block. -/
theorem block (c : Dev nD) (t : Fin cfg0.N) (r : Fin 128) (j : Fin 1024) :
    outsAt0 m c t (ix2 r j) = ffnRow (fun k => row (iblk m c 0 t) r k + rowMul (row (iblk m c 1 t) r) (mat (iblk m c 2 t)) k)
      (row (iblk m c 3 t) 0) (mat (iblk m c 4 t)) (mat (iblk m c 5 t)) j := by
  unfold outsAt0
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  simp only [same1, same2, same3, same4, same5, same6, same7, same8, same9, same10, same11, same12, same13, same14, same15, same16, same17, same18, same19, same20]
  refine (pay21_at _ _ r j).trans ?_
  have h1 : row (Cert.Kernel5Ideal.Gen.k0_pay2 (F := Ideal) X0 X1 X2) r = fun k => row X0 r k + rowMul (row X1 r) (mat X2) k := funext fun k => pay2_at _ _ _ r k
  have h : row (Cert.Kernel5Ideal.Gen.k0_pay3 (F := Ideal) (Cert.Kernel5Ideal.Gen.k0_pay2 X0 X1 X2) X3) r = rms (row (Cert.Kernel5Ideal.Gen.k0_pay2 (F := Ideal) X0 X1 X2) r) (row X3 0) := funext fun k => pay3_at _ _ r k
  rw [add20, add19, add17, add16, add14, add13, add10, add9, add7, add6, first]
  rw [← h1]
  refine congrArg₂ (· + ·) rfl (congrArg _ ?_)
  rw [ffn_eq_chunks, ← h]
  simp only [Fin.sum_univ_castSucc, Fin.sum_univ_zero, add, mat_ld_cols, mat_ld_rows, zero_add]
  rfl

end Cert.Kernel7Ideal.Stages

end
-- ==== Proof.Final7.lean ====
module

public import proofs.«01_k».proof.Proof.Block7

@[expose] public section

set_option maxRecDepth 16384

noncomputable section

/-! The result array of the sample tokens' feed-forward kernel of an earlier layer. -/

namespace Cert.Kernel7Ideal.Stages

open Cert.Kernel7Ideal Cert.Kernel7Ideal.Gen Idealize.ShloMosaic Idealize.ShloMosaic.TcCoe Idealize.SL.Sem Cert.Rows

variable (m : (ℓ : Loc nD τ sig) → Buf (Elt Ideal) ℓ)

/-- Which block of its array the grid's point reads and writes: the first and only one. -/
theorem idx : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (c : Dev nD) (t : Fin cfg0.N)

theorem blk0 (r : Fin 128) (k : Fin 1024) : iblk m c 0 t (ix2 r k) = m ((c : Thread nD τ).loc main_arg0) (ix2 r k) := by
  blk_point [iblk, V, idx t]
theorem blk1 (r : Fin 128) (k : Fin 1024) : iblk m c 1 t (ix2 r k) = m ((c : Thread nD τ).loc main_arg1) (ix2 r k) := by
  blk_point [iblk, V, idx t]
theorem blk2 (k j : Fin 1024) : iblk m c 2 t (ix2 k j) = m ((c : Thread nD τ).loc main_arg2) (ix2 k j) := by
  blk_point [iblk, V, idx t]
theorem blk3 (k : Fin 1024) : iblk m c 3 t (ix2 0 k) = m ((c : Thread nD τ).loc main_arg3) (ix1 k) := by
  blk_point [iblk, V, idx t]
theorem blk4 (k : Fin 1024) (j : Fin 5632) : iblk m c 4 t (ix2 k j) = m ((c : Thread nD τ).loc main_arg4) (ix2 k j) := by
  blk_point [iblk, V, idx t]
theorem blk5 (k : Fin 2816) (j : Fin 1024) : iblk m c 5 t (ix2 k j) = m ((c : Thread nD τ).loc main_arg5) (ix2 k j) := by
  blk_point [iblk, V, idx t]

/-- The kernel's result, from the argument arrays. -/
abbrev result (m : (ℓ : Loc nD τ sig) → Buf (Elt Ideal) ℓ) (c : Dev nD) : S128x1024.Idx → EReal :=
  stream (joined (m ((c : Thread nD τ).loc main_arg0)) (m ((c : Thread nD τ).loc main_arg1)) (m ((c : Thread nD τ).loc main_arg2)))
    (m ((c : Thread nD τ).loc main_arg3)) (m ((c : Thread nD τ).loc main_arg4)) (m ((c : Thread nD τ).loc main_arg5))

theorem point (r : Fin 128) (j : Fin 1024) : outsAt0 m c t (ix2 r j) = result m c (ix2 r j) := by
  refine (block m c t r j).trans ?_
  have e0 : row (iblk m c 0 t) r = row (m ((c : Thread nD τ).loc main_arg0)) r := funext fun k => blk0 m c t r k
  have e1 : row (iblk m c 1 t) r = row (m ((c : Thread nD τ).loc main_arg1)) r := funext fun k => blk1 m c t r k
  have e2 : mat (iblk m c 2 t) = mat (m ((c : Thread nD τ).loc main_arg2)) := funext fun k => funext fun j => blk2 m c t k j
  have e3 : row (iblk m c 3 t) 0 = vec (m ((c : Thread nD τ).loc main_arg3)) := funext fun k => blk3 m c t k
  have e4 : mat (iblk m c 4 t) = mat (m ((c : Thread nD τ).loc main_arg4)) := funext fun k => funext fun j => blk4 m c t k j
  have e5 : mat (iblk m c 5 t) = mat (m ((c : Thread nD τ).loc main_arg5)) := funext fun k => funext fun j => blk5 m c t k j
  rw [e0, e1, e2, e3, e4, e5]
  rfl

theorem final (m : (ℓ : Loc nD τ sig) → Buf (Elt Ideal) ℓ) (c : Dev nD) : (dats m 0 c).arrAt 6 cfg0.N = result m c := by
  refine (dats m 0 c).arrAt_eq_of_covers 6 _ (by decide +kernel) fun t hf y => ?_
  blk_simp
  rw [after0_6]
  idx_vars y
  refine (point m c t y0 y1).trans ?_
  blk_ext [idx t]

end Cert.Kernel7Ideal.Stages

end
-- ==== Proof.Final8.lean ====
module

public import proofs.«01_k».proof.Proof.Gen.Kernel8Ideal.Value
public import proofs.«01_k».proof.Proof.Block
public import proofs.«01_k».proof.Proof.Columns

@[expose] public section

set_option maxRecDepth 16384

noncomputable section

/-! The result arrays of the sample tokens' output projection and query kernel. -/

namespace Cert.Kernel8Ideal.Stages

open Cert.Kernel8Ideal Cert.Kernel8Ideal.Gen Idealize.ShloMosaic Idealize.ShloMosaic.TcCoe Idealize.SL.Sem Cert.Rows

theorem pay1_at (x : FVec Ideal S128x1024 .f32) (y : FVec Ideal S128x1024 .bf16) (w : FVec Ideal S1024x1024 .bf16) (r : Fin 128) (j : Fin 1024) :
    k0_pay1 (F := Ideal) x y w (ix2 r j) = x (ix2 r j) + rowMul (row y r) (mat w) j := by
  pointwise! [k0_pay1, rowMul]

theorem pay2_at (x : FVec Ideal S128x1024 .f32) (y : FVec Ideal S128x1024 .bf16) (w : FVec Ideal S1024x1024 .bf16) (n : FVec Ideal S1x1024 .f32)
    (q : FVec Ideal S1024x1024 .bf16) (r : Fin 128) (j : Fin 1024) :
    k0_pay2 (F := Ideal) x y w n q (ix2 r j) = rowMul (rms (fun k => x (ix2 r k) + rowMul (row y r) (mat w) k) (row n 0)) (mat q) j := by
  pointwise! [k0_pay2, k0_pay1, rms, rowMul]

variable (m : (ℓ : Loc nD τ sig) → Buf (Elt Ideal) ℓ)

/-- Which block of its array the grid's point reads and writes: the first and only one. -/
theorem idx : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

variable (c : Dev nD) (t : Fin cfg0.N)

theorem blk0 (r : Fin 128) (k : Fin 1024) : iblk m c 0 t (ix2 r k) = m ((c : Thread nD τ).loc main_arg0) (ix2 r k) := by
  blk_point [iblk, V, idx t]
theorem blk1 (r : Fin 128) (k : Fin 1024) : iblk m c 1 t (ix2 r k) = m ((c : Thread nD τ).loc main_arg1) (ix2 r k) := by
  blk_point [iblk, V, idx t]
theorem blk2 (k j : Fin 1024) : iblk m c 2 t (ix2 k j) = m ((c : Thread nD τ).loc main_arg2) (ix2 k j) := by
  blk_point [iblk, V, idx t]
theorem blk3 (k : Fin 1024) : iblk m c 3 t (ix2 0 k) = m ((c : Thread nD τ).loc main_arg3) (ix1 k) := by
  blk_point [iblk, V, idx t]
theorem blk4 (k j : Fin 1024) : iblk m c 4 t (ix2 k j) = m ((c : Thread nD τ).loc main_arg4) (ix2 k j) := by
  blk_point [iblk, V, idx t]

/-- The two results, from the argument arrays. -/
abbrev result5 (m : (ℓ : Loc nD τ sig) → Buf (Elt Ideal) ℓ) (c : Dev nD) : S128x1024.Idx → EReal :=
  joined (m ((c : Thread nD τ).loc main_arg0)) (m ((c : Thread nD τ).loc main_arg1)) (m ((c : Thread nD τ).loc main_arg2))
abbrev result6 (m : (ℓ : Loc nD τ sig) → Buf (Elt Ideal) ℓ) (c : Dev nD) : S128x1024.Idx → EReal :=
  queries (result5 m c) (m ((c : Thread nD τ).loc main_arg3)) (m ((c : Thread nD τ).loc main_arg4))

theorem block5 (x : FVec Ideal S128x1024 .f32) (y : FVec Ideal S128x1024 .bf16) (w : FVec Ideal S1024x1024 .bf16) (n : FVec Ideal S1x1024 .f32)
    (q : FVec Ideal S1024x1024 .bf16) (r : Fin 128) (j : Fin 1024) :
    out0_5 (F := Ideal) x y w n q (ix2 r j) = x (ix2 r j) + rowMul (row y r) (mat w) j := by
  unfold out0_5
  frame_out
  exact pay1_at _ _ _ r j

theorem block6 (x : FVec Ideal S128x1024 .f32) (y : FVec Ideal S128x1024 .bf16) (w : FVec Ideal S1024x1024 .bf16) (n : FVec Ideal S1x1024 .f32)
    (q : FVec Ideal S1024x1024 .bf16) (r : Fin 128) (j : Fin 1024) :
    out0_6 (F := Ideal) x y w n q (ix2 r j) = rowMul (rms (fun k => x (ix2 r k) + rowMul (row y r) (mat w) k) (row n 0)) (mat q) j := by
  unfold out0_6
  frame_out
  exact pay2_at _ _ _ _ _ r j

/-- A row of the first result, from the blocks. -/
abbrev blkRow (r : Fin 128) : Fin 1024 → EReal :=
  fun k => row (n := 128) (p := 1024) (iblk m c 0 t) r k + rowMul (row (iblk m c 1 t) r) (mat (iblk m c 2 t)) k

theorem stream_row (r : Fin 128) : blkRow m c t r = row (result5 m c) r := by
  have e1 : row (iblk m c 1 t) r = row (m ((c : Thread nD τ).loc main_arg1)) r := funext fun k => blk1 m c t r k
  have e2 : mat (iblk m c 2 t) = mat (m ((c : Thread nD τ).loc main_arg2)) := funext fun k => funext fun j => blk2 m c t k j
  unfold blkRow
  rw [e1, e2]
  exact funext fun k => congrArg (· + _) (blk0 m c t r k)

theorem stream_point (r : Fin 128) (j : Fin 1024) : blkRow m c t r j = result5 m c (ix2 r j) := congrFun (stream_row m c t r) j

theorem query_row (r : Fin 128) (j : Fin 1024) :
    rowMul (rms (blkRow m c t r) (row (iblk m c 3 t) 0)) (mat (iblk m c 4 t)) j = result6 m c (ix2 r j) := by
  have e3 : row (iblk m c 3 t) 0 = vec (m ((c : Thread nD τ).loc main_arg3)) := funext fun k => blk3 m c t k
  have e4 : mat (iblk m c 4 t) = mat (m ((c : Thread nD τ).loc main_arg4)) := funext fun k => funext fun j => blk4 m c t k j
  rw [stream_row, e3, e4]
  rfl

theorem final5 (m : (ℓ : Loc nD τ sig) → Buf (Elt Ideal) ℓ) (c : Dev nD) : (dats m 0 c).arrAt 5 cfg0.N = result5 m c := by
  refine (dats m 0 c).arrAt_eq_of_covers 5 _ (by decide +kernel) fun t hf y => ?_
  blk_simp
  rw [after0_5]
  idx_vars y
  refine ((block5 _ _ _ _ _ y0 y1).trans (stream_point m c t y0 y1)).trans ?_
  blk_ext [idx t]

theorem final6 (m : (ℓ : Loc nD τ sig) → Buf (Elt Ideal) ℓ) (c : Dev nD) : (dats m 0 c).arrAt 6 cfg0.N = result6 m c := by
  refine (dats m 0 c).arrAt_eq_of_covers 6 _ (by decide +kernel) fun t hf y => ?_
  blk_simp
  rw [after0_6]
  idx_vars y
  refine ((block6 _ _ _ _ _ y0 y1).trans (query_row m c t y0 y1)).trans ?_
  blk_ext [idx t]

end Cert.Kernel8Ideal.Stages

end
-- ==== Proof.Scan.lean ====
module

public import proofs.«01_k».proof.Proof.Soft

@[expose] public section

noncomputable section

/-! One sampled token through the state space heads: the short convolution, the step of the state, its read-out and the group norm. -/

namespace Cert.Rows

open Idealize.ShloMosaic

/-- The convolution of a token's columns with the three stored tokens. -/
def conv (u : Fin 1024 → EReal) (C : Fin 3 → Fin 1024 → EReal) (w : Fin 4 → Fin 1024 → EReal) (b : Fin 1024 → EReal) (j : Fin 1024) : EReal :=
  b j + w 3 j * u j + w 0 j * C 0 j + w 1 j * C 1 j + w 2 j * C 2 j

def silu (x : EReal) : EReal := x * Ideal.logistic x

def mixed (u : Fin 1024 → EReal) (C : Fin 3 → Fin 1024 → EReal) (w : Fin 4 → Fin 1024 → EReal) (b : Fin 1024 → EReal) (j : Fin 1024) : EReal :=
  silu (conv u C w b j)

/-- The softplus. -/
def soft (d : EReal) : EReal := max d 0 + Ideal.log1p (Ideal.exp (0 - FloatOps.absf (F := Ideal) (φ := .f32) d))

/-- The logarithm of a head's decay. -/
def decay (d a : EReal) : EReal := d * (0 - Ideal.exp a)

/-- One number of the new state. -/
def step (s d a x b : EReal) : EReal := s * Ideal.exp (decay d a) + x * (b * d)

/-- A head's columns of the convolved token: the values, the keys and the queries. -/
abbrev val (x : Fin 1024 → EReal) (h : Fin 8) (p : Fin 64) : EReal := x ⟨64 * h + p, by omega⟩
abbrev key (x : Fin 1024 → EReal) (h : Fin 8) (n : Fin 128) : EReal := x ⟨512 + 128 * (h / 4) + n, by omega⟩
abbrev qry (x : Fin 1024 → EReal) (h : Fin 8) (n : Fin 128) : EReal := x ⟨768 + 128 * (h / 4) + n, by omega⟩

/-- The new state of one token. -/
def stepped (x : Fin 1024 → EReal) (d a : Fin 8 → EReal) (S : Fin 8 → Fin 64 → Fin 128 → EReal) (h : Fin 8) (p : Fin 64) (n : Fin 128) : EReal :=
  step (S h p n) (d h) (a h) (val x h p) (key x h n)

/-- The new state read with the token's queries. -/
def readOut (x : Fin 1024 → EReal) (d a : Fin 8 → EReal) (S : Fin 8 → Fin 64 → Fin 128 → EReal) (h : Fin 8) (p : Fin 64) : EReal :=
  ∑ n, stepped x d a S h p n * qry x h n

/-- The root mean square normalisation of the two groups of a row. -/
def groupRms (v w : Fin 512 → EReal) (j : Fin 512) : EReal :=
  v j * Ideal.rsqrt (Ideal.div (∑ k : Fin 256, v ⟨256 * (j / 256) + k, by omega⟩ * v ⟨256 * (j / 256) + k, by omega⟩)
    (Ideal.ofBits .f32 0x43800000#32) + Ideal.ofBits .f32 0x358637BD#32) * w j

/-- A token's read-out with the skip, gated. -/
def gatedOut (o : Fin 8 → Fin 64 → EReal) (x : Fin 1024 → EReal) (k z : Fin 512 → EReal) (j : Fin 512) : EReal :=
  (o ⟨j / 64, by omega⟩ ⟨j % 64, by omega⟩ + x ⟨j, by omega⟩ * k j) * silu (z j)

/-- One token of the heads. -/
def headsRow (x : Fin 1024 → EReal) (d a : Fin 8 → EReal) (S : Fin 8 → Fin 64 → Fin 128 → EReal) (k z w : Fin 512 → EReal) :
    Fin 512 → EReal := groupRms (gatedOut (readOut x d a S) x k z) w

/-! As the reference has it. -/

def mixed' (u : Fin 1024 → EReal) (C : Fin 3 → Fin 1024 → EReal) (w : Fin 4 → Fin 1024 → EReal) (b : Fin 1024 → EReal) (j : Fin 1024) : EReal :=
  silu (∑ k : Fin 4, (if h : k < 3 then C ⟨k, h⟩ j else u j) * w k j + b j)

theorem mixed_eq (u : Fin 1024 → EReal) (C : Fin 3 → Fin 1024 → EReal) (w : Fin 4 → Fin 1024 → EReal) (b : Fin 1024 → EReal) :
    mixed' u C w b = mixed u C w b := by
  funext j
  refine congrArg silu ?_
  simp only [conv, Fin.sum_univ_four]
  rw [dif_pos (by decide), dif_pos (by decide), dif_pos (by decide), dif_neg (by decide)]
  simp only [mul_comm (w _ j)]
  show C 0 j * w 0 j + C 1 j * w 1 j + C 2 j * w 2 j + u j * w 3 j + b j = _
  abel

/-- One number of the new state as the reference has it, and the read-out. -/
def step' (s d a x b : EReal) : EReal := s * Ideal.exp (decay d a) + b * d * Ideal.exp (decay d a - decay d a) * x

def readOut' (x : Fin 1024 → EReal) (d a : Fin 8 → EReal) (S : Fin 8 → Fin 64 → Fin 128 → EReal) (h : Fin 8) (p : Fin 64) : EReal :=
  (∑ n, qry x h n * (key x h n * d h)) * Ideal.exp (decay (d h) (a h) - decay (d h) (a h)) * val x h p
    + (∑ n, qry x h n * S h p n) * Ideal.exp (decay (d h) (a h))

theorem Fin'.add {x y : EReal} : Fin' x → Fin' y → Fin' (x + y) := fun ⟨a, ha⟩ ⟨b, hb⟩ => ⟨a + b, by rw [ha, hb, EReal.coe_add]⟩

theorem Fin'.ne_top {x : EReal} : Fin' x → x ≠ ⊤ := by
  rintro ⟨r, rfl⟩
  exact EReal.coe_ne_top r

/-- Below the positive infinity `silu`, the softplus and the exponential are finite. -/
theorem silu_fin {x : EReal} (hx : x ≠ ⊤) : Fin' (silu x) := by
  induction x using EReal.rec with
  | top => exact absurd rfl hx
  | bot =>
    refine ⟨0, ?_⟩
    show (⊥ : EReal) * Ideal.div 1 (1 + Ideal.exp (-⊥)) = _
    rw [EReal.neg_bot]
    show (⊥ : EReal) * Ideal.div 1 (1 + ⊤) = _
    rw [EReal.add_top_of_ne_bot (by decide), Ideal.div, if_neg EReal.top_ne_zero, EReal.inv_top, mul_zero, mul_zero, EReal.coe_zero]
  | coe r =>
    have h : (0 : ℝ) < 1 + Real.exp (-r) := add_pos one_pos (Real.exp_pos _)
    refine Fin'.mul ⟨r, rfl⟩ ⟨1 * (1 / (1 + Real.exp (-r))), ?_⟩
    show Ideal.div 1 (1 + ((Real.exp (-r) : ℝ) : EReal)) = _
    rw [← EReal.coe_one, ← EReal.coe_add, Ideal.div_coe h.ne', ← EReal.coe_mul]

theorem soft_fin {x : EReal} (hx : x ≠ ⊤) : Fin' (soft x) := by
  induction x using EReal.rec with
  | top => exact absurd rfl hx
  | bot =>
    refine ⟨0, ?_⟩
    show max (⊥ : EReal) 0 + Ideal.log (1 + Ideal.exp (0 - max (⊥ : EReal) (-⊥))) = _
    rw [EReal.neg_bot, max_eq_right bot_le, max_eq_right bot_le, EReal.sub_top, zero_add]
    show Ideal.log (1 + 0) = _
    rw [add_zero]
    show (if (1 : ℝ) ≤ 0 then (⊥ : EReal) else ((Real.log 1 : ℝ) : EReal)) = _
    rw [if_neg (by norm_num), Real.log_one]
  | coe r =>
    have h : (0 : ℝ) < 1 + Real.exp (0 - max r (-r)) := add_pos one_pos (Real.exp_pos _)
    refine Fin'.add ⟨max r 0, (EReal.coe_strictMono.monotone.map_max (a := r) (b := 0)).symm⟩ ⟨Real.log (1 + Real.exp (0 - max r (-r))), ?_⟩
    show Ideal.log1p (Ideal.exp (((0 : ℝ) : EReal) - max (r : EReal) (((-r : ℝ) : EReal)))) = _
    rw [← EReal.coe_strictMono.monotone.map_max, ← EReal.coe_sub]
    show Ideal.log (((1 : ℝ) : EReal) + ((Real.exp (0 - max r (-r)) : ℝ) : EReal)) = _
    rw [← EReal.coe_add]
    generalize 1 + Real.exp (0 - max r (-r)) = s at h ⊢
    show (if s ≤ 0 then (⊥ : EReal) else ((Real.log s : ℝ) : EReal)) = _
    rw [if_neg (not_le.2 h)]

theorem exp_fin {x : EReal} : Fin' x → ∃ r : ℝ, 0 < r ∧ Ideal.exp x = r := by
  rintro ⟨r, rfl⟩
  exact ⟨Real.exp r, Real.exp_pos r, rfl⟩

theorem decay_fin {d a : EReal} (hd : Fin' d) (ha : a ≠ ⊤) : Fin' (decay d a) := by
  obtain ⟨e, he⟩ : Fin' (Ideal.exp a) := by
    induction a using EReal.rec with
    | top => exact absurd rfl ha
    | bot => exact ⟨0, rfl⟩
    | coe r => exact ⟨Real.exp r, rfl⟩
  refine hd.mul ⟨-e, ?_⟩
  rw [he, zero_sub, EReal.coe_neg]

theorem exp_sub_self {x : EReal} : Fin' x → Ideal.exp (x - x) = 1 := by
  rintro ⟨r, rfl⟩
  rw [← EReal.coe_sub, sub_self]
  show ((Real.exp 0 : ℝ) : EReal) = 1
  rw [Real.exp_zero, EReal.coe_one]

theorem step_eq {s d a x b : EReal} (hd : Fin' d) (ha : a ≠ ⊤) : step' s d a x b = step s d a x b := by
  unfold step' step
  rw [exp_sub_self (decay_fin hd ha), mul_one, mul_comm x]

/-- A product with a finite number goes through a sum with a finite number. -/
theorem mul_add_fin (s : EReal) (e k q : ℝ) (he : 0 < e) : (s * e + k) * q = q * s * e + q * k := by
  induction s using EReal.rec with
  | coe r => norm_cast; ring
  | bot =>
    rw [EReal.bot_mul_coe_of_pos he, EReal.bot_add]
    rcases lt_trichotomy q 0 with hq | hq | hq
    · rw [EReal.bot_mul_coe_of_neg hq, EReal.coe_mul_bot_of_neg hq, EReal.top_mul_coe_of_pos he, ← EReal.coe_mul, EReal.top_add_coe]
    · rw [hq, EReal.coe_zero]; simp
    · rw [EReal.bot_mul_coe_of_pos hq, EReal.coe_mul_bot_of_pos hq, EReal.bot_mul_coe_of_pos he, EReal.bot_add]
  | top =>
    rw [EReal.top_mul_coe_of_pos he, EReal.top_add_coe]
    rcases lt_trichotomy q 0 with hq | hq | hq
    · rw [EReal.top_mul_coe_of_neg hq, EReal.coe_mul_top_of_neg hq, EReal.bot_mul_coe_of_pos he, EReal.bot_add]
    · rw [hq, EReal.coe_zero]; simp
    · rw [EReal.top_mul_coe_of_pos hq, EReal.coe_mul_top_of_pos hq, EReal.top_mul_coe_of_pos he, ← EReal.coe_mul, EReal.top_add_coe]

theorem readOut_eq (x : Fin 1024 → EReal) (d a : Fin 8 → EReal) (S : Fin 8 → Fin 64 → Fin 128 → EReal) (h : Fin 8) (p : Fin 64)
    (hx : ∀ j, Fin' (x j)) (hd : Fin' (d h)) (ha : a h ≠ ⊤) : readOut' x d a S h p = readOut x d a S h p := by
  unfold readOut' readOut
  rw [exp_sub_self (decay_fin hd ha), mul_one]
  obtain ⟨e, he, hE⟩ := exp_fin (decay_fin hd ha)
  choose g hg using hx
  obtain ⟨δ, hδ⟩ := hd
  unfold stepped step
  simp only [hE, sum_mul_fin _ e he.le]
  rw [show (∑ n, qry x h n * (key x h n * d h)) * val x h p = ∑ n, qry x h n * (val x h p * (key x h n * d h)) from ?_, ← Finset.sum_add_distrib]
  · refine Finset.sum_congr rfl fun n _ => ?_
    simp only [val, key, qry, hg, hδ]
    rw [← EReal.coe_mul, ← EReal.coe_mul, mul_add_fin _ _ _ _ he, add_comm]
  · simp only [val, key, qry, hg, hδ, ← EReal.coe_mul, coe_sum]
    rw [Finset.sum_mul]
    exact congrArg _ (Finset.sum_congr rfl fun n _ => by ring)

end Cert.Rows

end
-- ==== Proof.Stages9.lean ====
module

public import proofs.«01_k».proof.Proof.Gen.Kernel9Ideal.Skeleton
public import proofs.«01_k».proof.Proof.Stages5
public import proofs.«01_k».proof.Proof.Scan

@[expose] public section

set_option maxRecDepth 16384

noncomputable section

/-! What the single stages of the sample tokens' state space kernel compute, entry by entry. -/

namespace Cert.Kernel9Ideal.Stages

open Cert.Kernel9Ideal Cert.Kernel9Ideal.Gen Idealize.ShloMosaic Idealize.ShloMosaic.TcCoe Idealize.SL.Sem Cert.Rows

/-- One number of the new state from the block's convolved rows, its transpose, the rates and the decays. -/
def piece (S : S1x8x8x64x128.Idx → EReal) (A D : S8x128.Idx → EReal) (XT : S512x8.Idx → EReal) (X : S8x1024.Idx → EReal)
    (r h : Fin 8) (p : Fin 64) (n : Fin 128) : EReal :=
  S (ix5 0 r h p n) * A (ix2 r ⟨h, by omega⟩)
    + XT (ix2 ⟨64 * h + p, by omega⟩ r) * (X (ix2 r ⟨512 + 128 * (h / 4) + n, by omega⟩) * D (ix2 r ⟨h, by omega⟩))

theorem piece_of (S : S1x8x8x64x128.Idx → EReal) (A D : S8x128.Idx → EReal) (XT : S512x8.Idx → EReal) (X : S8x1024.Idx → EReal)
    {r r' h h' : Fin 8} {p p' : Fin 64} {n n' : Fin 128} {q : Fin 512} {k : Fin 1024} (hr : (r' : ℕ) = r) (hh : (h' : ℕ) = h) (hp : (p' : ℕ) = p)
    (hn : (n' : ℕ) = n) (hq : (q : ℕ) = 64 * h + p) (hk : (k : ℕ) = 512 + 128 * (h / 4) + n) :
    S (ix5 0 r' h' p' n') * A (ix2 r' ⟨h', by omega⟩) + XT (ix2 q r') * (X (ix2 r' k) * D (ix2 r' ⟨h', by omega⟩)) = piece S A D XT X r h p n := by
  obtain rfl := Fin.ext hr
  obtain rfl := Fin.ext hh
  obtain rfl := Fin.ext hp
  obtain rfl := Fin.ext hn
  rw [show q = ⟨64 * h' + p', by omega⟩ from Fin.ext hq, show k = ⟨512 + 128 * (h' / 4) + n', by omega⟩ from Fin.ext hk]
  rfl

/-- The read-out of one number of a head. -/
theorem read_of (S : S1x8x8x64x128.Idx → EReal) (A D : S8x128.Idx → EReal) (XT : S512x8.Idx → EReal) (X : S8x1024.Idx → EReal)
    {r r' h h' : Fin 8} {p p' : Fin 64} {q : Fin 512} {k l : Fin 128 → Fin 1024} (hr : (r' : ℕ) = r) (hh : (h' : ℕ) = h) (hp : (p' : ℕ) = p)
    (hq : (q : ℕ) = 64 * h + p) (hk : ∀ n, (k n : ℕ) = 512 + 128 * (h / 4) + n) (hl : ∀ n, (l n : ℕ) = 768 + 128 * (h / 4) + n) :
    ∑ n, (S (ix5 0 r' h' p' n) * A (ix2 r' ⟨h', by omega⟩) + XT (ix2 q r') * (X (ix2 r' (k n)) * D (ix2 r' ⟨h', by omega⟩))) * X (ix2 r' (l n))
      = ∑ n : Fin 128, piece S A D XT X r h p n * X (ix2 r ⟨768 + 128 * (h / 4) + n, by omega⟩) := by
  refine Finset.sum_congr rfl fun n _ => ?_
  refine congrArg₂ (· * ·) (piece_of S A D XT X hr hh hp rfl hq (hk n)) ?_
  rw [show l n = ⟨768 + 128 * (h / 4) + n, by omega⟩ from Fin.ext (hl n), show r' = r from Fin.ext hr]

theorem pay3_at (a : FVec Ideal S8x1024 .f32) (b c d f : FVec Ideal S1x1024 .f32) (e g : FVec Ideal S1x1x8x1024 .f32) (r : Fin 8) (j : Fin 1024) :
    k0_pay3 (F := Ideal) a b c d e f g (ix2 r j)
      = b (ix2 0 j) + c (ix2 0 j) * a (ix2 r j) + d (ix2 0 j) * e (ix4 0 0 r j) + f (ix2 0 j) * g (ix4 0 0 r j) := by
  unfold k0_pay3
  pointwise!

theorem pay7_at (a : FVec Ideal S8x1024 .f32) (b : FVec Ideal S1x1024 .f32) (c : FVec Ideal S1x1x8x1024 .f32) (r : Fin 8) (j : Fin 1024) :
    k0_pay7 (F := Ideal) a b c (ix2 r j) = silu (a (ix2 r j) + b (ix2 0 j) * c (ix4 0 0 r j)) := by
  unfold k0_pay7
  pointwise!

theorem pay8_at (a : FVec Ideal S8x1024 .f32) (b : FVec Ideal S1x1024 .f32) (c : FVec Ideal S1x1x8x1024 .f32) (r : Fin 8) (j : Fin 512) :
    k0_pay8 (F := Ideal) a b c (ix2 r j) = k0_pay7 (F := Ideal) a b c (ix2 r ⟨j, by omega⟩) := by
  refine Eq.trans ?_ (pay7_at a b c r ⟨j, by omega⟩).symm
  unfold k0_pay8
  pointwise!
  exact pay7_at a b c r ⟨j, by omega⟩

theorem pay9_at (a : FVec Ideal S8x1024 .f32) (b : FVec Ideal S1x1024 .f32) (c : FVec Ideal S1x1x8x1024 .f32) (r : Fin 8) (j : Fin 512) :
    k0_pay9 (F := Ideal) a b c (ix2 j r) = k0_pay7 (F := Ideal) a b c (ix2 r ⟨j, by omega⟩) := by
  refine Eq.trans ?_ (pay8_at a b c r j)
  unfold k0_pay9
  pointwise!

theorem pay10_at (x : FVec Ideal S8x128 .f32) (b : FVec Ideal S1x128 .f32) (r : Fin 8) (j : Fin 128) :
    k0_pay10 (F := Ideal) x b (ix2 r j) = soft (x (ix2 r j) + b (ix2 0 j)) := by
  unfold k0_pay10
  pointwise!
  exact if_neg (not_not.2 rfl)

theorem pay12_at (x : FVec Ideal S8x128 .f32) (b : FVec Ideal S1x128 .f32) (r : Fin 8) (j : Fin 128) :
    k0_pay12 (F := Ideal) x (k0_pay11 b) (ix2 r j) = Ideal.exp (decay (x (ix2 r j)) (b (ix2 0 j))) := by
  unfold k0_pay12 k0_pay11
  pointwise!

/-- A row before its normalisation: the heads' read-out with the skip, gated. -/
def gated (ot : S512x128.Idx → EReal) (x : S8x512.Idx → EReal) (k : S1x512.Idx → EReal) (z : S8x512.Idx → EReal) (r : Fin 8) (j : Fin 512) : EReal :=
  (ot (ix2 j ⟨r, by omega⟩) + x (ix2 r j) * k (ix2 0 j)) * silu (z (ix2 r j))

theorem group_cases (v : Fin 512 → EReal) (j : Fin 512) :
    (if h : (j : ℕ) < 256 then
      v j * Ideal.rsqrt (Ideal.div (∑ k : Fin 256, v ⟨k, by omega⟩ * v ⟨k, by omega⟩) (Ideal.ofBits .f32 0x43800000#32) + Ideal.ofBits .f32 0x358637BD#32)
    else v ⟨256 + (j - 256), by omega⟩ * Ideal.rsqrt (Ideal.div (∑ k : Fin 256, v ⟨256 + k, by omega⟩ * v ⟨256 + k, by omega⟩)
      (Ideal.ofBits .f32 0x43800000#32) + Ideal.ofBits .f32 0x358637BD#32)) =
    v j * Ideal.rsqrt (Ideal.div (∑ k : Fin 256, v ⟨256 * (j / 256) + k, by omega⟩ * v ⟨256 * (j / 256) + k, by omega⟩)
      (Ideal.ofBits .f32 0x43800000#32) + Ideal.ofBits .f32 0x358637BD#32) := by
  split_ifs with h
  · have e : (j : ℕ) / 256 = 0 := by omega
    simp only [e, mul_zero, zero_add]
  · have e : (j : ℕ) / 256 = 1 := by omega
    have e' : (⟨256 + ((j : ℕ) - 256), by omega⟩ : Fin 512) = j := Fin.ext (by simp only []; omega)
    simp only [e, mul_one, e']

theorem last_at (x : FVec Ideal S8x512 .f32) (ot : FVec Ideal S512x128 .f32) (k : FVec Ideal S1x512 .f32) (z : FVec Ideal S8x512 .f32)
    (w : FVec Ideal S1x512 .f32) (r : Fin 8) (j : Fin 512) :
    k0_pay1 (F := Ideal) (k0_pay273 x ot k z) w (ix2 r j) = groupRms (gated ot x k z r) (fun j => w (ix2 0 j)) j := by
  unfold k0_pay1
  pointwise!
  refine congrArg (· * _) ?_
  unfold k0_pay273
  pointwise!
  exact group_cases (gated ot x k z r) j

end Cert.Kernel9Ideal.Stages

end
-- ==== Proof.Block9.lean ====
module

public import proofs.«01_k».proof.Proof.Gen.Kernel9Ideal.Value
public import proofs.«01_k».proof.Proof.Stages9
public import proofs.«01_k».proof.Proof.Block
public import Idealize.ShloMosaic.Lib.Pipeline.ValueKit

@[expose] public section

set_option maxRecDepth 16384

noncomputable section

/-! What the sample tokens' state space kernel writes, entry by entry. -/

namespace Cert.Kernel9Ideal.Stages

open Cert.Kernel9Ideal Cert.Kernel9Ideal.Gen Idealize.ShloMosaic Idealize.ShloMosaic.TcCoe Idealize.SL.Sem Cert.Rows

variable (m : (ℓ : Loc nD τ sig) → Buf (Elt Ideal) ℓ)

/-- A row of the block through the convolution. -/
abbrev mixedRow (X0 : S8x3456.Idx → EReal) (X1 : S1x3x8x1024.Idx → EReal) (X3 : S4x1024.Idx → EReal) (X4 : S1x1024.Idx → EReal) (r : Fin 8) :
    Fin 1024 → EReal :=
  mixed (fun j => X0 (ix2 r ⟨512 + j, by omega⟩)) (fun k j => X1 (ix4 0 k r j)) (mat X3) (row X4 0)

/-- A row's rates. -/
abbrev rates (X0 : S8x3456.Idx → EReal) (X5 : S1x128.Idx → EReal) (r h : Fin 8) : EReal :=
  soft (X0 (ix2 r ⟨3328 + h, by omega⟩) + X5 (ix2 0 ⟨h, by omega⟩))

theorem rates_at (X0 : S8x3456.Idx → EReal) (X5 : S1x128.Idx → EReal) (r h : Fin 8) :
    k0_pay10 (F := Ideal) (View.ld (Val := Elt Ideal) (e' := .f32) X0 (Rect.unit ![0, 3328] ![8, 128] inb_S8x3456_S8x128_0_3328)) X5 (ix2 r ⟨h, by omega⟩) = rates X0 X5 r h := by
  rw [pay10_at]
  pointwise!

theorem mixed_at (X0 : S8x3456.Idx → EReal) (X1 : S1x3x8x1024.Idx → EReal) (X3 : S4x1024.Idx → EReal) (X4 : S1x1024.Idx → EReal) (r : Fin 8) (j : Fin 1024) :
    k0_pay7 (F := Ideal)
      (k0_pay3 (View.ld (Val := Elt Ideal) (e' := .f32) X0 (Rect.unit ![0, 512] ![8, 1024] inb_S8x3456_S8x1024_0_512)) X4
        (View.ld (Val := Elt Ideal) (e' := .f32) X3 (Rect.unit ![3, 0] ![1, 1024] inb_S4x1024_S1x1024_3_0)) (View.ld (Val := Elt Ideal) (e' := .f32) X3 (Rect.unit ![0, 0] ![1, 1024] inb_S4x1024_S1x1024_0_0))
        (View.ld (Val := Elt Ideal) (e' := .f32) X1 (Rect.unit ![0, 0, 0, 0] ![1, 1, 8, 1024] inb_S1x3x8x1024_S1x1x8x1024_0_0_0_0))
        (View.ld (Val := Elt Ideal) (e' := .f32) X3 (Rect.unit ![1, 0] ![1, 1024] inb_S4x1024_S1x1024_1_0))
        (View.ld (Val := Elt Ideal) (e' := .f32) X1 (Rect.unit ![0, 1, 0, 0] ![1, 1, 8, 1024] inb_S1x3x8x1024_S1x1x8x1024_0_1_0_0)))
      (View.ld (Val := Elt Ideal) (e' := .f32) X3 (Rect.unit ![2, 0] ![1, 1024] inb_S4x1024_S1x1024_2_0))
      (View.ld (Val := Elt Ideal) (e' := .f32) X1 (Rect.unit ![0, 2, 0, 0] ![1, 1, 8, 1024] inb_S1x3x8x1024_S1x1x8x1024_0_2_0_0)) (ix2 r j) = mixedRow X0 X1 X3 X4 r j := by
  rw [pay7_at, pay3_at]
  pointwise!

theorem piece_eq {S : S1x8x8x64x128.Idx → EReal} {A D : S8x128.Idx → EReal} {XT : S512x8.Idx → EReal} {X : S8x1024.Idx → EReal} {r : Fin 8}
    {x : Fin 1024 → EReal} {d a : Fin 8 → EReal} (hX : ∀ j, X (ix2 r j) = x j) (hT : ∀ j : Fin 512, XT (ix2 j r) = x ⟨j, by omega⟩)
    (hD : ∀ h : Fin 8, D (ix2 r ⟨h, by omega⟩) = d h) (hA : ∀ h : Fin 8, A (ix2 r ⟨h, by omega⟩) = Ideal.exp (decay (d h) (a h)))
    (h : Fin 8) (p : Fin 64) (n : Fin 128) : piece S A D XT X r h p n = stepped x d a (fun h p n => S (ix5 0 r h p n)) h p n := by
  unfold piece
  rw [hX, hT, hD, hA]
  rfl

/-- A rectangle's offsets, sizes and strides. -/
def corners (p : View.Piece (Elt Ideal) S512x128 .f32) : List ℕ := [p.1.off 0, p.1.off 1, p.1.size 0, p.1.size 1, p.1.stride 0, p.1.stride 1]

/-- The transposed read-out's columns, one for each row of the block and each head, hold every entry read. -/
theorem read_cover (L : List (View.Piece (Elt Ideal) S512x128 .f32))
    (hL : L.map corners = (List.range 64).reverse.map fun k => [64 * (k / 8), k % 8, 64, 1, 1, 1]) (i : Fin 512) (r : Fin 8) :
    ∃ p ∈ L, (ix2 i ⟨r, by omega⟩ : S512x128.Idx) ∈ p.1.set := by
  have hm : [64 * ((i : ℕ) / 64), (r : ℕ), 64, 1, 1, 1] ∈ L.map corners := by
    rw [hL]
    refine List.mem_map.2 ⟨8 * (i / 64) + r, List.mem_reverse.2 (List.mem_range.2 (by omega)), ?_⟩
    rw [show (8 * ((i : ℕ) / 64) + r) / 8 = i / 64 by omega, show (8 * ((i : ℕ) / 64) + r) % 8 = r by omega]
  obtain ⟨p, hp, e⟩ := List.mem_map.1 hm
  refine ⟨p, hp, ?_⟩
  simp only [corners, List.cons.injEq, and_true] at e
  obtain ⟨e1, e2, e3, e4, e5, e6⟩ := e
  rw [LoadRect.mem_set]
  refine Fin.forall_fin_two.2 ⟨⟨i % 64, ?_, ?_⟩, ⟨0, ?_, ?_⟩⟩
  · rw [e3]; omega
  · rw [e1, e5]; show (i : ℕ) = _; omega
  · rw [e4]; omega
  · rw [e2, e6]; rfl

/-- What was stored first does not count where something is stored later. -/
theorem canon_take : ∀ (n : ℕ) (L : List (View.Piece (Elt Ideal) S512x128 .f32)) (y : S512x128.Idx) (v : EReal),
    (∃ p ∈ L.take n, y ∈ p.1.set) → View.canon (L.take n) y = v → View.canon L y = v
  | 0, _, _, _, hc, _ => by obtain ⟨p, hp, _⟩ := hc; simp at hp
  | _ + 1, [], _, _, _, h => h
  | n + 1, p :: L, y, v, hc, h => by
    rw [List.take_succ_cons] at hc h
    by_cases hm : y ∈ p.1.set
    · obtain ⟨x, rfl⟩ := p.1.exists_idx_of_mem hm
      rw [show p.1.idx x = p.1.emb x from rfl, View.canon_cons_emb] at h ⊢
      exact h
    · rw [View.canon_cons_of_not_mem _ _ hm] at h ⊢
      refine canon_take n L y v ?_ h
      obtain ⟨q, hq, hyq⟩ := hc
      rcases List.mem_cons.mp hq with rfl | hq'
      · exact absurd hyq hm
      · exact ⟨q, hq', hyq⟩

theorem whole_idx (inb) (j : S512x128.Idx) : (Rect.unit (s := S512x128) ![0, 0] ![512, 128] inb).idx j = j := by
  funext a
  refine Fin.ext ((Rect.idx_unit_val _ _ _ _ a).trans ?_)
  fin_cases a <;> exact zero_add _

set_option maxHeartbeats 2000000 in
/-- The new state the kernel writes. -/
theorem block_state (c : Dev nD) (t : Fin cfg0.N) (r h : Fin 8) (p : Fin 64) (n : Fin 128) :
    (outsAt0 m c t).2.2 (ix5 0 r h p n) = stepped (mixedRow (iblk m c 0 t) (iblk m c 1 t) (iblk m c 3 t) (iblk m c 4 t) r)
      (rates (iblk m c 0 t) (iblk m c 5 t) r) (fun h => (iblk m c 6 t : S1x128.Idx → EReal) (ix2 0 ⟨h, by omega⟩))
      (fun h p n => (iblk m c 2 t : S1x8x8x64x128.Idx → EReal) (ix5 0 r h p n)) h p n := by
  unfold outsAt0
  frame_open
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  have fX := mixed_at X0 X1 X3 X4 r
  have fD := rates_at X0 X5 r
  have fT := fun j => (pay9_at _ _ _ r j).trans (fX ⟨j, by omega⟩)
  have fA := fun h : Fin 8 => (pay12_at _ X6 r ⟨h, by omega⟩).trans (congrArg (fun d => Ideal.exp (decay d (X6 (ix2 0 ⟨h, by omega⟩)))) (fD h))
  have fE := fun (q : Fin 8) (h : Fin 128) => (pay12_at (k0_pay10 (F := Ideal) (View.ld (Val := Elt Ideal) (e' := .f32) X0 (Rect.unit ![0, 3328] ![8, 128] inb_S8x3456_S8x128_0_3328)) X5) X6 q h).symm
  revert fE fX fD fT fA
  generalize k0_pay9 (F := Ideal) _ _ _ = XT
  generalize k0_pay7 (F := Ideal) _ _ _ = X
  generalize k0_pay10 (F := Ideal) _ _ = D
  generalize k0_pay12 (F := Ideal) _ _ = A
  intro fX fD fT fA fE
  refine Eq.trans ?_ (piece_eq fX fT fD fA h p n)
  clear fX fD fT fA
  canon_tiles x e
  all_goals
    open_payloads
    pointwise!
    replace e1 : (r : ℕ) = _ := e1
    replace e2 : (h : ℕ) = _ := e2
    replace e3 : (p : ℕ) = _ := e3
    replace e4 : (n : ℕ) = _ := e4
    have z1 : (x 1 : ℕ) = 0 := by omega
    have z2 : (x 2 : ℕ) = 0 := by omega
    rw [z1] at e1
    rw [z2] at e2
    try rw [show Ideal.exp (D (ix2 0 0) * (0 - Ideal.exp (X6 (ix2 0 0)))) = A (ix2 0 0) from fE 0 0]
    exact piece_of X2 A D XT X (by exact e1.symm) (by exact e2.symm) (by exact e3.symm) (by exact e4.symm)
      (by rw [e2, e3] <;> simp) (by rw [e2, e4] <;> simp)

set_option maxHeartbeats 2000000 in
/-- The row of the output the kernel writes. -/
theorem block_out (c : Dev nD) (t : Fin cfg0.N) (r : Fin 8) (j : Fin 512) :
    (outsAt0 m c t).1 (ix2 r j) = headsRow (mixedRow (iblk m c 0 t) (iblk m c 1 t) (iblk m c 3 t) (iblk m c 4 t) r)
      (rates (iblk m c 0 t) (iblk m c 5 t) r) (fun h => (iblk m c 6 t : S1x128.Idx → EReal) (ix2 0 ⟨h, by omega⟩))
      (fun h p n => (iblk m c 2 t : S1x8x8x64x128.Idx → EReal) (ix5 0 r h p n)) (row (iblk m c 7 t) 0)
      (fun j => (iblk m c 0 t : S8x3456.Idx → EReal) (ix2 r ⟨j, by omega⟩)) (row (iblk m c 8 t) 0) j := by
  unfold outsAt0
  frame_open
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  generalize iblk m c 8 t = X8
  have fX := mixed_at X0 X1 X3 X4 r
  have fD := rates_at X0 X5 r
  have fT := fun j => (pay9_at _ _ _ r j).trans (fX ⟨j, by omega⟩)
  have f8 := fun j => (pay8_at _ _ _ r j).trans (fX ⟨j, by omega⟩)
  have fA := fun h : Fin 8 => (pay12_at _ X6 r ⟨h, by omega⟩).trans (congrArg (fun d => Ideal.exp (decay d (X6 (ix2 0 ⟨h, by omega⟩)))) (fD h))
  have fE := fun (q : Fin 8) (h : Fin 128) => (pay12_at (k0_pay10 (F := Ideal) (View.ld (Val := Elt Ideal) (e' := .f32) X0 (Rect.unit ![0, 3328] ![8, 128] inb_S8x3456_S8x128_0_3328)) X5) X6 q h).symm
  revert fE fX fD fT f8 fA
  generalize k0_pay9 (F := Ideal) _ _ _ = XT
  generalize k0_pay8 (F := Ideal) _ _ _ = XS
  generalize k0_pay7 (F := Ideal) _ _ _ = X
  generalize k0_pay10 (F := Ideal) _ _ = D
  generalize k0_pay12 (F := Ideal) _ _ = A
  intro fX fD fT f8 fA fE
  refine (last_at _ _ _ _ _ r j).trans (congrArg (groupRms · _ j) (funext fun i => ?_))
  unfold gated gatedOut
  refine congrArg₂ (· * ·) (congrArg₂ (· + ·) ?_ (congrArg (· * _) (f8 i))) ?_
  swap
  · pointwise!
  generalize hh : (⟨(i : ℕ) / 64, by omega⟩ : Fin 8) = h
  generalize hp : (⟨(i : ℕ) % 64, by omega⟩ : Fin 64) = p
  have e : (i : ℕ) = 64 * h + p := by rw [← hh, ← hp]; simp only []; omega
  unfold readOut
  refine Eq.trans ?_ (Finset.sum_congr rfl fun n _ => congrArg₂ (· * ·) (piece_eq fX fT fD fA h p n) (fX _))
  clear fX fD fT f8 fA hh hp
  rw [View.readCov_eq_canon']
  refine (congrArg (View.canon _) (whole_idx _ _)).trans ?_
  refine canon_take 64 _ _ _ (read_cover _ (by rfl) i r) ?_
  simp only [List.take_succ_cons, List.take_zero]
  canon_tiles x g using (read_cover _ (by rfl) i r)
  all_goals
    open_payloads
    pointwise!
    replace g0 : (i : ℕ) = _ := g0
    replace g1 : (r : ℕ) = _ := g1
    have z1 : (x 1 : ℕ) = 0 := by omega
    rw [z1] at g1
    try rw [show Ideal.exp (D (ix2 0 0) * (0 - Ideal.exp (X6 (ix2 0 0)))) = A (ix2 0 0) from fE 0 0]
    have ep : (p : ℕ) = x 0 := by omega
    have eh : (h : ℕ) = ((i : ℕ) - (x 0 : ℕ)) / 64 := by omega
    simp only [g0, Nat.add_sub_cancel, Nat.sub_self, Nat.reduceDiv, Nat.zero_div] at eh
    exact read_of X2 A D XT X (by exact g1.symm) (by exact eh.symm) (by exact ep.symm) (by rw [eh, ep] <;> simp)
      (fun n => by rw [eh] <;> simp) (fun n => by rw [eh] <;> simp)

/-- The stored tokens the kernel writes. -/
theorem block_conv (c : Dev nD) (t : Fin cfg0.N) (k : Fin 3) (r : Fin 8) (n : Fin 1024) :
    (outsAt0 m c t).2.1 (ix4 0 k r n) = if h : k < 2 then (iblk m c 1 t : S1x3x8x1024.Idx → EReal) (ix4 0 ⟨k + 1, by omega⟩ r n)
      else (iblk m c 0 t : S8x3456.Idx → EReal) (ix2 r ⟨512 + n, by omega⟩) := by
  unfold outsAt0
  frame_open
  frame_out
  generalize iblk m c 0 t = X0
  generalize iblk m c 1 t = X1
  canon_tiles x e
  all_goals
    open_payloads
    pointwise!
    replace e1 : (k : ℕ) = _ := e1
    have z1 : (x 1 : ℕ) = 0 := by omega
    rw [z1] at e1
    rw [show x 2 = r from Fin.ext e2.symm, show x 3 = n from Fin.ext e3.symm]
    obtain ⟨k, hk⟩ := k
    replace e1 : k = _ := e1
    subst e1
    rfl

end Cert.Kernel9Ideal.Stages

end
-- ==== Proof.Spec9.lean ====
module

public import proofs.«01_k».proof.Proof.Scan

@[expose] public section

noncomputable section

/-! The sample tokens through the last layer's state space heads, from the argument arrays. -/

namespace Cert.Rows

open Idealize.ShloMosaic

variable (proj : (⟨2, ![128, 3456]⟩ : Shape).Idx → EReal) (cs : (⟨4, ![4, 128, 3, 1024]⟩ : Shape).Idx → EReal)
  (ss : (⟨5, ![4, 128, 8, 128, 64]⟩ : Shape).Idx → EReal) (w : (⟨2, ![4, 1024]⟩ : Shape).Idx → EReal) (b : (⟨1, ![1024]⟩ : Shape).Idx → EReal)
  (dtb al dk : (⟨1, ![8]⟩ : Shape).Idx → EReal) (nw : (⟨1, ![512]⟩ : Shape).Idx → EReal)

/-- A token's columns that go through the convolution, its stored tokens, what comes out, its rates and its state. -/
abbrev fed (t : Fin 128) (j : Fin 1024) : EReal := proj (ix2 t ⟨512 + j, by omega⟩)
abbrev stored (t : Fin 128) (k : Fin 3) (j : Fin 1024) : EReal := cs (ix4 (3 : Fin 4) t k j)
abbrev tokMixed (t : Fin 128) : Fin 1024 → EReal := mixed (fed proj t) (stored cs t) (mat w) (vec b)
abbrev tokRate (t : Fin 128) (h : Fin 8) : EReal := soft (proj (ix2 t ⟨3328 + h, by omega⟩) + dtb (ix1 h))
abbrev tokState (t : Fin 128) (h : Fin 8) (p : Fin 64) (n : Fin 128) : EReal := ss (ix5 (3 : Fin 4) t h n p)

/-- The heads' output of every token. -/
def headsOut : (⟨2, ![128, 512]⟩ : Shape).Idx → EReal := fun z =>
  headsRow (tokMixed proj cs w b (z 0)) (tokRate proj dtb (z 0)) (vec al) (tokState ss (z 0)) (fun j => dk (ix1 ⟨j / 64, by omega⟩))
    (fun j => proj (ix2 (z 0 : Fin 128) ⟨j, by omega⟩)) (vec nw) (z 1)

def tokStored (k : Fin 3) (t : Fin 128) (j : Fin 1024) : EReal :=
  if h : k < 2 then cs (ix4 (3 : Fin 4) t ⟨k + 1, by omega⟩ j) else fed proj t j

/-- The stored tokens after the call: the last layer's moved up by one, the new token last; the other layers' as they came. -/
def convOut (chain : (⟨4, ![4, 3, 128, 1024]⟩ : Shape).Idx → EReal) : (⟨4, ![4, 3, 128, 1024]⟩ : Shape).Idx → EReal := fun z =>
  if (z 0 : ℕ) < 3 then chain z else tokStored proj cs (z 1) (z 2) (z 3)

/-- The states after the call: the last layer's new ones, the other layers' as they came. -/
def stateOut (chain : (⟨5, ![4, 128, 8, 64, 128]⟩ : Shape).Idx → EReal) : (⟨5, ![4, 128, 8, 64, 128]⟩ : Shape).Idx → EReal := fun z =>
  if (z 0 : ℕ) < 3 then chain z
  else stepped (tokMixed proj cs w b (z 1)) (tokRate proj dtb (z 1)) (vec al) (tokState ss (z 1)) (z 2) (z 3) (z 4)

end Cert.Rows

end
-- ==== Proof.Final9.lean ====
module

public import proofs.«01_k».proof.Proof.Block9
public import proofs.«01_k».proof.Proof.Spec9

@[expose] public section

set_option maxRecDepth 16384

noncomputable section

/-! The result arrays of the sample tokens' state space kernel. -/

namespace Cert.Kernel9Ideal.Stages

open Cert.Kernel9Ideal Cert.Kernel9Ideal.Gen Idealize.ShloMosaic Idealize.ShloMosaic.TcCoe Idealize.SL.Sem Cert.Rows

variable (m : (ℓ : Loc nD τ sig) → Buf (Elt Ideal) ℓ)

/-- Which block of its array each grid point reads and writes: the last layer's, and eight tokens of it. -/
theorem idx : ∀ t : Fin cfg0.N,
    win0_0.index t = ![t.val, 0] ∧ win0_1.index t = ![3, 0, t.val, 0] ∧ win0_2.index t = ![3, t.val, 0, 0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0] ∧ win0_10.index t = ![3, 0, t.val, 0] ∧ win0_11.index t = ![3, t.val, 0, 0, 0] ∧ t.val < 16 :=
  (by decide +kernel : ∀ t : Fin grid0.N, _)

variable (c : Dev nD) (t : Fin cfg0.N)

theorem blk0 (r : Fin 8) (k : Fin 3456) (h : 8 * t.val + r < 128) :
    iblk m c 0 t (ix2 r k) = m ((c : Thread nD τ).loc main_arg2) (ix2 ⟨8 * t + r, h⟩ k) := by
  blk_ext [iblk, V, idx t]
theorem ent1 (k : Fin 3) (b : Fin 128) (j : Fin 1024) :
    V m c main_v9 (ix4 (3 : Fin 4) k b j) = m ((c : Thread nD τ).loc main_arg3) (ix4 (3 : Fin 4) b k j) := by
  change transpose S4x3x128x1024 [0, 2, 1, 3] (m ((c : Thread nD τ).loc main_arg3)) transposes_S4x128x3x1024_S4x3x128x1024_0_2_1_3 _ = _
  pointwise!
theorem ent2 (h : Fin 8) (b : Fin 128) (p : Fin 64) (n : Fin 128) :
    V m c main_v10 (ix5 (3 : Fin 4) b h p n) = m ((c : Thread nD τ).loc main_arg4) (ix5 (3 : Fin 4) b h n p) := by
  change transpose S4x128x8x64x128 [0, 1, 2, 4, 3] (m ((c : Thread nD τ).loc main_arg4)) transposes_S4x128x8x128x64_S4x128x8x64x128_0_1_2_4_3 _ = _
  pointwise!
theorem ent4 (k : Fin 1024) : V m c main_v0 (ix2 0 k) = m ((c : Thread nD τ).loc main_arg6) (ix1 k) := by
  change shapeCast S1x1024 (m ((c : Thread nD τ).loc main_arg6)) shapeCasts_S1024_S1x1024 _ = _
  pointwise!
theorem ent5 (h : Fin 8) : V m c main_v2 (ix2 0 ⟨h, by omega⟩) = m ((c : Thread nD τ).loc main_arg7) (ix1 h) := by
  change pad S1x128 ![0, 0] ![0, 120] ![0, 0] (shapeCast S1x8 (m ((c : Thread nD τ).loc main_arg7) : FVec Ideal S8 .f32) shapeCasts_S8_S1x8)
    (sitofp .f32 (constantI S_ 32 0#32) : FVec Ideal S_ .f32) pads_S1x8_S1x128_000_01200 h_S_ _ = _
  pointwise!
theorem ent6 (h : Fin 8) : V m c main_v4 (ix2 0 ⟨h, by omega⟩) = m ((c : Thread nD τ).loc main_arg8) (ix1 h) := by
  change pad S1x128 ![0, 0] ![0, 120] ![0, 0] (shapeCast S1x8 (m ((c : Thread nD τ).loc main_arg8) : FVec Ideal S8 .f32) shapeCasts_S8_S1x8)
    (sitofp .f32 (constantI S_ 32 0#32) : FVec Ideal S_ .f32) pads_S1x8_S1x128_000_01200 h_S_ _ = _
  pointwise!
theorem ent7 (j : Fin 512) : V m c main_v7 (ix2 0 j) = m ((c : Thread nD τ).loc main_arg9) (ix1 ⟨j / 64, by omega⟩) := by
  change shapeCast S1x512 (shapeCast S512 (broadcastInDim S8x64 ![0] bcast_S8_S8x64_0 (m ((c : Thread nD τ).loc main_arg9))) shapeCasts_S8x64_S512)
    shapeCasts_S512_S1x512 _ = _
  pointwise!
theorem ent8 (j : Fin 512) : V m c main_v8 (ix2 0 j) = m ((c : Thread nD τ).loc main_arg10) (ix1 j) := by
  change shapeCast S1x512 (m ((c : Thread nD τ).loc main_arg10)) shapeCasts_S512_S1x512 _ = _
  pointwise!
theorem ent10 : V m c main_v11_1 = m ((c : Thread nD τ).loc main_arg0) := by
  entry_read; rfl
theorem ent11 : V m c main_v11_2 = m ((c : Thread nD τ).loc main_arg1) := by
  entry_read; rfl
theorem blk1 (k : Fin 3) (r : Fin 8) (j : Fin 1024) (h : 8 * t.val + r < 128) :
    iblk m c 1 t (ix4 0 k r j) = m ((c : Thread nD τ).loc main_arg3) (ix4 (3 : Fin 4) ⟨8 * t + r, h⟩ k j) := by
  refine Eq.trans ?_ (ent1 m c k _ j)
  blk_ext [iblk, idx t]
theorem blk2 (r h : Fin 8) (p : Fin 64) (n : Fin 128) (g : 8 * t.val + r < 128) :
    iblk m c 2 t (ix5 0 r h p n) = m ((c : Thread nD τ).loc main_arg4) (ix5 (3 : Fin 4) ⟨8 * t + r, g⟩ h n p) := by
  refine Eq.trans ?_ (ent2 m c h _ p n)
  blk_ext [iblk, idx t]
theorem blk3 (k : Fin 4) (j : Fin 1024) : iblk m c 3 t (ix2 k j) = m ((c : Thread nD τ).loc main_arg5) (ix2 k j) := by
  blk_ext [iblk, V, idx t]
theorem blk4 (k : Fin 1024) : iblk m c 4 t (ix2 0 k) = m ((c : Thread nD τ).loc main_arg6) (ix1 k) := by
  refine Eq.trans ?_ (ent4 m c k)
  blk_ext [iblk, idx t]
theorem blk5 (h : Fin 8) : iblk m c 5 t (ix2 0 ⟨h, by omega⟩) = m ((c : Thread nD τ).loc main_arg7) (ix1 h) := by
  refine Eq.trans ?_ (ent5 m c h)
  blk_ext [iblk, idx t]
theorem blk6 (h : Fin 8) : iblk m c 6 t (ix2 0 ⟨h, by omega⟩) = m ((c : Thread nD τ).loc main_arg8) (ix1 h) := by
  refine Eq.trans ?_ (ent6 m c h)
  blk_ext [iblk, idx t]
theorem blk7 (j : Fin 512) : iblk m c 7 t (ix2 0 j) = m ((c : Thread nD τ).loc main_arg9) (ix1 ⟨j / 64, by omega⟩) := by
  refine Eq.trans ?_ (ent7 m c j)
  blk_ext [iblk, idx t]
theorem blk8 (j : Fin 512) : iblk m c 8 t (ix2 0 j) = m ((c : Thread nD τ).loc main_arg10) (ix1 j) := by
  refine Eq.trans ?_ (ent8 m c j)
  blk_ext [iblk, idx t]

theorem in_range (r : Fin 8) : 8 * t.val + r < 128 := by have := (idx t).2.2.2.2.2.2.2.2.2.2.2.2; omega

/-- A block's row of the convolution's output, of the rates and of the state, from the arguments. -/
theorem row_mixed (r : Fin 8) : mixedRow (iblk m c 0 t) (iblk m c 1 t) (iblk m c 3 t) (iblk m c 4 t) r
    = tokMixed (m ((c : Thread nD τ).loc main_arg2)) (m ((c : Thread nD τ).loc main_arg3)) (m ((c : Thread nD τ).loc main_arg5))
        (m ((c : Thread nD τ).loc main_arg6)) ⟨8 * t + r, in_range t r⟩ := by
  unfold mixedRow tokMixed
  rw [show mat (iblk m c 3 t) = mat (m ((c : Thread nD τ).loc main_arg5)) from funext fun k => funext fun j => blk3 m c t k j,
    show row (iblk m c 4 t) 0 = vec (m ((c : Thread nD τ).loc main_arg6)) from funext fun j => blk4 m c t j]
  refine congrArg₂ (mixed · · _ _) (funext fun j => blk0 m c t r _ _) (funext fun k => funext fun j => blk1 m c t k r j _)

theorem row_rates (r : Fin 8) : rates (iblk m c 0 t) (iblk m c 5 t) r
    = tokRate (m ((c : Thread nD τ).loc main_arg2)) (m ((c : Thread nD τ).loc main_arg7)) ⟨8 * t + r, in_range t r⟩ :=
  funext fun h => congrArg soft (congrArg₂ (· + ·) (blk0 m c t r _ (in_range t r)) (blk5 m c t h))

theorem row_decay : (fun h : Fin 8 => (iblk m c 6 t : S1x128.Idx → EReal) (ix2 0 ⟨h, by omega⟩)) = vec (m ((c : Thread nD τ).loc main_arg8)) :=
  funext fun h => blk6 m c t h

theorem row_state (r : Fin 8) : (fun h p n => (iblk m c 2 t : S1x8x8x64x128.Idx → EReal) (ix5 0 r h p n))
    = tokState (m ((c : Thread nD τ).loc main_arg4)) ⟨8 * t + r, in_range t r⟩ :=
  funext fun h => funext fun p => funext fun n => blk2 m c t r h p n _

abbrev heads' : S128x512.Idx → EReal :=
  headsOut (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
abbrev conv' : S4x3x128x1024.Idx → EReal :=
  convOut (m ((c : Thread nD τ).loc main_arg2)) (m ((c : Thread nD τ).loc main_arg3)) (m ((c : Thread nD τ).loc main_arg0))
abbrev state' : S4x128x8x64x128.Idx → EReal :=
  stateOut (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg1))

theorem heads_point (r : Fin 8) (j : Fin 512) : (outsAt0 m c t).1 (ix2 r j) = heads' m c (ix2 ⟨8 * t + r, in_range t r⟩ j) := by
  refine (block_out m c t r j).trans ?_
  rw [row_mixed, row_rates, row_decay, row_state,
    show row (iblk m c 7 t) 0 = (fun j : Fin 512 => m ((c : Thread nD τ).loc main_arg9) (ix1 ⟨j / 64, by omega⟩)) from funext fun j => blk7 m c t j,
    show (fun j : Fin 512 => (iblk m c 0 t : S8x3456.Idx → EReal) (ix2 r ⟨j, by omega⟩))
      = (fun j : Fin 512 => m ((c : Thread nD τ).loc main_arg2) (ix2 ⟨8 * t + r, in_range t r⟩ ⟨j, by omega⟩)) from funext fun j => blk0 m c t r _ _,
    show row (iblk m c 8 t) 0 = vec (m ((c : Thread nD τ).loc main_arg10)) from funext fun j => blk8 m c t j]
  rfl

theorem conv_point (k : Fin 3) (r : Fin 8) (j : Fin 1024) :
    (outsAt0 m c t).2.1 (ix4 0 k r j) = conv' m c (ix4 (3 : Fin 4) k ⟨8 * t + r, in_range t r⟩ j) := by
  refine (block_conv m c t k r j).trans ?_
  refine Eq.trans ?_ (if_neg (by decide : ¬ ((3 : Fin 4) : ℕ) < 3)).symm
  change _ = tokStored _ _ k ⟨8 * t + r, in_range t r⟩ j
  unfold tokStored
  by_cases h : k < 2
  · rw [dif_pos h, dif_pos h]; exact blk1 m c t _ r j _
  · rw [dif_neg h, dif_neg h]; exact blk0 m c t r _ _

theorem state_point (r h : Fin 8) (p : Fin 64) (n : Fin 128) :
    (outsAt0 m c t).2.2 (ix5 0 r h p n) = state' m c (ix5 (3 : Fin 4) ⟨8 * t + r, in_range t r⟩ h p n) := by
  refine (block_state m c t r h p n).trans ?_
  rw [row_mixed, row_rates, row_decay, row_state]
  exact (if_neg (by decide : ¬ ((3 : Fin 4) : ℕ) < 3)).symm

/-- The heads' output after the call. -/
theorem final9 : (dats m 0 c).arrAt 9 cfg0.N = heads' m c := by
  refine (dats m 0 c).arrAt_eq_of_covers 9 _ (by decide +kernel) fun t hf y => ?_
  blk_simp
  rw [after0_9]
  idx_vars y
  refine (heads_point m c t _ _).trans ?_
  blk_ext [idx t]

/-- The stored tokens after the call: the last layer's blocks cover it, the rest is as it came. -/
theorem final10 : (dats m 0 c).arrAt 10 cfg0.N = conv' m c := by
  refine (dats m 0 c).arrAt_eq_of_coversWhere_of_agree 10 _ (fun β => β (0 : Fin 4) = 3) (by decide +kernel) (fun t hf y => ?_) (fun j hj => ?_)
  · blk_simp
    rw [after0_10]
    idx_vars y
    obtain rfl : y0 = 0 := Subsingleton.elim _ _
    refine (conv_point m c t _ _ _).trans ?_
    blk_ext [idx t]
  · have h : (j 0 : ℕ) < 3 := by
      have h4 : (j 0 : ℕ) < 4 := (j 0).isLt
      have h3 : ¬ (j 0 : ℕ) / 1 = 3 := hj
      omega
    refine (congrFun (ent10 m c) j).trans (if_pos h).symm

/-- The states after the call, likewise. -/
theorem final11 : (dats m 0 c).arrAt 11 cfg0.N = state' m c := by
  refine (dats m 0 c).arrAt_eq_of_coversWhere_of_agree 11 _ (fun β => β (0 : Fin 5) = 3) (by decide +kernel) (fun t hf y => ?_) (fun j hj => ?_)
  · blk_simp
    rw [after0_11]
    idx_vars y
    obtain rfl : y0 = 0 := Subsingleton.elim _ _
    refine (state_point m c t _ _ _ _).trans ?_
    blk_ext [idx t]
  · have h : (j 0 : ℕ) < 3 := by
      have h4 : (j 0 : ℕ) < 4 := (j 0).isLt
      have h3 : ¬ (j 0 : ℕ) / 1 = 3 := hj
      omega
    refine (congrFun (ent11 m c) j).trans (if_pos h).symm

end Cert.Kernel9Ideal.Stages

end
-- ==== Proof.Ref.lean ====
module

public import proofs.«01_k».proof.Proof.Gen.ReferenceIdeal.Run
public import proofs.«01_k».proof.Proof.Spec
public import Idealize.ShloMosaic.Lib.Pipeline.ValueKit

@[expose] public section

set_option maxRecDepth 16384

noncomputable section

/-! The reference's result, row by row. -/

namespace Cert.ReferenceIdeal.Rows

open Cert.ReferenceIdeal Cert.ReferenceIdeal.Gen Cert.ReferenceIdeal.Value Idealize.ShloMosaic Idealize.ShloMosaic.TcCoe Idealize.SL.Sem
  Idealize.ShloMosaic.StableHlo Cert.Rows

variable (V0 : Valuation τ sig (Elt Ideal))

/-- Token `l` of sequence `b`. -/
abbrev tok (b : Fin 8) (l : Fin 2048) : Fin 16384 := ⟨b * 2048 + l, by omega⟩

/-- One token's line of an array of tokens. -/
abbrev line (X : FVec Ideal S8x2048x1024 .f32) (b : Fin 8) (l : Fin 2048) : Fin 1024 → EReal := fun k => X (ix3 b l k)

theorem v9_at (b : Fin 8) (l : Fin 2048) (j : Fin 1024) :
    res_main_v9 V0 (ix3 b l j) = row (V0 (Proc.devRef .tc main_arg0)) (tok b l) j
      + rowMul (row (V0 (Proc.devRef .tc main_arg1)) (tok b l)) (mat (V0 (Proc.devRef .tc main_arg3))) j := by
  pointwise! [res_main_v9, rowMul]

theorem v27_at (b : Fin 8) (h : Fin 4) (l : Fin 2048) (m : Fin 256) :
    res_main_v27 V0 (ix4 b h l m) = score (fun d => rowMul (rms (fun k => res_main_v9 V0 (ix3 b l k)) (vec (V0 (Proc.devRef .tc main_arg4))))
        (mat (V0 (Proc.devRef .tc main_arg5))) ⟨h * 256 + d, by omega⟩)
      (fun m d => mat (V0 (Proc.devRef .tc main_arg2)) (⟨b * 256 + m, by omega⟩ : Fin 2048) (⟨h * 256 + d, by omega⟩ : Fin 2048)) m := by
  pointwise! [res_main_v27, res_main_v3, score, rowMul, rms]

/-- The reference's row maxima of the scores. -/
def maxima (x : FVec Ideal S8x4x2048x256 .f32) : FVec Ideal S8x4x2048 .f32 :=
  Host.reduce FloatOps.maximumf x (constant S_ .f32 0xFF800000#32) reducesTo_S8x4x2048x256_S8x4x2048_d3 h_S_

theorem maxima_at (x : FVec Ideal S8x4x2048x256 .f32) (b : Fin 8) (h : Fin 4) (l : Fin 2048) :
    maxima x (ix3 b h l) = top fun m => x (ix4 b h l m) := by
  have hr : S8x4x2048x256.Reduces [3] S8x4x2048 := by decide
  refine (Host.reduce_eq_fold_single _ _ _ _ hr _ _).trans ?_
  refine congrArg (Finset.fold max (Ideal.ofBits .f32 0xFF800000#32) · Finset.univ) (funext fun m => congrArg x ?_)
  funext a
  match a with
  | ⟨0, _⟩ => rfl
  | ⟨1, _⟩ => rfl
  | ⟨2, _⟩ => rfl
  | ⟨3, _⟩ => rfl

theorem weight_at (x : FVec Ideal S8x4x2048x256 .f32) (y : FVec Ideal S8x4x2048 .f32) (b : Fin 8) (h : Fin 4) (l : Fin 2048) (m : Fin 256) :
    Host.exp (subf x (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) y)))) (ix4 b h l m)
      = Ideal.exp (x (ix4 b h l m) - max (Ideal.ofBits .f32 0xFF800000#32) (y (ix3 b h l))) := by
  pointwise! []

theorem v34_at (b : Fin 8) (h : Fin 4) (l : Fin 2048) (m : Fin 256) :
    res_main_v34 V0 (ix4 b h l m) = weight (fun m => res_main_v27 V0 (ix4 b h l m)) m := by
  refine (weight_at (res_main_v27 V0) (maxima (res_main_v27 V0)) b h l m).trans ?_
  rw [maxima_at, bits_bot, max_eq_right bot_le]
  rfl

theorem probs_at (e : FVec Ideal S8x4x2048x256 .f32) (b : Fin 8) (h : Fin 4) (l : Fin 2048) (m : Fin 256) :
    Host.divf e (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd e (constant S_ .f32 0x00000000#32) reducesTo_S8x4x2048x256_S8x4x2048_d3 h_S_))) (ix4 b h l m)
      = Ideal.div (e (ix4 b h l m)) (∑ m, e (ix4 b h l m)) := by
  pointwise! []

theorem mixed_at (kv : FVec Ideal S2048x2048 .f32) (p : FVec Ideal S8x4x2048x256 .f32) (b : Fin 8) (l : Fin 2048) (h : Fin 4) (d : Fin 256) :
    transpose S8x2048x4x256 [0, 3, 1, 2] (Host.dotGeneral dot_S8x256x4x256_S8x4x2048x256_S8x4x256x2048_1_3_3_2_02_01 none (shapeCast _ (extractStridedSlice S2048x1024 ![0, 1024] kv slices_S2048x2048_S2048x1024_0_1024) shapeCasts_S2048x1024_S8x256x4x256) p) transposes_S8x4x256x2048_S8x2048x4x256_0_3_1_2 (ix4 b l h d)
      = ∑ m : Fin 256, mat kv (⟨b * 256 + m, by omega⟩ : Fin 2048) (⟨1024 + (h * 256 + d), by omega⟩ : Fin 2048) * p (ix4 b h l m) := by
  pointwise! []

theorem attended_at (x : FVec Ideal S8x2048x1024 .f32) (o : FVec Ideal S8x2048x4x256 .f32) (w : FVec Ideal S1024x1024 .f32) (b : Fin 8) (l : Fin 2048) (j : Fin 1024) :
    addf x (Host.dotGeneral dot_S8x2048x1024_S1024x1024_S8x2048x1024_2_0_01_1_n_n none (shapeCast _ o shapeCasts_S8x2048x4x256_S8x2048x1024) w) (ix3 b l j)
      = line x b l j + rowMul (fun k : Fin 1024 => o (ix4 b l (⟨k / 256, by omega⟩ : Fin 4) (⟨k % 256, by omega⟩ : Fin 256))) (mat w) j := by
  pointwise! [rowMul]

theorem v43_at (b : Fin 8) (l : Fin 2048) (j : Fin 1024) :
    res_main_v43 V0 (ix3 b l j) = line (res_main_v9 V0) b l j
      + rowMul (fun k : Fin 1024 => attend' (fun m => res_main_v34 V0 (ix4 b (⟨k / 256, by omega⟩ : Fin 4) l m))
          (fun m d => mat (V0 (Proc.devRef .tc main_arg2)) (⟨b * 256 + m, by omega⟩ : Fin 2048) (⟨1024 + (k / 256 * 256 + d), by omega⟩ : Fin 2048))
          (⟨k % 256, by omega⟩ : Fin 256)) (mat (V0 (Proc.devRef .tc main_arg6))) j := by
  refine (attended_at _ _ _ b l j).trans (congrArg₂ (· + ·) rfl ?_)
  refine congrArg (rowMul · _ j) (funext fun k => ?_)
  refine (mixed_at _ _ b l _ _).trans (Finset.sum_congr rfl fun m _ => ?_)
  exact congrArg₂ (· * ·) rfl (probs_at _ b _ l m)

theorem v57_at (b : Fin 8) (l : Fin 2048) (j : Fin 5632) :
    res_main_v57 V0 (ix3 b l j) = rowMul (rms (fun k => res_main_v43 V0 (ix3 b l k)) (vec (V0 (Proc.devRef .tc main_arg7))))
        (mat (V0 (Proc.devRef .tc main_arg8))) j := by
  pointwise! [res_main_v57, rowMul, rms]

theorem v65_at (b : Fin 8) (l : Fin 2048) (j : Fin 1024) :
    res_main_v65 V0 (ix3 b l j) = line (res_main_v43 V0) b l j + Ideal.ofBits .f32 0x3F000000#32
      * ∑ t : Fin 2816, gated (res_main_v57 V0 (ix3 b l (⟨t, by omega⟩ : Fin 5632))) (res_main_v57 V0 (ix3 b l (⟨2816 + t, by omega⟩ : Fin 5632)))
        * V0 (Proc.devRef .tc main_arg9) (ix2 t j) := by
  pointwise! [res_main_v65, res_main_v58, gated, Ideal.logistic]

/-- The reference's result. -/
def out : FVec Ideal S16384x1024 .f32 :=
  shapeCast _ (mulf (mulf (res_main_v65 V0) (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf (res_main_v65 V0) (res_main_v65 V0)) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (V0 (Proc.devRef .tc main_arg10))))) shapeCasts_S8x2048x1024_S16384x1024

theorem out_at (i : Fin 16384) (j : Fin 1024) :
    out V0 (ix2 i j) = rms (fun k => res_main_v65 V0 (ix3 (⟨i / 2048, by omega⟩ : Fin 8) (⟨i % 2048, by omega⟩ : Fin 2048) k))
      (vec (V0 (Proc.devRef .tc main_arg10))) j := by
  pointwise! [out, rms]

/-- One token's line of the reference's result, from the arguments. -/
theorem out_row (i : Fin 16384) (j : Fin 1024) : out V0 (ix2 i j)
    = rms (postRow' (row (V0 (Proc.devRef .tc main_arg0)) i) (row (V0 (Proc.devRef .tc main_arg1)) i) (mat (V0 (Proc.devRef .tc main_arg3)))
      (vec (V0 (Proc.devRef .tc main_arg4))) (mat (V0 (Proc.devRef .tc main_arg5))) (keys (V0 (Proc.devRef .tc main_arg2)) i)
      (values (V0 (Proc.devRef .tc main_arg2)) i) (mat (V0 (Proc.devRef .tc main_arg6))) (vec (V0 (Proc.devRef .tc main_arg7)))
      (mat (V0 (Proc.devRef .tc main_arg8))) (mat (V0 (Proc.devRef .tc main_arg9)))) (vec (V0 (Proc.devRef .tc main_arg10))) j := by
  refine (out_at V0 i j).trans ?_
  refine congrArg (rms · _ j) (funext fun j => ?_)
  obtain ⟨b, hb⟩ : ∃ b : Fin 8, b = ⟨i / 2048, by omega⟩ := ⟨_, rfl⟩
  obtain ⟨l, hl⟩ : ∃ l : Fin 2048, l = ⟨i % 2048, by omega⟩ := ⟨_, rfl⟩
  have hi : i = tok b l := by
    subst hb hl
    exact Fin.ext (Nat.div_add_mod' i.val 2048).symm
  rw [← hb, ← hl]
  have h1 : line (res_main_v9 V0) b l = fun j => row (V0 (Proc.devRef .tc main_arg0)) i j
      + rowMul (row (V0 (Proc.devRef .tc main_arg1)) i) (mat (V0 (Proc.devRef .tc main_arg3))) j :=
    funext fun j => by rw [hi]; exact v9_at V0 b l j
  have hh : (fun k : Fin 1024 => attend' (fun m => res_main_v34 V0 (ix4 b (⟨k / 256, by omega⟩ : Fin 4) l m))
          (fun m d => mat (V0 (Proc.devRef .tc main_arg2)) (⟨b * 256 + m, by omega⟩ : Fin 2048) (⟨1024 + (k / 256 * 256 + d), by omega⟩ : Fin 2048))
          (⟨k % 256, by omega⟩ : Fin 256))
      = heads' (rowMul (rms (line (res_main_v9 V0) b l) (vec (V0 (Proc.devRef .tc main_arg4)))) (mat (V0 (Proc.devRef .tc main_arg5))))
          (keys (V0 (Proc.devRef .tc main_arg2)) i) (values (V0 (Proc.devRef .tc main_arg2)) i) := by
    funext k
    have hw : (fun m => res_main_v34 V0 (ix4 b (⟨k / 256, by omega⟩ : Fin 4) l m)) = _ := funext fun m => v34_at V0 b _ l m
    have hs : (fun m => res_main_v27 V0 (ix4 b (⟨k / 256, by omega⟩ : Fin 4) l m)) = _ := funext fun m => v27_at V0 b _ l m
    rw [hw, hs]
    have hb' : b.val = i.val / 2048 := by rw [hb]
    unfold heads' keys values part
    simp only [hb', Nat.mul_comm 256]
  have h2 : line (res_main_v43 V0) b l = fun j => line (res_main_v9 V0) b l j + rowMul (heads' (rowMul (rms (line (res_main_v9 V0) b l)
      (vec (V0 (Proc.devRef .tc main_arg4)))) (mat (V0 (Proc.devRef .tc main_arg5)))) (keys (V0 (Proc.devRef .tc main_arg2)) i)
      (values (V0 (Proc.devRef .tc main_arg2)) i)) (mat (V0 (Proc.devRef .tc main_arg6))) j :=
    funext fun j => by rw [← hh]; exact v43_at V0 b l j
  have h3 : (fun j => res_main_v57 V0 (ix3 b l j)) = rowMul (rms (line (res_main_v43 V0) b l) (vec (V0 (Proc.devRef .tc main_arg7))))
      (mat (V0 (Proc.devRef .tc main_arg8))) := funext fun j => v57_at V0 b l j
  refine (v65_at V0 b l j).trans ?_
  have h4 : ∑ t : Fin 2816, gated (res_main_v57 V0 (ix3 b l (⟨t, by omega⟩ : Fin 5632))) (res_main_v57 V0 (ix3 b l (⟨2816 + t, by omega⟩ : Fin 5632)))
      * mat (V0 (Proc.devRef .tc main_arg9)) t j = ffn (rms (line (res_main_v43 V0) b l) (vec (V0 (Proc.devRef .tc main_arg7))))
        (mat (V0 (Proc.devRef .tc main_arg8))) (mat (V0 (Proc.devRef .tc main_arg9))) j := by
    unfold ffn
    rw [← h3]
  refine (congrArg (fun s => line (res_main_v43 V0) b l j + Ideal.ofBits .f32 0x3F000000#32 * s) h4).trans ?_
  rw [h2, h1]
  rfl

/-- The reference's result from its arguments. -/
theorem out_eq : out V0 = layer' (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) (V0 (Proc.devRef .tc main_arg10)) :=
  funext fun z => (congrArg _ (eq_ix2 z)).trans (out_row V0 (z 0) (z 1))

end Cert.ReferenceIdeal.Rows

end
-- ==== Proof.Ref2.lean ====
module

public import proofs.«01_k».proof.Proof.Gen.Reference2Ideal.Run
public import proofs.«01_k».proof.Proof.Columns
public import Idealize.ShloMosaic.Lib.Pipeline.ValueKit

@[expose] public section

set_option maxRecDepth 16384

noncomputable section

/-! The feed-forward and in-projection reference's results, row by row. -/

namespace Cert.Reference2Ideal.Rows

open Cert.Reference2Ideal Cert.Reference2Ideal.Gen Cert.Reference2Ideal.Value Idealize.ShloMosaic Idealize.ShloMosaic.TcCoe Idealize.SL.Sem
  Idealize.ShloMosaic.StableHlo Cert.Rows

/-- One token's line of an array of tokens. -/
abbrev line {p : ℕ} (X : (⟨3, ![8, 2048, p]⟩ : Shape).Idx → EReal) (b : Fin 8) (l : Fin 2048) : Fin p → EReal := fun k => X (ix3 b l k)

/-- The reference's root mean square normalisation. -/
def normed (x : FVec Ideal S8x2048x1024 .f32) (w : FVec Ideal S1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 w))

theorem normed_at (x : FVec Ideal S8x2048x1024 .f32) (w : FVec Ideal S1024 .f32) (b : Fin 8) (l : Fin 2048) (j : Fin 1024) :
    normed x w (ix3 b l j) = rms (line x b l) (vec w) j := by
  pointwise! [normed, rms]

/-- The feed-forward's gates and values. -/
def hidden (h : FVec Ideal S8x2048x1024 .f32) (up : FVec Ideal S1024x5632 .f32) : FVec Ideal S8x2048x5632 .f32 :=
  Host.dotGeneral dot_S8x2048x1024_S1024x5632_S8x2048x5632_2_0_01_1_n_n none h up

theorem hidden_at (h : FVec Ideal S8x2048x1024 .f32) (up : FVec Ideal S1024x5632 .f32) (b : Fin 8) (l : Fin 2048) (j : Fin 5632) :
    hidden h up (ix3 b l j) = rowMul (line h b l) (mat up) j := by
  pointwise! [hidden, rowMul]

/-- The reference's residual stream after half a feed-forward. -/
def fed (x : FVec Ideal S8x2048x1024 .f32) (g : FVec Ideal S8x2048x5632 .f32) (down : FVec Ideal S2816x1024 .f32) : FVec Ideal S8x2048x1024 .f32 :=
  addf x (mulf (broadcastInDim S8x2048x1024 ![] bcast_S_S8x2048x1024 (constant S_ .f32 0x3F000000#32)) (Host.dotGeneral dot_S8x2048x2816_S2816x1024_S8x2048x1024_2_0_01_1_n_n none (mulf (mulf (extractStridedSlice S8x2048x2816 ![0, 0, 0] g slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] g slices_S8x2048x5632_S8x2048x2816_0_0_0)))))) (extractStridedSlice S8x2048x2816 ![0, 0, 2816] g slices_S8x2048x5632_S8x2048x2816_0_0_2816)) down))

theorem fed_at (x : FVec Ideal S8x2048x1024 .f32) (g : FVec Ideal S8x2048x5632 .f32) (down : FVec Ideal S2816x1024 .f32) (b : Fin 8) (l : Fin 2048) (j : Fin 1024) :
    fed x g down (ix3 b l j) = x (ix3 b l j) + Ideal.ofBits .f32 0x3F000000#32
      * ∑ t : Fin 2816, gated (g (ix3 b l (⟨t, by omega⟩ : Fin 5632))) (g (ix3 b l (⟨2816 + t, by omega⟩ : Fin 5632))) * down (ix2 t j) := by
  pointwise! [fed, gated, Ideal.logistic]

/-- The reference's in-projection, its columns as stored. -/
def projected (t : FVec Ideal S8x2048x3352 .f32) : FVec Ideal S8x2048x3456 .f32 :=
  concatenate S8x2048x3456 2 [⟨S8x2048x1536, extractStridedSlice S8x2048x1536 ![0, 0, 0] t slices_S8x2048x3352_S8x2048x1536_0_0_0⟩,
    ⟨S8x2048x768, extractStridedSlice S8x2048x768 ![0, 0, 1544] t slices_S8x2048x3352_S8x2048x768_0_0_1544⟩,
    ⟨S8x2048x1024, extractStridedSlice S8x2048x1024 ![0, 0, 2328] t slices_S8x2048x3352_S8x2048x1024_0_0_2328⟩,
    ⟨S8x2048x8, extractStridedSlice S8x2048x8 ![0, 0, 1536] t slices_S8x2048x3352_S8x2048x8_0_0_1536⟩,
    ⟨S8x2048x16, extractStridedSlice S8x2048x16 ![0, 0, 2312] t slices_S8x2048x3352_S8x2048x16_0_0_2312⟩,
    ⟨S8x2048x104, broadcastInDim S8x2048x104 ![] bcast_S_S8x2048x104 (constant S_ .f32 0x00000000#32)⟩]
    concatenates_S8x2048x1536_S8x2048x768_S8x2048x1024_S8x2048x8_S8x2048x16_S8x2048x104_S8x2048x3456_d2

set_option maxHeartbeats 800000 in
theorem projected_at (t : FVec Ideal S8x2048x3352 .f32) (b : Fin 8) (l : Fin 2048) (j : Fin 3456) :
    projected t (ix3 b l j) = ordered (line t b l) j := by
  pointwise! [projected, ordered]

theorem inproj_at (h : FVec Ideal S8x2048x1024 .f32) (w : FVec Ideal S1024x3352 .f32) (b : Fin 8) (l : Fin 2048) (j : Fin 3352) :
    Host.dotGeneral dot_S8x2048x1024_S1024x3352_S8x2048x3352_2_0_01_1_n_n none h w (ix3 b l j) = rowMul (line h b l) (mat w) j := by
  pointwise! [rowMul]

theorem tokens_at (x : FVec Ideal S16384x1024 .f32) (b : Fin 8) (l : Fin 2048) (j : Fin 1024) :
    shapeCast S8x2048x1024 x shapeCasts_S16384x1024_S8x2048x1024 (ix3 b l j) = row x ⟨b * 2048 + l, by omega⟩ j := by
  pointwise! []

theorem flat_at (x : FVec Ideal S8x2048x1024 .f32) (i : Fin 16384) (j : Fin 1024) :
    shapeCast S16384x1024 x shapeCasts_S8x2048x1024_S16384x1024 (ix2 i j) = line x (⟨i / 2048, by omega⟩ : Fin 8) (⟨i % 2048, by omega⟩ : Fin 2048) j := by
  pointwise! []

theorem flat_proj_at (x : FVec Ideal S8x2048x3456 .f32) (i : Fin 16384) (j : Fin 3456) :
    shapeCast S16384x3456 x shapeCasts_S8x2048x3456_S16384x3456 (ix2 i j) = line x (⟨i / 2048, by omega⟩ : Fin 8) (⟨i % 2048, by omega⟩ : Fin 2048) j := by
  pointwise! []

variable (x : FVec Ideal S16384x1024 .f32) (n : FVec Ideal S1024 .f32) (up : FVec Ideal S1024x5632 .f32) (down : FVec Ideal S2816x1024 .f32)

/-- The residual stream, by sequence and token. -/
def after : FVec Ideal S8x2048x1024 .f32 :=
  fed (shapeCast S8x2048x1024 x shapeCasts_S16384x1024_S8x2048x1024)
    (hidden (normed (shapeCast S8x2048x1024 x shapeCasts_S16384x1024_S8x2048x1024) n) up) down

theorem after_line (i : Fin 16384) : line (after x n up down) (⟨i / 2048, by omega⟩ : Fin 8) (⟨i % 2048, by omega⟩ : Fin 2048)
    = row (stream x n up down) i := by
  funext j
  have hi : (⟨i / 2048 * 2048 + i % 2048, by omega⟩ : Fin 16384) = i := Fin.ext (Nat.div_add_mod' i.val 2048)
  have h0 : line (shapeCast S8x2048x1024 x shapeCasts_S16384x1024_S8x2048x1024) (⟨i / 2048, by omega⟩ : Fin 8) (⟨i % 2048, by omega⟩ : Fin 2048) = row x i :=
    funext fun k => (tokens_at x _ _ k).trans (congrArg (row x · k) hi)
  have h1 : line (normed (shapeCast S8x2048x1024 x shapeCasts_S16384x1024_S8x2048x1024) n) (⟨i / 2048, by omega⟩ : Fin 8) (⟨i % 2048, by omega⟩ : Fin 2048)
      = rms (row x i) (vec n) := by
    rw [← h0]
    exact funext fun k => normed_at _ n _ _ k
  have h2 : line (hidden (normed (shapeCast S8x2048x1024 x shapeCasts_S16384x1024_S8x2048x1024) n) up) (⟨i / 2048, by omega⟩ : Fin 8) (⟨i % 2048, by omega⟩ : Fin 2048)
      = rowMul (rms (row x i) (vec n)) (mat up) := by
    rw [← h1]
    exact funext fun k => hidden_at _ up _ _ k
  refine (fed_at _ _ down _ _ j).trans ?_
  refine congrArg₂ (· + ·) (congrFun h0 j) (congrArg _ (Finset.sum_congr rfl fun t _ => ?_))
  exact congrArg₂ (fun a b => gated a b * down (ix2 t j)) (congrFun h2 _) (congrFun h2 _)

/-- The first result from the arguments. -/
theorem stream_eq : shapeCast S16384x1024 (after x n up down) shapeCasts_S8x2048x1024_S16384x1024 = stream x n up down :=
  funext fun z => (congrArg _ (eq_ix2 z)).trans ((flat_at _ (z 0) (z 1)).trans (congrFun (after_line x n up down (z 0)) (z 1)))

/-- The second result from the arguments. -/
theorem proj_eq (n' : FVec Ideal S1024 .f32) (w : FVec Ideal S1024x3352 .f32) :
    shapeCast S16384x3456 (projected (Host.dotGeneral dot_S8x2048x1024_S1024x3352_S8x2048x3352_2_0_01_1_n_n none (normed (after x n up down) n') w))
      shapeCasts_S8x2048x3456_S16384x3456 = proj x n up down n' w := by
  have hrow : ∀ (i : Fin 16384) (j : Fin 3456), line (projected (Host.dotGeneral dot_S8x2048x1024_S1024x3352_S8x2048x3352_2_0_01_1_n_n none (normed (after x n up down) n') w))
      (⟨i / 2048, by omega⟩ : Fin 8) (⟨i % 2048, by omega⟩ : Fin 2048) j = ordered (rowMul (rms (row (stream x n up down) i) (vec n')) (mat w)) j := by
    intro i j
    refine (projected_at _ _ _ j).trans (congrArg (ordered · j) (funext fun k => ?_))
    refine (inproj_at _ w _ _ k).trans (congrArg (rowMul · _ k) (funext fun l => ?_))
    refine (normed_at _ n' _ _ l).trans (congrArg (rms · _ l) (after_line x n up down i))
  exact funext fun z => (congrArg _ (eq_ix2 z)).trans ((flat_proj_at _ (z 0) (z 1)).trans (hrow (z 0) (z 1)))

end Cert.Reference2Ideal.Rows

end
-- ==== Proof.Ref3.lean ====
module

public import proofs.«01_k».proof.Proof.Gen.Reference3Ideal.Run
public import proofs.«01_k».proof.Proof.Memory
public import Idealize.ShloMosaic.Lib.Pipeline.ValueKit

@[expose] public section

set_option maxRecDepth 16384

noncomputable section

/-! The memory reference's results, row by row. -/

namespace Cert.Reference3Ideal.Rows

open Cert.Reference3Ideal Cert.Reference3Ideal.Gen Cert.Reference3Ideal.Value Idealize.ShloMosaic Idealize.ShloMosaic.TcCoe Idealize.SL.Sem
  Idealize.ShloMosaic.StableHlo Cert.Rows

variable (x : FVec Ideal S8x256x1024 .f32) (wk wv : FVec Ideal S1024x1024 .f32)

/-- The reference's first result. -/
def out : FVec Ideal S2048x2048 .f32 :=
  shapeCast _ (concatenate S8x256x2048 2 [⟨S8x256x1024, (Host.dotGeneral dot_S8x256x1024_S1024x1024_S8x256x1024_2_0_01_1_n_n none x wk)⟩,
    ⟨S8x256x1024, (Host.dotGeneral dot_S8x256x1024_S1024x1024_S8x256x1024_2_0_01_1_n_n none x wv)⟩]
    concatenates_S8x256x1024_S8x256x1024_S8x256x2048_d2) shapeCasts_S8x256x2048_S2048x2048

theorem out_at (i j : Fin 2048) : out x wk wv (ix2 i j) = memory x wk wv (ix2 i j) := by
  refine Eq.trans ?_ (rowMul_sides _ _ _ j).symm
  pointwise! [out, rowMul]

/-- The first result from the arguments. -/
theorem out_eq : out x wk wv = memory x wk wv :=
  funext fun z => ((congrArg _ (eq_ix2 z)).trans (out_at x wk wv (z 0) (z 1))).trans (congrArg _ (eq_ix2 z).symm)

/-- The second result, the first in the narrower format, from the arguments. -/
theorem out16_eq : truncf .bf16 (out x wk wv) bitsLt_bf16_f32 = memory x wk wv :=
  funext fun z => (congrArg _ (eq_ix2 z)).trans ((show _ = out x wk wv (ix2 (z 0) (z 1)) by pointwise! []).trans
    ((out_at x wk wv (z 0) (z 1)).trans (congrArg _ (eq_ix2 z).symm)))

end Cert.Reference3Ideal.Rows

end
-- ==== Proof.Ref4.lean ====
module

public import proofs.«01_k».proof.Proof.Gen.Reference4Ideal.Run
public import proofs.«01_k».proof.Proof.Ref
public import proofs.«01_k».proof.Proof.Ref2
public import Idealize.ShloMosaic.Lib.Pipeline.ValueKit

@[expose] public section

set_option maxRecDepth 16384

noncomputable section

/-! The result of the reference without the final normalisation, row by row. -/

namespace Cert.Reference4Ideal.Rows

open Cert.Reference4Ideal Cert.Reference4Ideal.Gen Cert.Reference4Ideal.Value Idealize.ShloMosaic Idealize.ShloMosaic.TcCoe Idealize.SL.Sem
  Idealize.ShloMosaic.StableHlo Cert.Rows
open Cert.ReferenceIdeal.Rows (tok maxima maxima_at weight_at probs_at mixed_at attended_at)
open Cert.Reference2Ideal.Rows (line normed normed_at hidden hidden_at fed fed_at flat_at)

variable (V0 : Valuation τ sig (Elt Ideal))

theorem v9_at (b : Fin 8) (l : Fin 2048) (j : Fin 1024) :
    res_main_v9 V0 (ix3 b l j) = row (V0 (Proc.devRef .tc main_arg0)) (tok b l) j
      + rowMul (row (V0 (Proc.devRef .tc main_arg1)) (tok b l)) (mat (V0 (Proc.devRef .tc main_arg3))) j := by
  pointwise! [res_main_v9, rowMul]

theorem v27_at (b : Fin 8) (h : Fin 4) (l : Fin 2048) (m : Fin 256) :
    res_main_v27 V0 (ix4 b h l m) = score (fun d => rowMul (rms (fun k => res_main_v9 V0 (ix3 b l k)) (vec (V0 (Proc.devRef .tc main_arg4))))
        (mat (V0 (Proc.devRef .tc main_arg5))) ⟨h * 256 + d, by omega⟩)
      (fun m d => mat (V0 (Proc.devRef .tc main_arg2)) (⟨b * 256 + m, by omega⟩ : Fin 2048) (⟨h * 256 + d, by omega⟩ : Fin 2048)) m := by
  pointwise! [res_main_v27, res_main_v3, score, rowMul, rms]

theorem v34_at (b : Fin 8) (h : Fin 4) (l : Fin 2048) (m : Fin 256) :
    res_main_v34 V0 (ix4 b h l m) = weight (fun m => res_main_v27 V0 (ix4 b h l m)) m := by
  refine (weight_at (res_main_v27 V0) (maxima (res_main_v27 V0)) b h l m).trans ?_
  rw [maxima_at, bits_bot, max_eq_right bot_le]
  rfl

theorem v43_at (b : Fin 8) (l : Fin 2048) (j : Fin 1024) :
    res_main_v43 V0 (ix3 b l j) = line (res_main_v9 V0) b l j
      + rowMul (fun k : Fin 1024 => attend' (fun m => res_main_v34 V0 (ix4 b (⟨k / 256, by omega⟩ : Fin 4) l m))
          (fun m d => mat (V0 (Proc.devRef .tc main_arg2)) (⟨b * 256 + m, by omega⟩ : Fin 2048) (⟨1024 + (k / 256 * 256 + d), by omega⟩ : Fin 2048))
          (⟨k % 256, by omega⟩ : Fin 256)) (mat (V0 (Proc.devRef .tc main_arg6))) j := by
  refine (attended_at _ _ _ b l j).trans (congrArg₂ (· + ·) rfl ?_)
  refine congrArg (rowMul · _ j) (funext fun k => ?_)
  refine (mixed_at _ _ b l _ _).trans (Finset.sum_congr rfl fun m _ => ?_)
  exact congrArg₂ (· * ·) rfl (probs_at _ b _ l m)

/-- The reference's result. -/
def out : FVec Ideal S16384x1024 .f32 :=
  shapeCast _ (fed (res_main_v43 V0) (res_main_v57 V0) (V0 (Proc.devRef .tc main_arg9))) shapeCasts_S8x2048x1024_S16384x1024

/-- One token's line of the reference's result, from the arguments. -/
theorem out_row (i : Fin 16384) (j : Fin 1024) : out V0 (ix2 i j)
    = postRow' (row (V0 (Proc.devRef .tc main_arg0)) i) (row (V0 (Proc.devRef .tc main_arg1)) i) (mat (V0 (Proc.devRef .tc main_arg3)))
      (vec (V0 (Proc.devRef .tc main_arg4))) (mat (V0 (Proc.devRef .tc main_arg5))) (keys (V0 (Proc.devRef .tc main_arg2)) i)
      (values (V0 (Proc.devRef .tc main_arg2)) i) (mat (V0 (Proc.devRef .tc main_arg6))) (vec (V0 (Proc.devRef .tc main_arg7)))
      (mat (V0 (Proc.devRef .tc main_arg8))) (mat (V0 (Proc.devRef .tc main_arg9))) j := by
  refine (flat_at _ i j).trans ?_
  obtain ⟨b, hb⟩ : ∃ b : Fin 8, b = ⟨i / 2048, by omega⟩ := ⟨_, rfl⟩
  obtain ⟨l, hl⟩ : ∃ l : Fin 2048, l = ⟨i % 2048, by omega⟩ := ⟨_, rfl⟩
  have hi : i = tok b l := by
    subst hb hl
    exact Fin.ext (Nat.div_add_mod' i.val 2048).symm
  rw [← hb, ← hl]
  have h1 : line (res_main_v9 V0) b l = fun j => row (V0 (Proc.devRef .tc main_arg0)) i j
      + rowMul (row (V0 (Proc.devRef .tc main_arg1)) i) (mat (V0 (Proc.devRef .tc main_arg3))) j :=
    funext fun j => by rw [hi]; exact v9_at V0 b l j
  have hh : (fun k : Fin 1024 => attend' (fun m => res_main_v34 V0 (ix4 b (⟨k / 256, by omega⟩ : Fin 4) l m))
          (fun m d => mat (V0 (Proc.devRef .tc main_arg2)) (⟨b * 256 + m, by omega⟩ : Fin 2048) (⟨1024 + (k / 256 * 256 + d), by omega⟩ : Fin 2048))
          (⟨k % 256, by omega⟩ : Fin 256))
      = heads' (rowMul (rms (line (res_main_v9 V0) b l) (vec (V0 (Proc.devRef .tc main_arg4)))) (mat (V0 (Proc.devRef .tc main_arg5))))
          (keys (V0 (Proc.devRef .tc main_arg2)) i) (values (V0 (Proc.devRef .tc main_arg2)) i) := by
    funext k
    have hw : (fun m => res_main_v34 V0 (ix4 b (⟨k / 256, by omega⟩ : Fin 4) l m)) = _ := funext fun m => v34_at V0 b _ l m
    have hs : (fun m => res_main_v27 V0 (ix4 b (⟨k / 256, by omega⟩ : Fin 4) l m)) = _ := funext fun m => v27_at V0 b _ l m
    rw [hw, hs]
    have hb' : b.val = i.val / 2048 := by rw [hb]
    unfold heads' keys values part
    simp only [hb', Nat.mul_comm 256]
  have h2 : line (res_main_v43 V0) b l = fun j => line (res_main_v9 V0) b l j + rowMul (heads' (rowMul (rms (line (res_main_v9 V0) b l)
      (vec (V0 (Proc.devRef .tc main_arg4)))) (mat (V0 (Proc.devRef .tc main_arg5)))) (keys (V0 (Proc.devRef .tc main_arg2)) i)
      (values (V0 (Proc.devRef .tc main_arg2)) i)) (mat (V0 (Proc.devRef .tc main_arg6))) j :=
    funext fun j => by rw [← hh]; exact v43_at V0 b l j
  have h3 : (fun j => res_main_v57 V0 (ix3 b l j)) = rowMul (rms (line (res_main_v43 V0) b l) (vec (V0 (Proc.devRef .tc main_arg7))))
      (mat (V0 (Proc.devRef .tc main_arg8))) := by
    have hn : line (normed (res_main_v43 V0) (V0 (Proc.devRef .tc main_arg7))) b l = _ := funext fun k => normed_at _ _ b l k
    rw [← hn]
    exact funext fun j => hidden_at _ _ b l j
  refine (fed_at _ _ _ b l j).trans ?_
  have h4 : ∑ t : Fin 2816, gated (res_main_v57 V0 (ix3 b l (⟨t, by omega⟩ : Fin 5632))) (res_main_v57 V0 (ix3 b l (⟨2816 + t, by omega⟩ : Fin 5632)))
      * mat (V0 (Proc.devRef .tc main_arg9)) t j = ffn (rms (line (res_main_v43 V0) b l) (vec (V0 (Proc.devRef .tc main_arg7))))
        (mat (V0 (Proc.devRef .tc main_arg8))) (mat (V0 (Proc.devRef .tc main_arg9))) j := by
    unfold ffn
    rw [← h3]
  refine (congrArg (fun s => line (res_main_v43 V0) b l j + Ideal.ofBits .f32 0x3F000000#32 * s) h4).trans ?_
  rw [h2, h1]
  rfl

/-- The reference's result from its arguments. -/
theorem out_eq : out V0 = inner' (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) :=
  funext fun z => (congrArg _ (eq_ix2 z)).trans (out_row V0 (z 0) (z 1))

end Cert.Reference4Ideal.Rows

end
-- ==== Proof.Ref5.lean ====
module

public import proofs.«01_k».proof.Proof.Gen.Reference5Ideal.Run
public import proofs.«01_k».proof.Proof.Columns
public import Idealize.ShloMosaic.Lib.Pipeline.ValueKit

@[expose] public section

set_option maxRecDepth 16384

noncomputable section

/-! The sample tokens' reference's result, row by row. -/

namespace Cert.Reference5Ideal.Rows

open Cert.Reference5Ideal Cert.Reference5Ideal.Gen Cert.Reference5Ideal.Value Idealize.ShloMosaic Idealize.ShloMosaic.TcCoe Idealize.SL.Sem
  Idealize.ShloMosaic.StableHlo Cert.Rows

/-- One token's line of an array of tokens. -/
abbrev line {p : ℕ} (X : (⟨3, ![128, 1, p]⟩ : Shape).Idx → EReal) (b : Fin 128) : Fin p → EReal := fun k => X (ix3 b (0 : Fin 1) k)

/-- The reference's root mean square normalisation. -/
def normed (x : FVec Ideal S128x1x1024 .f32) (w : FVec Ideal S1024 .f32) : FVec Ideal S128x1x1024 .f32 :=
  mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 w))

theorem normed_at (x : FVec Ideal S128x1x1024 .f32) (w : FVec Ideal S1024 .f32) (b : Fin 128) (j : Fin 1024) :
    normed x w (ix3 b (0 : Fin 1) j) = rms (line x b) (vec w) j := by
  pointwise! [normed, rms]

/-- The feed-forward's gates and values. -/
def hidden (h : FVec Ideal S128x1x1024 .f32) (up : FVec Ideal S1024x5632 .f32) : FVec Ideal S128x1x5632 .f32 :=
  Host.dotGeneral dot_S128x1x1024_S1024x5632_S128x1x5632_2_0_01_1_n_n none h up

theorem hidden_at (h : FVec Ideal S128x1x1024 .f32) (up : FVec Ideal S1024x5632 .f32) (b : Fin 128) (j : Fin 5632) :
    hidden h up (ix3 b (0 : Fin 1) j) = rowMul (line h b) (mat up) j := by
  pointwise! [hidden, rowMul]

/-- The reference's residual stream after half a feed-forward. -/
def fed (x : FVec Ideal S128x1x1024 .f32) (g : FVec Ideal S128x1x5632 .f32) (down : FVec Ideal S2816x1024 .f32) : FVec Ideal S128x1x1024 .f32 :=
  addf x (mulf (broadcastInDim S128x1x1024 ![] bcast_S_S128x1x1024 (constant S_ .f32 0x3F000000#32)) (Host.dotGeneral dot_S128x1x2816_S2816x1024_S128x1x1024_2_0_01_1_n_n none (mulf (mulf (extractStridedSlice S128x1x2816 ![0, 0, 0] g slices_S128x1x5632_S128x1x2816_0_0_0) (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (extractStridedSlice S128x1x2816 ![0, 0, 0] g slices_S128x1x5632_S128x1x2816_0_0_0)))))) (extractStridedSlice S128x1x2816 ![0, 0, 2816] g slices_S128x1x5632_S128x1x2816_0_0_2816)) down))

theorem fed_at (x : FVec Ideal S128x1x1024 .f32) (g : FVec Ideal S128x1x5632 .f32) (down : FVec Ideal S2816x1024 .f32) (b : Fin 128) (j : Fin 1024) :
    fed x g down (ix3 b (0 : Fin 1) j) = x (ix3 b (0 : Fin 1) j) + Ideal.ofBits .f32 0x3F000000#32
      * ∑ t : Fin 2816, gated (g (ix3 b (0 : Fin 1) (⟨t, by omega⟩ : Fin 5632))) (g (ix3 b (0 : Fin 1) (⟨2816 + t, by omega⟩ : Fin 5632))) * down (ix2 t j) := by
  pointwise! [fed, gated, Ideal.logistic]

theorem added_at (x o : FVec Ideal S128x1024 .f32) (w : FVec Ideal S1024x1024 .f32) (b : Fin 128) (j : Fin 1024) :
    addf (shapeCast S128x1x1024 x shapeCasts_S128x1024_S128x1x1024) (Host.dotGeneral dot_S128x1x1024_S1024x1024_S128x1x1024_2_0_01_1_n_n none
      (shapeCast S128x1x1024 o shapeCasts_S128x1024_S128x1x1024) w) (ix3 b (0 : Fin 1) j) = row x b j + rowMul (row o b) (mat w) j := by
  pointwise! [rowMul]

theorem flat_at (x : FVec Ideal S128x1x1024 .f32) (b : Fin 128) (j : Fin 1024) :
    shapeCast S128x1024 x shapeCasts_S128x1x1024_S128x1024 (ix2 b j) = line x b j := by
  pointwise! []

variable (x o : FVec Ideal S128x1024 .f32) (wo : FVec Ideal S1024x1024 .f32) (n : FVec Ideal S1024 .f32) (up : FVec Ideal S1024x5632 .f32)
  (down : FVec Ideal S2816x1024 .f32) (f : FVec Ideal S1024 .f32)

/-- The residual stream after the attention. -/
def added : FVec Ideal S128x1x1024 .f32 :=
  addf (shapeCast S128x1x1024 x shapeCasts_S128x1024_S128x1x1024) (Host.dotGeneral dot_S128x1x1024_S1024x1024_S128x1x1024_2_0_01_1_n_n none
    (shapeCast S128x1x1024 o shapeCasts_S128x1024_S128x1x1024) wo)

/-- The reference's result. -/
def out : FVec Ideal S128x1024 .f32 :=
  shapeCast S128x1024 (normed (fed (added x o wo) (hidden (normed (added x o wo) n) up) down) f) shapeCasts_S128x1x1024_S128x1024

theorem added_line (b : Fin 128) : line (added x o wo) b = fun k => row x b k + rowMul (row o b) (mat wo) k :=
  funext fun k => added_at x o wo b k

/-- Half a feed-forward of one token's line. -/
theorem fed_line (a : FVec Ideal S128x1x1024 .f32) (b : Fin 128) :
    line (fed a (hidden (normed a n) up) down) b = ffnRow (line a b) (vec n) (mat up) (mat down) := by
  funext i
  have h1 : line (normed a n) b = rms (line a b) (vec n) := funext fun k => normed_at a n b k
  have h2 : line (hidden (normed a n) up) b = rowMul (rms (line a b) (vec n)) (mat up) := by
    rw [← h1]
    exact funext fun k => hidden_at _ up b k
  refine (fed_at _ _ down b i).trans ?_
  refine congrArg₂ (· + ·) rfl (congrArg _ (Finset.sum_congr rfl fun t _ => ?_))
  exact congrArg₂ (fun a b => gated a b * down (ix2 t i)) (congrFun h2 _) (congrFun h2 _)

theorem out_row (b : Fin 128) (j : Fin 1024) :
    out x o wo n up down f (ix2 b j) = sampleRow (row x b) (row o b) (mat wo) (vec n) (mat up) (mat down) (vec f) j := by
  refine (flat_at _ b j).trans ((normed_at _ f b j).trans (congrArg (rms · _ j) ?_))
  rw [fed_line, added_line]

/-- The reference's result from its arguments. -/
theorem out_eq : out x o wo n up down f = sample x o wo n up down f :=
  funext fun z => (congrArg _ (eq_ix2 z)).trans (out_row x o wo n up down f (z 0) (z 1))

end Cert.Reference5Ideal.Rows

end
-- ==== Proof.Ref6.lean ====
module

public import proofs.«01_k».proof.Proof.Gen.Reference6Ideal.Run
public import proofs.«01_k».proof.Proof.Ref5

@[expose] public section

set_option maxRecDepth 16384

noncomputable section

/-! The sample tokens' feed-forward and in-projection reference's results, row by row. -/

namespace Cert.Reference6Ideal.Rows

open Cert.Reference6Ideal Cert.Reference6Ideal.Gen Cert.Reference6Ideal.Value Idealize.ShloMosaic Idealize.ShloMosaic.TcCoe Idealize.SL.Sem
  Idealize.ShloMosaic.StableHlo Cert.Rows
open Cert.Reference5Ideal.Rows (line normed normed_at hidden fed fed_line flat_at)

/-- The reference's in-projection, its columns as stored. -/
def projected (t : FVec Ideal S128x1x3352 .f32) : FVec Ideal S128x1x3456 .f32 :=
  concatenate S128x1x3456 2 [⟨S128x1x1536, extractStridedSlice S128x1x1536 ![0, 0, 0] t slices_S128x1x3352_S128x1x1536_0_0_0⟩,
    ⟨S128x1x768, extractStridedSlice S128x1x768 ![0, 0, 1544] t slices_S128x1x3352_S128x1x768_0_0_1544⟩,
    ⟨S128x1x1024, extractStridedSlice S128x1x1024 ![0, 0, 2328] t slices_S128x1x3352_S128x1x1024_0_0_2328⟩,
    ⟨S128x1x8, extractStridedSlice S128x1x8 ![0, 0, 1536] t slices_S128x1x3352_S128x1x8_0_0_1536⟩,
    ⟨S128x1x16, extractStridedSlice S128x1x16 ![0, 0, 2312] t slices_S128x1x3352_S128x1x16_0_0_2312⟩,
    ⟨S128x1x104, broadcastInDim S128x1x104 ![] bcast_S_S128x1x104 (constant S_ .f32 0x00000000#32)⟩]
    concatenates_S128x1x1536_S128x1x768_S128x1x1024_S128x1x8_S128x1x16_S128x1x104_S128x1x3456_d2

set_option maxHeartbeats 800000 in
theorem projected_at (t : FVec Ideal S128x1x3352 .f32) (b : Fin 128) (j : Fin 3456) :
    projected t (ix3 b (0 : Fin 1) j) = ordered (line t b) j := by
  pointwise! [projected, ordered]

theorem inproj_at (h : FVec Ideal S128x1x1024 .f32) (w : FVec Ideal S1024x3352 .f32) (b : Fin 128) (j : Fin 3352) :
    Host.dotGeneral dot_S128x1x1024_S1024x3352_S128x1x3352_2_0_01_1_n_n none h w (ix3 b (0 : Fin 1) j) = rowMul (line h b) (mat w) j := by
  pointwise! [rowMul]

theorem tokens_line (x : FVec Ideal S128x1024 .f32) (b : Fin 128) : line (shapeCast S128x1x1024 x shapeCasts_S128x1024_S128x1x1024) b = row x b := by
  funext j
  pointwise! []

theorem flat_proj_at (x : FVec Ideal S128x1x3456 .f32) (b : Fin 128) (j : Fin 3456) :
    shapeCast S128x3456 x shapeCasts_S128x1x3456_S128x3456 (ix2 b j) = line x b j := by
  pointwise! []

variable (x : FVec Ideal S128x1024 .f32) (n : FVec Ideal S1024 .f32) (up : FVec Ideal S1024x5632 .f32) (down : FVec Ideal S2816x1024 .f32)

/-- The residual stream, by token. -/
def after : FVec Ideal S128x1x1024 .f32 :=
  fed (shapeCast S128x1x1024 x shapeCasts_S128x1024_S128x1x1024) (hidden (normed (shapeCast S128x1x1024 x shapeCasts_S128x1024_S128x1x1024) n) up) down

theorem after_line (b : Fin 128) : line (after x n up down) b = row (stream x n up down) b :=
  (fed_line n up down _ b).trans (congrArg (ffnRow · (vec n) (mat up) (mat down)) (tokens_line x b))

/-- The first result from the arguments. -/
theorem stream_eq : shapeCast S128x1024 (after x n up down) shapeCasts_S128x1x1024_S128x1024 = stream x n up down :=
  funext fun z => (congrArg _ (eq_ix2 z)).trans ((flat_at _ (z 0) (z 1)).trans (congrFun (after_line x n up down (z 0)) (z 1)))

/-- The second result from the arguments. -/
theorem proj_eq (n' : FVec Ideal S1024 .f32) (w : FVec Ideal S1024x3352 .f32) :
    shapeCast S128x3456 (projected (Host.dotGeneral dot_S128x1x1024_S1024x3352_S128x1x3352_2_0_01_1_n_n none (normed (after x n up down) n') w))
      shapeCasts_S128x1x3456_S128x3456 = proj x n up down n' w := by
  funext z
  refine (congrArg _ (eq_ix2 z)).trans ((flat_proj_at _ (z 0) (z 1)).trans ?_)
  refine (projected_at _ (z 0) (z 1)).trans (congrArg (ordered · (z 1)) (funext fun k => ?_))
  refine (inproj_at _ w (z 0) k).trans (congrArg (rowMul · _ k) (funext fun l => ?_))
  exact (normed_at _ n' (z 0) l).trans (congrArg (rms · _ l) (after_line x n up down (z 0)))

end Cert.Reference6Ideal.Rows

end
-- ==== Proof.Ref7.lean ====
module

public import proofs.«01_k».proof.Proof.Gen.Reference7Ideal.Run
public import proofs.«01_k».proof.Proof.Ref5

@[expose] public section

set_option maxRecDepth 16384

noncomputable section

/-! The result of the sample tokens' reference of an earlier layer, row by row. -/

namespace Cert.Reference7Ideal.Rows

open Cert.Reference7Ideal Cert.Reference7Ideal.Gen Cert.Reference7Ideal.Value Idealize.ShloMosaic Idealize.ShloMosaic.TcCoe Idealize.SL.Sem
  Idealize.ShloMosaic.StableHlo Cert.Rows
open Cert.Reference5Ideal.Rows (line normed hidden fed fed_line added added_line flat_at)

variable (x o : FVec Ideal S128x1024 .f32) (wo : FVec Ideal S1024x1024 .f32) (n : FVec Ideal S1024 .f32) (up : FVec Ideal S1024x5632 .f32)
  (down : FVec Ideal S2816x1024 .f32)

/-- The reference's result from its arguments. -/
theorem out_eq : shapeCast S128x1024 (fed (added x o wo) (hidden (normed (added x o wo) n) up) down) shapeCasts_S128x1x1024_S128x1024
    = stream (joined x o wo) n up down := by
  funext z
  refine (congrArg _ (eq_ix2 z)).trans ((flat_at _ (z 0) (z 1)).trans ((congrFun (fed_line n up down (added x o wo) (z 0)) (z 1)).trans ?_))
  exact congrArg (fun a => ffnRow a _ _ _ (z 1)) (added_line x o wo (z 0))

end Cert.Reference7Ideal.Rows

end
-- ==== Proof.Ref8.lean ====
module

public import proofs.«01_k».proof.Proof.Gen.Reference8Ideal.Run
public import proofs.«01_k».proof.Proof.Ref5

@[expose] public section

set_option maxRecDepth 16384

noncomputable section

/-! The results of the sample tokens' output projection and query reference, row by row. -/

namespace Cert.Reference8Ideal.Rows

open Cert.Reference8Ideal Cert.Reference8Ideal.Gen Cert.Reference8Ideal.Value Idealize.ShloMosaic Idealize.ShloMosaic.TcCoe Idealize.SL.Sem
  Idealize.ShloMosaic.StableHlo Cert.Rows
open Cert.Reference5Ideal.Rows (line normed normed_at added added_line flat_at)

variable (x : FVec Ideal S128x1024 .f32) (y : FVec Ideal S128x1024 .bf16) (w : FVec Ideal S1024x1024 .f32) (n : FVec Ideal S1024 .f32)
  (q : FVec Ideal S1024x1024 .f32)

/-- The first result from the arguments. -/
theorem stream_eq : shapeCast S128x1024 (added x (extf .f32 y bitsLt_bf16_f32) w) shapeCasts_S128x1x1024_S128x1024 = joined x y w :=
  funext fun z => (congrArg _ (eq_ix2 z)).trans ((flat_at _ (z 0) (z 1)).trans (congrFun (added_line x _ w (z 0)) (z 1)))

theorem queries_at (h : FVec Ideal S128x1x1024 .f32) (b : Fin 128) (j : Fin 1024) :
    Host.dotGeneral dot_S128x1x1024_S1024x1024_S128x1x1024_2_0_01_1_n_n none h q (ix3 b (0 : Fin 1) j) = rowMul (line h b) (mat q) j := by
  pointwise! [rowMul]

/-- The second result from the arguments. -/
theorem queries_eq : shapeCast S128x1024 (Host.dotGeneral dot_S128x1x1024_S1024x1024_S128x1x1024_2_0_01_1_n_n none
    (normed (added x (extf .f32 y bitsLt_bf16_f32) w) n) q) shapeCasts_S128x1x1024_S128x1024 = queries (joined x y w) n q := by
  funext z
  refine (congrArg _ (eq_ix2 z)).trans ((flat_at _ (z 0) (z 1)).trans ((queries_at q _ (z 0) (z 1)).trans ?_))
  refine congrArg (rowMul · _ (z 1)) (funext fun k => (normed_at _ n (z 0) k).trans (congrArg (rms · _ k) ?_))
  exact added_line x _ w (z 0)

end Cert.Reference8Ideal.Rows

end
-- ==== Proof.Ref9.lean ====
module

public import proofs.«01_k».proof.Proof.Gen.Reference9Ideal.Run
public import proofs.«01_k».proof.Proof.Spec9
public import Idealize.ShloMosaic.Lib.Pipeline.ValueKit

@[expose] public section

set_option maxRecDepth 16384

noncomputable section

/-! The results of the sample tokens' state space reference, token by token. -/

namespace Cert.Reference9Ideal.Rows

open Cert.Reference9Ideal Cert.Reference9Ideal.Gen Cert.Reference9Ideal.Value Idealize.ShloMosaic Idealize.ShloMosaic.TcCoe Idealize.SL.Sem
  Idealize.ShloMosaic.StableHlo Cert.Rows

/-- The stored tokens with the new one. -/
def tok (P : FVec Ideal S128x3456 .f32) (C : FVec Ideal S4x128x3x1024 .f32) : FVec Ideal S128x4x1024 .f32 :=
  concatenate S128x4x1024 1 [⟨S128x3x1024, (shapeCast _ (extractStridedSlice S1x128x3x1024 ![3, 0, 0, 0] C slices_S4x128x3x1024_S1x128x3x1024_3_0_0_0) shapeCasts_S1x128x3x1024_S128x3x1024)⟩, ⟨S128x1x1024, (shapeCast _ (extractStridedSlice S128x1024 ![0, 512] P slices_S128x3456_S128x1024_0_512) shapeCasts_S128x1024_S128x1x1024)⟩] concatenates_S128x3x1024_S128x1x1024_S128x4x1024_d1

theorem tok_at (P : FVec Ideal S128x3456 .f32) (C : FVec Ideal S4x128x3x1024 .f32) (b : Fin 128) (k : Fin 4) (j : Fin 1024) :
    tok P C (ix3 b k j) = if h : k < 3 then C (ix4 (3 : Fin 4) b ⟨k, h⟩ j) else P (ix2 b ⟨512 + j, by omega⟩) := by
  pointwise! [tok]

/-- The sigmoid linear unit. -/
def act (v : FVec Ideal S128x1x1024 .f32) : FVec Ideal S128x1x1024 .f32 :=
  mulf v (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf v))))

theorem act_at (v : FVec Ideal S128x1x1024 .f32) (i : S128x1x1024.Idx) : act v i = silu (v i) := by
  pointwise! [act, silu, Ideal.logistic]

/-- The convolution. -/
def pre (X : FVec Ideal S128x4x1024 .f32) (W : FVec Ideal S4x1024 .f32) (B : FVec Ideal S1024 .f32) : FVec Ideal S128x1x1024 .f32 :=
  addf (broadcastInDim S128x1x1024 ![0, 2] bcast_S128x1024_S128x1x1024_0_2 (Host.reduceAdd (mulf X (broadcastInDim S128x4x1024 ![0, 1, 2] bcast_S1x4x1024_S128x4x1024_0_1_2 (broadcastInDim S1x4x1024 ![1, 2] bcast_S4x1024_S1x4x1024_1_2 W))) (constant S_ .f32 0x00000000#32) reducesTo_S128x4x1024_S128x1024_d1 h_S_)) (broadcastInDim S128x1x1024 ![0, 1, 2] bcast_S1x1x1024_S128x1x1024_0_1_2 (broadcastInDim S1x1x1024 ![2] bcast_S1024_S1x1x1024_2 B))

theorem pre_at (X : FVec Ideal S128x4x1024 .f32) (W : FVec Ideal S4x1024 .f32) (B : FVec Ideal S1024 .f32) (b : Fin 128) (j : Fin 1024) :
    pre X W B (ix3 b (0 : Fin 1) j) = ∑ k : Fin 4, X (ix3 b k j) * W (ix2 k j) + B (ix1 j) := by
  pointwise! [pre]

/-- The softplus. -/
def sp (x : FVec Ideal S128x1x8 .f32) : FVec Ideal S128x1x8 .f32 :=
  select (cmpf .une (subf x (broadcastInDim S128x1x8 ![] bcast_S_S128x1x8 (constant S_ .f32 0x00000000#32))) (subf x (broadcastInDim S128x1x8 ![] bcast_S_S128x1x8 (constant S_ .f32 0x00000000#32)))) (addf x (broadcastInDim S128x1x8 ![] bcast_S_S128x1x8 (constant S_ .f32 0x00000000#32))) (addf (maximumf x (broadcastInDim S128x1x8 ![] bcast_S_S128x1x8 (constant S_ .f32 0x00000000#32))) (Host.log1p (Host.exp (Host.negf (Host.absf (subf x (broadcastInDim S128x1x8 ![] bcast_S_S128x1x8 (constant S_ .f32 0x00000000#32))))))))

theorem sp_at (x : FVec Ideal S128x1x8 .f32) (i : S128x1x8.Idx) : sp x i = soft (x i) := by
  pointwise [sp, soft]
  rw [if_neg (not_not.2 rfl), zero_sub]

/-- The rates before the softplus. -/
def rate (P : FVec Ideal S128x3456 .f32) (D : FVec Ideal S8 .f32) : FVec Ideal S128x1x8 .f32 :=
  addf (shapeCast _ (extractStridedSlice S128x8 ![0, 3328] P slices_S128x3456_S128x8_0_3328) shapeCasts_S128x8_S128x1x8) (broadcastInDim S128x1x8 ![0, 1, 2] bcast_S1x1x8_S128x1x8_0_1_2 (broadcastInDim S1x1x8 ![2] bcast_S8_S1x1x8_2 D))

theorem rate_at (P : FVec Ideal S128x3456 .f32) (D : FVec Ideal S8 .f32) (b : Fin 128) (h : Fin 8) :
    rate P D (ix3 b (0 : Fin 1) h) = P (ix2 b ⟨3328 + h, by omega⟩) + D (ix1 h) := by
  pointwise! [rate]

/-- The logarithms of the decays. -/
def logs (r : FVec Ideal S128x1x8 .f32) (A : FVec Ideal S8 .f32) : FVec Ideal S128x8 .f32 :=
  shapeCast _ (mulf r (broadcastInDim S128x1x8 ![0, 1, 2] bcast_S1x1x8_S128x1x8_0_1_2 (broadcastInDim S1x1x8 ![2] bcast_S8_S1x1x8_2 (Host.negf (Host.exp A))))) shapeCasts_S128x1x8_S128x8

theorem logs_at (r : FVec Ideal S128x1x8 .f32) (A : FVec Ideal S8 .f32) (b : Fin 128) (h : Fin 8) :
    logs r A (ix2 b h) = decay (r (ix3 b (0 : Fin 1) h)) (A (ix1 h)) := by
  unfold decay
  rw [zero_sub]
  pointwise! [logs]

/-- The values. -/
def vals (v : FVec Ideal S128x1x1024 .f32) : FVec Ideal S128x1x8x64 .f32 :=
  shapeCast _ (extractStridedSlice S128x1x512 ![0, 0, 0] v slices_S128x1x1024_S128x1x512_0_0_0) shapeCasts_S128x1x512_S128x1x8x64

theorem vals_at (v : FVec Ideal S128x1x1024 .f32) (b : Fin 128) (h : Fin 8) (p : Fin 64) :
    vals v (ix4 b (0 : Fin 1) h p) = v (ix3 b (0 : Fin 1) ⟨64 * h + p, by omega⟩) := by
  pointwise! [vals]

def flat (x : FVec Ideal S128x1x8x64 .f32) : FVec Ideal S128x8x64 .f32 := shapeCast _ x shapeCasts_S128x1x8x64_S128x8x64

theorem flat_at (x : FVec Ideal S128x1x8x64 .f32) (b : Fin 128) (h : Fin 8) (p : Fin 64) : flat x (ix3 b h p) = x (ix4 b (0 : Fin 1) h p) := by
  pointwise! [flat]

/-- A group's keys or queries, one for each of its four heads. -/
def spread (g : FVec Ideal S128x1x256 .f32) : FVec Ideal S128x1x8x128 .f32 :=
  shapeCast _ (broadcastInDim S128x1x2x4x128 ![0, 1, 2, 4] bcast_S128x1x2x128_S128x1x2x4x128_0_1_2_4 (shapeCast S128x1x2x128 g shapeCasts_S128x1x256_S128x1x2x128)) shapeCasts_S128x1x2x4x128_S128x1x8x128

theorem spread_at (g : FVec Ideal S128x1x256 .f32) (b : Fin 128) (h : Fin 8) (n : Fin 128) :
    spread g (ix4 b (0 : Fin 1) h n) = g (ix3 b (0 : Fin 1) ⟨128 * (h / 4) + n, by omega⟩) := by
  pointwise! [spread]

/-- The keys with the rates, and the queries. -/
def ks (v : FVec Ideal S128x1x1024 .f32) (r : FVec Ideal S128x1x8 .f32) : FVec Ideal S128x8x128 .f32 :=
  shapeCast _ (mulf (spread (extractStridedSlice S128x1x256 ![0, 0, 512] v slices_S128x1x1024_S128x1x256_0_0_512)) (broadcastInDim S128x1x8x128 ![0, 1, 2, 3] bcast_S128x1x8x1_S128x1x8x128_0_1_2_3 (broadcastInDim S128x1x8x1 ![0, 1, 2] bcast_S128x1x8_S128x1x8x1_0_1_2 r))) shapeCasts_S128x1x8x128_S128x8x128
def qs (v : FVec Ideal S128x1x1024 .f32) : FVec Ideal S128x8x128 .f32 :=
  shapeCast _ (spread (extractStridedSlice S128x1x256 ![0, 0, 768] v slices_S128x1x1024_S128x1x256_0_0_768)) shapeCasts_S128x1x8x128_S128x8x128

theorem ks_at (v : FVec Ideal S128x1x1024 .f32) (r : FVec Ideal S128x1x8 .f32) (b : Fin 128) (h : Fin 8) (n : Fin 128) :
    ks v r (ix3 b h n) = v (ix3 b (0 : Fin 1) ⟨512 + 128 * (h / 4) + n, by omega⟩) * r (ix3 b (0 : Fin 1) h) := by
  pointwise! [ks, spread]
theorem qs_at (v : FVec Ideal S128x1x1024 .f32) (b : Fin 128) (h : Fin 8) (n : Fin 128) :
    qs v (ix3 b h n) = v (ix3 b (0 : Fin 1) ⟨768 + 128 * (h / 4) + n, by omega⟩) := by
  pointwise! [qs, spread]

/-- The last layer's states. -/
def old (S : FVec Ideal S4x128x8x128x64 .f32) : FVec Ideal S128x8x128x64 .f32 :=
  shapeCast _ (extractStridedSlice S1x128x8x128x64 ![3, 0, 0, 0, 0] S slices_S4x128x8x128x64_S1x128x8x128x64_3_0_0_0_0) shapeCasts_S1x128x8x128x64_S128x8x128x64

theorem old_at (S : FVec Ideal S4x128x8x128x64 .f32) (b : Fin 128) (h : Fin 8) (n : Fin 128) (p : Fin 64) :
    old S (ix4 b h n p) = S (ix5 (3 : Fin 4) b h n p) := by
  pointwise! [old]

/-- The read-out. -/
def outs (q k : FVec Ideal S128x8x128 .f32) (x : FVec Ideal S128x8x64 .f32) (l : FVec Ideal S128x8 .f32) (s : FVec Ideal S128x8x128x64 .f32) :
    FVec Ideal S128x8x64 .f32 :=
  addf (mulf (broadcastInDim S128x8x64 ![0, 1, 2] bcast_S128x8x1_S128x8x64_0_1_2 (broadcastInDim S128x8x1 ![0, 1] bcast_S128x8_S128x8x1_0_1 (mulf (Host.reduceAdd (mulf q k) (constant S_ .f32 0x00000000#32) reducesTo_S128x8x128_S128x8_d2 h_S_) (Host.exp (subf l l))))) x)
    (mulf (Host.reduceAdd (mulf (broadcastInDim S128x8x128x64 ![0, 1, 2, 3] bcast_S128x8x128x1_S128x8x128x64_0_1_2_3 (broadcastInDim S128x8x128x1 ![0, 1, 2] bcast_S128x8x128_S128x8x128x1_0_1_2 q)) s) (constant S_ .f32 0x00000000#32) reducesTo_S128x8x128x64_S128x8x64_d2 h_S_)
      (broadcastInDim S128x8x64 ![0, 1, 2] bcast_S128x8x1_S128x8x64_0_1_2 (broadcastInDim S128x8x1 ![0, 1] bcast_S128x8_S128x8x1_0_1 (Host.exp l))))

theorem outs_at (q k : FVec Ideal S128x8x128 .f32) (x : FVec Ideal S128x8x64 .f32) (l : FVec Ideal S128x8 .f32) (s : FVec Ideal S128x8x128x64 .f32)
    (b : Fin 128) (h : Fin 8) (p : Fin 64) : outs q k x l s (ix3 b h p)
      = (∑ n : Fin 128, q (ix3 b h n) * k (ix3 b h n)) * Ideal.exp (l (ix2 b h) - l (ix2 b h)) * x (ix3 b h p)
        + (∑ n : Fin 128, q (ix3 b h n) * s (ix4 b h n p)) * Ideal.exp (l (ix2 b h)) := by
  pointwise! [outs]

/-- The new states. -/
def new (k : FVec Ideal S128x8x128 .f32) (x : FVec Ideal S128x8x64 .f32) (l : FVec Ideal S128x8 .f32) (s : FVec Ideal S128x8x128x64 .f32) :
    FVec Ideal S128x8x128x64 .f32 :=
  addf (mulf s (broadcastInDim S128x8x128x64 ![0, 1, 2, 3] bcast_S128x8x1x1_S128x8x128x64_0_1_2_3 (broadcastInDim S128x8x1x1 ![0, 1] bcast_S128x8_S128x8x1x1_0_1 (Host.exp l))))
    (mulf (broadcastInDim S128x8x128x64 ![0, 1, 2, 3] bcast_S128x8x128x1_S128x8x128x64_0_1_2_3 (broadcastInDim S128x8x128x1 ![0, 1, 2] bcast_S128x8x128_S128x8x128x1_0_1_2 (mulf k (broadcastInDim S128x8x128 ![0, 1, 2] bcast_S128x8x1_S128x8x128_0_1_2 (broadcastInDim S128x8x1 ![0, 1] bcast_S128x8_S128x8x1_0_1 (Host.exp (subf l l)))))))
      (broadcastInDim S128x8x128x64 ![0, 1, 2, 3] bcast_S128x8x1x64_S128x8x128x64_0_1_2_3 (broadcastInDim S128x8x1x64 ![0, 1, 3] bcast_S128x8x64_S128x8x1x64_0_1_3 x)))

theorem new_at (k : FVec Ideal S128x8x128 .f32) (x : FVec Ideal S128x8x64 .f32) (l : FVec Ideal S128x8 .f32) (s : FVec Ideal S128x8x128x64 .f32)
    (b : Fin 128) (h : Fin 8) (n : Fin 128) (p : Fin 64) : new k x l s (ix4 b h n p)
      = s (ix4 b h n p) * Ideal.exp (l (ix2 b h)) + k (ix3 b h n) * Ideal.exp (l (ix2 b h) - l (ix2 b h)) * x (ix3 b h p) := by
  pointwise! [new]

/-- The states put behind the other layers'. -/
def putState (T : FVec Ideal S4x128x8x64x128 .f32) (s : FVec Ideal S128x8x128x64 .f32) : FVec Ideal S4x128x8x64x128 .f32 :=
  concatenate S4x128x8x64x128 0 [⟨S3x128x8x64x128, (extractStridedSlice S3x128x8x64x128 ![0, 0, 0, 0, 0] T slices_S4x128x8x64x128_S3x128x8x64x128_0_0_0_0_0)⟩, ⟨S1x128x8x64x128, (broadcastInDim S1x128x8x64x128 ![1, 2, 3, 4] bcast_S128x8x64x128_S1x128x8x64x128_1_2_3_4 (transpose S128x8x64x128 [0, 1, 3, 2] s transposes_S128x8x128x64_S128x8x64x128_0_1_3_2))⟩] concatenates_S3x128x8x64x128_S1x128x8x64x128_S4x128x8x64x128_d0

theorem putState_at (T : FVec Ideal S4x128x8x64x128 .f32) (s : FVec Ideal S128x8x128x64 .f32) (a : Fin 4) (b : Fin 128) (h : Fin 8) (p : Fin 64) (n : Fin 128) :
    putState T s (ix5 a b h p n) = if (a : ℕ) < 3 then T (ix5 a b h p n) else s (ix4 b h n p) := by
  pointwise! [putState]

/-- The stored tokens put behind the other layers'. -/
def putConv (T : FVec Ideal S4x3x128x1024 .f32) (X : FVec Ideal S128x4x1024 .f32) : FVec Ideal S4x3x128x1024 .f32 :=
  concatenate S4x3x128x1024 0 [⟨S3x3x128x1024, (extractStridedSlice S3x3x128x1024 ![0, 0, 0, 0] T slices_S4x3x128x1024_S3x3x128x1024_0_0_0_0)⟩, ⟨S1x3x128x1024, (broadcastInDim S1x3x128x1024 ![1, 2, 3] bcast_S3x128x1024_S1x3x128x1024_1_2_3 (transpose S3x128x1024 [1, 0, 2] (extractStridedSlice S128x3x1024 ![0, 1, 0] X slices_S128x4x1024_S128x3x1024_0_1_0) transposes_S128x3x1024_S3x128x1024_1_0_2))⟩] concatenates_S3x3x128x1024_S1x3x128x1024_S4x3x128x1024_d0

theorem putConv_at (T : FVec Ideal S4x3x128x1024 .f32) (X : FVec Ideal S128x4x1024 .f32) (a : Fin 4) (k : Fin 3) (b : Fin 128) (j : Fin 1024) :
    putConv T X (ix4 a k b j) = if (a : ℕ) < 3 then T (ix4 a k b j) else X (ix3 b (⟨k + 1, by omega⟩ : Fin 4) j) := by
  pointwise! [putConv]

/-- The gated read-out. -/
def mixedIn (o : FVec Ideal S128x8x64 .f32) (x : FVec Ideal S128x1x8x64 .f32) (K : FVec Ideal S8 .f32) (z : FVec Ideal S128x1x512 .f32) :
    FVec Ideal S128x1x512 .f32 :=
  mulf (shapeCast _ (addf (shapeCast _ o shapeCasts_S128x8x64_S128x1x8x64) (mulf x (broadcastInDim S128x1x8x64 ![0, 1, 2, 3] bcast_S1x1x8x1_S128x1x8x64_0_1_2_3 (broadcastInDim S1x1x8x1 ![2, 3] bcast_S8x1_S1x1x8x1_2_3 (broadcastInDim S8x1 ![0] bcast_S8_S8x1_0 K))))) shapeCasts_S128x1x8x64_S128x1x512)
    (mulf z (Host.divf (broadcastInDim S128x1x512 ![] bcast_S_S128x1x512 (constant S_ .f32 0x3F800000#32)) (addf (broadcastInDim S128x1x512 ![] bcast_S_S128x1x512 (constant S_ .f32 0x3F800000#32)) (Host.exp (Host.negf z)))))

theorem mixedIn_at (o : FVec Ideal S128x8x64 .f32) (x : FVec Ideal S128x1x8x64 .f32) (K : FVec Ideal S8 .f32) (z : FVec Ideal S128x1x512 .f32)
    (b : Fin 128) (j : Fin 512) : mixedIn o x K z (ix3 b (0 : Fin 1) j)
      = (o (ix3 b (⟨j / 64, by omega⟩ : Fin 8) (⟨j % 64, by omega⟩ : Fin 64))
          + x (ix4 b (0 : Fin 1) (⟨j / 64, by omega⟩ : Fin 8) (⟨j % 64, by omega⟩ : Fin 64)) * K (ix1 (⟨j / 64, by omega⟩ : Fin 8)))
        * silu (z (ix3 b (0 : Fin 1) j)) := by
  pointwise! [mixedIn, silu, Ideal.logistic]

/-- The columns the gates come from. -/
def gates (P : FVec Ideal S128x3456 .f32) : FVec Ideal S128x1x512 .f32 :=
  shapeCast _ (extractStridedSlice S128x512 ![0, 0] P slices_S128x3456_S128x512_0_0) shapeCasts_S128x512_S128x1x512

theorem gates_at (P : FVec Ideal S128x3456 .f32) (b : Fin 128) (j : Fin 512) : gates P (ix3 b (0 : Fin 1) j) = P (ix2 b ⟨j, by omega⟩) := by
  pointwise! [gates]

/-- The group norm. -/
def normed (g : FVec Ideal S128x1x512 .f32) (N : FVec Ideal S512 .f32) : FVec Ideal S128x512 .bf16 :=
  truncf .bf16 (shapeCast _ (mulf (shapeCast _ (mulf (shapeCast _ g shapeCasts_S128x1x512_S128x1x2x256) (broadcastInDim S128x1x2x256 ![0, 1, 2, 3] bcast_S128x1x2x1_S128x1x2x256_0_1_2_3 (Host.rsqrt (addf (Host.divf (broadcastInDim S128x1x2x1 ![0, 1, 2] bcast_S128x1x2_S128x1x2x1_0_1_2 (Host.reduceAdd (mulf (shapeCast _ g shapeCasts_S128x1x512_S128x1x2x256) (shapeCast _ g shapeCasts_S128x1x512_S128x1x2x256)) (constant S_ .f32 0x00000000#32) reducesTo_S128x1x2x256_S128x1x2_d3 h_S_)) (broadcastInDim S128x1x2x1 ![] bcast_S_S128x1x2x1 (constant S_ .f32 0x43800000#32))) (broadcastInDim S128x1x2x1 ![] bcast_S_S128x1x2x1 (constant S_ .f32 0x358637BD#32)))))) shapeCasts_S128x1x2x256_S128x1x512) (broadcastInDim S128x1x512 ![0, 1, 2] bcast_S1x1x512_S128x1x512_0_1_2 (broadcastInDim S1x1x512 ![2] bcast_S512_S1x1x512_2 N))) shapeCasts_S128x1x512_S128x512) bitsLt_bf16_f32

theorem normed_at (g : FVec Ideal S128x1x512 .f32) (N : FVec Ideal S512 .f32) (b : Fin 128) (j : Fin 512) :
    normed g N (ix2 b j) = groupRms (fun k => g (ix3 b (0 : Fin 1) k)) (vec N) j := by
  unfold groupRms
  simp only [mul_comm 256]
  pointwise! [normed]

variable (T : FVec Ideal S4x3x128x1024 .f32) (U : FVec Ideal S4x128x8x64x128 .f32) (P : FVec Ideal S128x3456 .f32) (C : FVec Ideal S4x128x3x1024 .f32)
  (S : FVec Ideal S4x128x8x128x64 .f32) (W : FVec Ideal S4x1024 .f32) (B : FVec Ideal S1024 .f32) (D A K : FVec Ideal S8 .f32) (N : FVec Ideal S512 .f32)

/-- The convolved tokens and the rates. -/
def mix : FVec Ideal S128x1x1024 .f32 := act (pre (tok P C) W B)
def rts : FVec Ideal S128x1x8 .f32 := sp (rate P D)

theorem mix_at (b : Fin 128) (j : Fin 1024) : mix P C W B (ix3 b (0 : Fin 1) j) = tokMixed P C W B b j := by
  refine (act_at _ _).trans (Eq.trans (congrArg silu ((pre_at _ W B b j).trans ?_)) (congrFun (mixed_eq (fed P b) (stored C b) (mat W) (vec B)) j))
  exact congrArg (· + _) (Finset.sum_congr rfl fun k _ => congrArg (· * _) (tok_at P C b k j))

theorem rts_at (b : Fin 128) (h : Fin 8) : rts P D (ix3 b (0 : Fin 1) h) = tokRate P D b h :=
  (sp_at _ _).trans (congrArg soft (rate_at P D b h))

/-- The reference's results. -/
def newState : FVec Ideal S4x128x8x64x128 .f32 :=
  putState U (new (ks (mix P C W B) (rts P D)) (flat (vals (mix P C W B))) (logs (rts P D) A) (old S))
def heads : FVec Ideal S128x512 .bf16 :=
  normed (mixedIn (outs (qs (mix P C W B)) (ks (mix P C W B) (rts P D)) (flat (vals (mix P C W B))) (logs (rts P D) A) (old S))
    (vals (mix P C W B)) K (gates P)) N

theorem tok_next (k : Fin 3) (b : Fin 128) (j : Fin 1024) : tok P C (ix3 b (⟨k + 1, by omega⟩ : Fin 4) j) = tokStored P C k b j := by
  refine (tok_at P C _ _ _).trans ?_
  unfold tokStored
  by_cases h : k < 2
  · rw [dif_pos h, dif_pos (show (⟨k + 1, by omega⟩ : Fin 4) < 3 from Nat.succ_lt_succ h)]
  · rw [dif_neg h, dif_neg (show ¬ (⟨k + 1, by omega⟩ : Fin 4) < 3 from fun g => h (Nat.lt_of_succ_lt_succ g))]

theorem conv_eq : putConv T (tok P C) = convOut P C T := by
  funext z
  refine (congrArg _ (eq_ix4 z)).trans ((putConv_at T _ (z 0) (z 1) (z 2) (z 3)).trans ?_)
  exact if_congr Iff.rfl (congrArg T (eq_ix4 z)).symm (tok_next P C _ _ _)

variable (hP : ∀ b j, Fin' (fed P b j)) (hR : ∀ (b : Fin 128) (h : Fin 8), P (ix2 b ⟨3328 + h, by omega⟩) ≠ ⊤) (hC : ∀ b k j, Fin' (stored C b k j)) (hW : ∀ k j, Fin' (mat W k j))
  (hB : ∀ j, vec B j ≠ ⊤) (hD : ∀ h, vec D h ≠ ⊤) (hA : ∀ h, vec A h ≠ ⊤)

include hP hC hW hB in
theorem mix_fin (b : Fin 128) (j : Fin 1024) : Fin' (tokMixed P C W B b j) :=
  silu_fin (EReal.add_ne_top (EReal.add_ne_top (EReal.add_ne_top (EReal.add_ne_top (hB j) ((hW 3 j).mul (hP b j)).ne_top)
    ((hW 0 j).mul (hC b 0 j)).ne_top) ((hW 1 j).mul (hC b 1 j)).ne_top) ((hW 2 j).mul (hC b 2 j)).ne_top)

include hR hD in
theorem rts_fin (b : Fin 128) (h : Fin 8) : Fin' (tokRate P D b h) := soft_fin (EReal.add_ne_top (hR b h) (hD h))

theorem vals_mix (b : Fin 128) (h : Fin 8) (p : Fin 64) : vals (mix P C W B) (ix4 b (0 : Fin 1) h p) = val (tokMixed P C W B b) h p :=
  (vals_at _ b h p).trans (mix_at P C W B b _)
theorem ks_mix (b : Fin 128) (h : Fin 8) (n : Fin 128) :
    ks (mix P C W B) (rts P D) (ix3 b h n) = key (tokMixed P C W B b) h n * tokRate P D b h :=
  (ks_at _ _ b h n).trans (congrArg₂ (· * ·) (mix_at P C W B b _) (rts_at P D b h))
theorem qs_mix (b : Fin 128) (h : Fin 8) (n : Fin 128) : qs (mix P C W B) (ix3 b h n) = qry (tokMixed P C W B b) h n :=
  (qs_at _ b h n).trans (mix_at P C W B b _)
theorem logs_rts (b : Fin 128) (h : Fin 8) : logs (rts P D) A (ix2 b h) = decay (tokRate P D b h) (vec A h) :=
  (logs_at _ A b h).trans (congrArg (decay · _) (rts_at P D b h))

include hR hD hA in
theorem new_step (b : Fin 128) (h : Fin 8) (p : Fin 64) (n : Fin 128) :
    new (ks (mix P C W B) (rts P D)) (flat (vals (mix P C W B))) (logs (rts P D) A) (old S) (ix4 b h n p)
      = stepped (tokMixed P C W B b) (tokRate P D b) (vec A) (tokState S b) h p n := by
  rw [new_at, old_at, logs_rts, ks_mix, flat_at, vals_mix]
  exact step_eq (rts_fin P D hR hD b h) (hA h)

include hR hD hA in
theorem state_eq : newState U P C S W B D A = stateOut P C S W B D A U := by
  funext z
  refine (congrArg _ (eq_ix5 z)).trans ((putState_at U _ (z 0) (z 1) (z 2) (z 3) (z 4)).trans ?_)
  exact if_congr Iff.rfl (congrArg U (eq_ix5 z)).symm (new_step P C S W B D A hR hD hA (z 1) (z 2) (z 3) (z 4))

include hP hR hC hW hB hD hA in
theorem gated_row (b : Fin 128) (j : Fin 512) :
    mixedIn (outs (qs (mix P C W B)) (ks (mix P C W B) (rts P D)) (flat (vals (mix P C W B))) (logs (rts P D) A) (old S))
        (vals (mix P C W B)) K (gates P) (ix3 b (0 : Fin 1) j)
      = gatedOut (readOut (tokMixed P C W B b) (tokRate P D b) (vec A) (tokState S b)) (tokMixed P C W B b)
          (fun j => K (ix1 (⟨j / 64, by omega⟩ : Fin 8))) (fun j => P (ix2 b ⟨j, by omega⟩)) j := by
  rw [mixedIn_at, gates_at, outs_at, flat_at, vals_mix]
  simp only [ks_mix, qs_mix, logs_rts, old_at]
  refine congrArg (· * _) (congrArg₂ (· + ·) ?_ ?_)
  · exact readOut_eq _ _ _ (tokState S b) _ _ (mix_fin P C W B hP hC hW hB b) (rts_fin P D hR hD b _) (hA _)
  · refine congrArg (· * _) (congrArg (tokMixed P C W B b) (Fin.ext ?_))
    exact Nat.div_add_mod _ _

include hP hR hC hW hB hD hA in
theorem heads_eq : heads P C S W B D A K N = headsOut P C S W B D A K N := by
  funext z
  refine (congrArg _ (eq_ix2 z)).trans ((normed_at _ N (z 0) (z 1)).trans (congrArg (groupRms · _ (z 1)) (funext fun j => ?_)))
  exact gated_row P C S W B D A K hP hR hC hW hB hD hA (z 0) j

theorem res0 (m : (ℓ : Loc nD τ sig) → Buf (Elt Ideal) ℓ) (c : Dev nD) : res_out0 m c
    = heads (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10)) := rfl

theorem res2 (m : (ℓ : Loc nD τ sig) → Buf (Elt Ideal) ℓ) (c : Dev nD) : res_out2 m c
    = newState (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) := rfl

end Cert.Reference9Ideal.Rows

end
-- ==== Proof.Pre.lean ====
module

public import proofs.«01_k».proof.Defs
public import proofs.«01_k».proof.Proof.Gen.KernelIdeal
public import proofs.«01_k».proof.Proof.Spec
public import Idealize.ShloMosaic.Lib.Pipeline.ValueKit
public import Idealize.ShloMosaic.Lib.Affine
public import Idealize.ShloMosaic.Lib.Decide

@[expose] public section

set_option maxRecDepth 16384

noncomputable section

/-! What the precondition gives: the keys and the two weights are finite. -/

namespace Cert.Pre_finite_scores

open Idealize.ShloMosaic Cert.Rows

instance facts : Facts where
  slices_S2048x2048_S2048x1024_0_0 := by decide
  bitsLt_bf16_f32 := by decide
  bcast_S_S2048x1024 := by decide
  bcast_S_S1024 := by decide
  bcast_S_S1024x1024 := by decide

variable (a0 : FVec Ideal S16384x1024 .f32) (a1 : FVec Ideal S16384x1024 .bf16) (a2 : FVec Ideal S2048x2048 .bf16) (a3 : FVec Ideal S1024x1024 .f32)
  (a4 : FVec Ideal S1024 .f32) (a5 a6 : FVec Ideal S1024x1024 .f32) (a7 : FVec Ideal S1024 .f32) (a8 : FVec Ideal S1024x5632 .f32)
  (a9 : FVec Ideal S2816x1024 .f32) (a10 : FVec Ideal S1024 .f32)

theorem fin_of (x : EReal) (h : BitVec.ofBool (decide (max x (-x) < Ideal.ofBits .f32 0x7F800000#32)) = 1#1) : Fin' x := by
  rw [bits_top] at h
  induction x using EReal.rec with
  | bot => exact absurd h (by simp)
  | coe r => exact ⟨r, rfl⟩
  | top => exact absurd h (by simp)

theorem keys_fin (h : (fn (F := Ideal) a0 a1 a2 a3 a4 a5 a6 a7 a8 a9 a10).1 = fun _ => 1#1) (i : Fin 16384) (m : Fin 256) (j : Fin 1024) :
    Fin' (keys a2 i m j) := by
  have h' := congrFun h (ix2 (⟨256 * (i / 2048) + m, by omega⟩ : Fin 2048) j)
  pointwise [fn] at h'
  exact fin_of _ h'

theorem norm_fin (h : (fn (F := Ideal) a0 a1 a2 a3 a4 a5 a6 a7 a8 a9 a10).2.1 = fun _ => 1#1) (j : Fin 1024) : Fin' (vec a4 j) := by
  have h' := congrFun h (ix1 j)
  pointwise [fn] at h'
  exact fin_of _ h'

theorem query_fin (h : (fn (F := Ideal) a0 a1 a2 a3 a4 a5 a6 a7 a8 a9 a10).2.2 = fun _ => 1#1) (k j : Fin 1024) : Fin' (mat a5 k j) := by
  have h' := congrFun h (ix2 k j)
  pointwise [fn] at h'
  exact fin_of _ h'

end Cert.Pre_finite_scores

end
-- ==== Proof.Pre4.lean ====
module

public import proofs.«01_k».proof.Proof.Pre
public import proofs.«01_k».proof.Proof.Gen.Kernel4Ideal
public import proofs.«01_k».proof.Proof.Spec
public import Idealize.ShloMosaic.Lib.Pipeline.ValueKit
public import Idealize.ShloMosaic.Lib.Affine
public import Idealize.ShloMosaic.Lib.Decide

@[expose] public section

set_option maxRecDepth 16384

noncomputable section

/-! What the earlier layers' precondition gives: the keys and the two weights are finite. -/

namespace Cert.Pre_finite_scores4

open Idealize.ShloMosaic Cert.Rows
open Cert.Pre_finite_scores (fin_of)

instance facts : Facts where
  slices_S2048x2048_S2048x1024_0_0 := by decide
  bitsLt_bf16_f32 := by decide
  bcast_S_S2048x1024 := by decide
  bcast_S_S1024 := by decide
  bcast_S_S1024x1024 := by decide

variable (a0 : FVec Ideal S16384x1024 .f32) (a1 : FVec Ideal S16384x1024 .bf16) (a2 : FVec Ideal S2048x2048 .bf16) (a3 : FVec Ideal S1024x1024 .f32)
  (a4 : FVec Ideal S1024 .f32) (a5 a6 : FVec Ideal S1024x1024 .f32) (a7 : FVec Ideal S1024 .f32) (a8 : FVec Ideal S1024x5632 .f32)
  (a9 : FVec Ideal S2816x1024 .f32)

theorem keys_fin (h : (fn (F := Ideal) a0 a1 a2 a3 a4 a5 a6 a7 a8 a9).1 = fun _ => 1#1) (i : Fin 16384) (m : Fin 256) (j : Fin 1024) :
    Fin' (keys a2 i m j) := by
  have h' := congrFun h (ix2 (⟨256 * (i / 2048) + m, by omega⟩ : Fin 2048) j)
  pointwise [fn] at h'
  exact fin_of _ h'

theorem norm_fin (h : (fn (F := Ideal) a0 a1 a2 a3 a4 a5 a6 a7 a8 a9).2.1 = fun _ => 1#1) (j : Fin 1024) : Fin' (vec a4 j) := by
  have h' := congrFun h (ix1 j)
  pointwise [fn] at h'
  exact fin_of _ h'

theorem query_fin (h : (fn (F := Ideal) a0 a1 a2 a3 a4 a5 a6 a7 a8 a9).2.2 = fun _ => 1#1) (k j : Fin 1024) : Fin' (mat a5 k j) := by
  have h' := congrFun h (ix2 k j)
  pointwise [fn] at h'
  exact fin_of _ h'

end Cert.Pre_finite_scores4

end
-- ==== Proof.Pre9.lean ====
module

public import proofs.«01_k».proof.Proof.Pre
public import proofs.«01_k».proof.Proof.Gen.Kernel9Ideal
public import proofs.«01_k».proof.Proof.Spec9
public import Idealize.ShloMosaic.Lib.Pipeline.ValueKit
public import Idealize.ShloMosaic.Lib.Affine
public import Idealize.ShloMosaic.Lib.Decide

@[expose] public section

set_option maxRecDepth 16384

noncomputable section

/-! What the state's precondition gives: what the values, keys, queries and decays come from is finite, or at least no positive infinity. -/

namespace Cert.Pre_finite_state

open Idealize.ShloMosaic Cert.Rows
open Cert.Pre_finite_scores (fin_of)

instance facts : Facts where
  slices_S128x3456_S128x1024_0_512 := by decide
  bcast_S_S128x1024 := by decide
  slices_S128x3456_S128x8_0_3328 := by decide
  bcast_S_S128x8 := by decide
  slices_S4x128x3x1024_S1x128x3x1024_3_0_0_0 := by decide
  shapeCasts_S1x128x3x1024_S128x3x1024 := by decide
  bcast_S_S128x3x1024 := by decide
  bcast_S_S4x1024 := by decide
  bcast_S_S1024 := by decide
  bcast_S_S8 := by decide

variable (a0 : FVec Ideal S4x3x128x1024 .f32) (a1 : FVec Ideal S4x128x8x64x128 .f32) (a2 : FVec Ideal S128x3456 .f32)
  (a3 : FVec Ideal S4x128x3x1024 .f32) (a4 : FVec Ideal S4x128x8x128x64 .f32) (a5 : FVec Ideal S4x1024 .f32) (a6 : FVec Ideal S1024 .f32)
  (a7 a8 a9 : FVec Ideal S8 .f32) (a10 : FVec Ideal S512 .f32)

theorem below_of (x : EReal) (h : BitVec.ofBool (decide (x < Ideal.ofBits .f32 0x7F800000#32)) = 1#1) : x ≠ ⊤ := by
  rw [bits_top] at h
  rintro rfl
  exact absurd h (by simp)

theorem fed_fin (h : (fn (F := Ideal) a0 a1 a2 a3 a4 a5 a6 a7 a8 a9 a10).1 = fun _ => 1#1) (b : Fin 128) (j : Fin 1024) : Fin' (fed a2 b j) := by
  have h' := congrFun h (ix2 b j)
  pointwise [fn, fn_part1] at h'
  exact fin_of _ h'

theorem rate_below (h : (fn (F := Ideal) a0 a1 a2 a3 a4 a5 a6 a7 a8 a9 a10).2.1 = fun _ => 1#1) (b : Fin 128) (j : Fin 8) :
    a2 (ix2 b ⟨3328 + j, by omega⟩) ≠ ⊤ := by
  have h' := congrFun h (ix2 b j)
  pointwise [fn, fn_part1] at h'
  exact below_of _ h'

theorem stored_fin (h : (fn (F := Ideal) a0 a1 a2 a3 a4 a5 a6 a7 a8 a9 a10).2.2.1 = fun _ => 1#1) (b : Fin 128) (k : Fin 3) (j : Fin 1024) :
    Fin' (stored a3 b k j) := by
  have h' := congrFun h (ix3 b k j)
  pointwise [fn, fn_part1] at h'
  exact fin_of _ h'

theorem taps_fin (h : (fn (F := Ideal) a0 a1 a2 a3 a4 a5 a6 a7 a8 a9 a10).2.2.2.1 = fun _ => 1#1) (k : Fin 4) (j : Fin 1024) : Fin' (mat a5 k j) := by
  have h' := congrFun h (ix2 k j)
  pointwise [fn, fn_part1] at h'
  exact fin_of _ h'

theorem bias_below (h : (fn (F := Ideal) a0 a1 a2 a3 a4 a5 a6 a7 a8 a9 a10).2.2.2.2.1 = fun _ => 1#1) (j : Fin 1024) : vec a6 j ≠ ⊤ := by
  have h' := congrFun h (ix1 j)
  pointwise [fn, fn_part1] at h'
  exact below_of _ h'

theorem shift_below (h : (fn (F := Ideal) a0 a1 a2 a3 a4 a5 a6 a7 a8 a9 a10).2.2.2.2.2.1 = fun _ => 1#1) (j : Fin 8) : vec a7 j ≠ ⊤ := by
  have h' := congrFun h (ix1 j)
  pointwise [fn, fn_part1] at h'
  exact below_of _ h'

theorem log_below (h : (fn (F := Ideal) a0 a1 a2 a3 a4 a5 a6 a7 a8 a9 a10).2.2.2.2.2.2 = fun _ => 1#1) (j : Fin 8) : vec a8 j ≠ ⊤ := by
  have h' := congrFun h (ix1 j)
  pointwise [fn, fn_part1] at h'
  exact below_of _ h'

end Cert.Pre_finite_state

end
-- ==== Proof.lean ====
module

public import proofs.«01_k».proof.Defs
public import proofs.«01_k».proof.Proof.Final
public import proofs.«01_k».proof.Proof.Final2
public import proofs.«01_k».proof.Proof.Final3
public import proofs.«01_k».proof.Proof.Final4
public import proofs.«01_k».proof.Proof.Final5
public import proofs.«01_k».proof.Proof.Final6
public import proofs.«01_k».proof.Proof.Final7
public import proofs.«01_k».proof.Proof.Final8
public import proofs.«01_k».proof.Proof.Final9
public import proofs.«01_k».proof.Proof.Ref
public import proofs.«01_k».proof.Proof.Ref2
public import proofs.«01_k».proof.Proof.Ref3
public import proofs.«01_k».proof.Proof.Ref4
public import proofs.«01_k».proof.Proof.Ref5
public import proofs.«01_k».proof.Proof.Ref6
public import proofs.«01_k».proof.Proof.Ref7
public import proofs.«01_k».proof.Proof.Ref8
public import proofs.«01_k».proof.Proof.Ref9
public import proofs.«01_k».proof.Proof.Pre
public import proofs.«01_k».proof.Proof.Pre4
public import proofs.«01_k».proof.Proof.Pre9
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

set_option maxHeartbeats 1600000 in
/-- The last layer from the mixer's output on: the kernel's result and the reference's are the same array. -/
theorem algebraic : Cert.algebraic_KernelIdeal_ReferenceIdeal_pre_finite_scores := by
  pair_intro
  · run_from Cert.KernelIdeal.Value.run_blocks m g
  · run_from Cert.ReferenceIdeal.Value.run m' g'
    obtain ⟨h0, h1, h2, h3, h4, h5, h6, h7, h8, h9, h10⟩ := hagree c
    obtain ⟨k, n, q⟩ := hpre c
    rw [← h10]
    refine (Cert.ReferenceIdeal.Rows.out_eq (StableHlo.launchContents m' c)).trans (Eq.trans ?_ (Cert.KernelIdeal.Stages.final m c).symm)
    refine Eq.trans ?_ (Cert.Rows.layer_eq _ _ _ _ _ _ _ _ _ _ _ (Cert.Pre_finite_scores.norm_fin _ _ _ _ _ _ _ _ _ _ _ n)
      (Cert.Pre_finite_scores.query_fin _ _ _ _ _ _ _ _ _ _ _ q) (Cert.Pre_finite_scores.keys_fin _ _ _ _ _ _ _ _ _ _ _ k)).symm
    rw [← h0, ← h1, ← h2, ← h3, ← h4, ← h5, ← h6, ← h7, ← h8, ← h9, ← h10]

set_option maxHeartbeats 1600000 in
/-- The first feed-forward half and the in-projection: both results of the kernel and of the reference are the same arrays. -/
theorem algebraic2 : Cert.algebraic_Kernel2Ideal_Reference2Ideal := by
  pair_intro
  · run_from Cert.Kernel2Ideal.Value.run_blocks m g
  · run_from Cert.Reference2Ideal.Value.run m' g'
    obtain ⟨h0, h1, h2, h3, h4, h5⟩ := hagree c
    refine (Cert.Reference2Ideal.Rows.stream_eq _ _ _ _).trans (Eq.trans ?_ (Cert.Kernel2Ideal.Stages.final6 m c).symm)
    simp only [h0, h1, h2, h3, h4, h5]
    obtain ⟨h0, h1, h2, h3, h4, h5⟩ := hagree c
    refine (Cert.Reference2Ideal.Rows.proj_eq _ _ _ _ _ _).trans (Eq.trans ?_ (Cert.Kernel2Ideal.Stages.final7 m c).symm)
    simp only [h0, h1, h2, h3, h4, h5]

set_option maxHeartbeats 1600000 in
/-- The memory keys and values: both results of the kernel and of the reference are the same arrays. -/
theorem algebraic3 : Cert.algebraic_Kernel3Ideal_Reference3Ideal := by
  pair_intro
  · run_from Cert.Kernel3Ideal.Value.run_blocks m g
  · run_from Cert.Reference3Ideal.Value.run m' g'
    obtain ⟨h0, h1, h2⟩ := hagree c
    refine (Cert.Reference3Ideal.Rows.out_eq _ _ _).trans (Eq.trans ?_ (Cert.Kernel3Ideal.Stages.final2 m c).symm)
    simp only [h0, h1, h2]
    obtain ⟨h0, h1, h2⟩ := hagree c
    refine (Cert.Reference3Ideal.Rows.out16_eq _ _ _).trans (Eq.trans ?_ (Cert.Kernel3Ideal.Stages.final3 m c).symm)
    simp only [h0, h1, h2]

set_option maxHeartbeats 1600000 in
/-- An earlier layer from the mixer's output on: the kernel's result and the reference's are the same array. -/
theorem algebraic4 : Cert.algebraic_Kernel4Ideal_Reference4Ideal_pre_finite_scores4 := by
  pair_intro
  · run_from Cert.Kernel4Ideal.Value.run_blocks m g
  · run_from Cert.Reference4Ideal.Value.run m' g'
    obtain ⟨h0, h1, h2, h3, h4, h5, h6, h7, h8, h9⟩ := hagree c
    obtain ⟨k, n, q⟩ := hpre c
    rw [← h9]
    refine (Cert.Reference4Ideal.Rows.out_eq (StableHlo.launchContents m' c)).trans (Eq.trans ?_ (Cert.Kernel4Ideal.Stages.final m c).symm)
    refine Eq.trans ?_ (Cert.Rows.inner_eq _ _ _ _ _ _ _ _ _ _ (Cert.Pre_finite_scores4.norm_fin _ _ _ _ _ _ _ _ _ _ n)
      (Cert.Pre_finite_scores4.query_fin _ _ _ _ _ _ _ _ _ _ q) (Cert.Pre_finite_scores4.keys_fin _ _ _ _ _ _ _ _ _ _ k)).symm
    rw [← h0, ← h1, ← h2, ← h3, ← h4, ← h5, ← h6, ← h7, ← h8, ← h9]

set_option maxHeartbeats 1600000 in
/-- The sample tokens' last layer from the attention's output on: the kernel's result and the reference's are the same array. -/
theorem algebraic5 : Cert.algebraic_Kernel5Ideal_Reference5Ideal := by
  pair_intro
  · run_from Cert.Kernel5Ideal.Value.run_blocks m g
  · run_from Cert.Reference5Ideal.Value.run m' g'
    obtain ⟨h0, h1, h2, h3, h4, h5, h6⟩ := hagree c
    refine (Cert.Reference5Ideal.Rows.out_eq _ _ _ _ _ _ _).trans (Eq.trans ?_ (Cert.Kernel5Ideal.Stages.final m c).symm)
    simp only [h0, h1, h2, h3, h4, h5, h6]

set_option maxHeartbeats 1600000 in
/-- The sample tokens' first feed-forward half and in-projection: both results of the kernel and of the reference are the same arrays. -/
theorem algebraic6 : Cert.algebraic_Kernel6Ideal_Reference6Ideal := by
  pair_intro
  · run_from Cert.Kernel6Ideal.Value.run_blocks m g
  · run_from Cert.Reference6Ideal.Value.run m' g'
    obtain ⟨h0, h1, h2, h3, h4, h5⟩ := hagree c
    refine (Cert.Reference6Ideal.Rows.stream_eq _ _ _ _).trans (Eq.trans ?_ (Cert.Kernel6Ideal.Stages.final6 m c).symm)
    simp only [h0, h1, h2, h3, h4, h5]
    obtain ⟨h0, h1, h2, h3, h4, h5⟩ := hagree c
    refine (Cert.Reference6Ideal.Rows.proj_eq _ _ _ _ _ _).trans (Eq.trans ?_ (Cert.Kernel6Ideal.Stages.final7 m c).symm)
    simp only [h0, h1, h2, h3, h4, h5]

set_option maxHeartbeats 1600000 in
/-- The sample tokens' earlier layer from the attention's output on: the kernel's result and the reference's are the same array. -/
theorem algebraic7 : Cert.algebraic_Kernel7Ideal_Reference7Ideal := by
  pair_intro
  · run_from Cert.Kernel7Ideal.Value.run_blocks m g
  · run_from Cert.Reference7Ideal.Value.run m' g'
    obtain ⟨h0, h1, h2, h3, h4, h5⟩ := hagree c
    refine (Cert.Reference7Ideal.Rows.out_eq _ _ _ _ _ _).trans (Eq.trans ?_ (Cert.Kernel7Ideal.Stages.final m c).symm)
    simp only [h0, h1, h2, h3, h4, h5]

set_option maxHeartbeats 1600000 in
/-- The sample tokens' output projection and query: both results of the kernel and of the reference are the same arrays. -/
theorem algebraic8 : Cert.algebraic_Kernel8Ideal_Reference8Ideal := by
  pair_intro
  · run_from Cert.Kernel8Ideal.Value.run_blocks m g
  · run_from Cert.Reference8Ideal.Value.run m' g'
    obtain ⟨h0, h1, h2, h3, h4⟩ := hagree c
    refine (Cert.Reference8Ideal.Rows.stream_eq _ _ _).trans (Eq.trans ?_ (Cert.Kernel8Ideal.Stages.final5 m c).symm)
    simp only [h0, h1, h2, h3, h4]
    obtain ⟨h0, h1, h2, h3, h4⟩ := hagree c
    refine (Cert.Reference8Ideal.Rows.queries_eq _ _ _ _ _).trans (Eq.trans ?_ (Cert.Kernel8Ideal.Stages.final6 m c).symm)
    simp only [h0, h1, h2, h3, h4]

set_option maxHeartbeats 1600000 in
/-- The sample tokens' last state space heads: the kernel's results and the reference's are the same arrays. -/
theorem algebraic9 : Cert.algebraic_Kernel9Ideal_Reference9Ideal_pre_finite_state := by
  pair_intro
  · run_from Cert.Kernel9Ideal.Value.run_blocks m g
  · run_from Cert.Reference9Ideal.Value.run m' g'
    obtain ⟨h0, h1, h2, h3, h4, h5, h6, h7, h8, h9, h10⟩ := hagree c
    obtain ⟨p, r, s, w, b, d, a⟩ := hpre c
    refine (Cert.Reference9Ideal.Rows.res0 m' c).trans (Eq.trans ?_ (Cert.Kernel9Ideal.Stages.final9 m c).symm)
    rw [h2, h3, h4, h5, h6, h7, h8, h9, h10]
    exact Cert.Reference9Ideal.Rows.heads_eq _ _ _ _ _ _ _ _ _ (Cert.Pre_finite_state.fed_fin _ _ _ _ _ _ _ _ _ _ _ p) (Cert.Pre_finite_state.rate_below _ _ _ _ _ _ _ _ _ _ _ r) (Cert.Pre_finite_state.stored_fin _ _ _ _ _ _ _ _ _ _ _ s) (Cert.Pre_finite_state.taps_fin _ _ _ _ _ _ _ _ _ _ _ w) (Cert.Pre_finite_state.bias_below _ _ _ _ _ _ _ _ _ _ _ b) (Cert.Pre_finite_state.shift_below _ _ _ _ _ _ _ _ _ _ _ d) (Cert.Pre_finite_state.log_below _ _ _ _ _ _ _ _ _ _ _ a)
    obtain ⟨h0, h1, h2, h3, h4, h5, h6, h7, h8, h9, h10⟩ := hagree c
    refine (Cert.Reference9Ideal.Rows.conv_eq _ _ _).trans (Eq.trans ?_ (Cert.Kernel9Ideal.Stages.final10 m c).symm)
    simp only [h0, h2, h3]
    obtain ⟨h0, h1, h2, h3, h4, h5, h6, h7, h8, h9, h10⟩ := hagree c
    obtain ⟨p, r, s, w, b, d, a⟩ := hpre c
    refine (Cert.Reference9Ideal.Rows.res2 m' c).trans (Eq.trans ?_ (Cert.Kernel9Ideal.Stages.final11 m c).symm)
    rw [h1, h2, h3, h4, h5, h6, h7, h8]
    exact Cert.Reference9Ideal.Rows.state_eq _ _ _ _ _ _ _ _ (Cert.Pre_finite_state.rate_below _ _ _ _ _ _ _ _ _ _ _ r) (Cert.Pre_finite_state.shift_below _ _ _ _ _ _ _ _ _ _ _ d) (Cert.Pre_finite_state.log_below _ _ _ _ _ _ _ _ _ _ _ a)

/-! Each reference ends with its arguments unchanged; it has no semaphore. -/

theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem reference2_frame : Cert.quiescent_Reference2Ideal := fun m g _ =>
  (θ_run Cert.Reference2Ideal.defs _ _).mono (fun r h => ⟨fun c => (h c).2.2, sem_eq_zero_of_no_sems (by decide) r.2⟩)
    (Cert.Reference2Ideal.Value.run m g)

theorem reference3_frame : Cert.quiescent_Reference3Ideal := fun m g _ =>
  (θ_run Cert.Reference3Ideal.defs _ _).mono (fun r h => ⟨fun c => (h c).2.2, sem_eq_zero_of_no_sems (by decide) r.2⟩)
    (Cert.Reference3Ideal.Value.run m g)

theorem reference4_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem reference5_frame : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

theorem reference6_frame : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

theorem reference7_frame : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

theorem reference8_frame : Cert.quiescent_Reference8Ideal := fun m g _ =>
  (θ_run Cert.Reference8Ideal.defs _ _).mono (fun r h => ⟨fun c => (h c).2.2, sem_eq_zero_of_no_sems (by decide) r.2⟩)
    (Cert.Reference8Ideal.Value.run m g)

theorem reference9_frame : Cert.quiescent_Reference9Ideal := fun m g _ =>
  (θ_run Cert.Reference9Ideal.defs _ _).mono (fun r h => ⟨fun c => (h c).2.2.2, sem_eq_zero_of_no_sems (by decide) r.2⟩)
    (Cert.Reference9Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite_scores.facts, Cert.Pre_finite_scores4.facts, Cert.Pre_finite_state.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g,
  reference2_frame,
  fun m g _ => Cert.Kernel3.Gen.frame m g, fun m g _ => Cert.Kernel3Ideal.Gen.frame m g,
  reference3_frame,
  fun m g _ => Cert.Kernel4.Gen.frame m g, fun m g _ => Cert.Kernel4Ideal.Gen.frame m g, fun m g _ => Cert.Kernel4Ideal.Gen.frame m g,
  reference4_frame, fun m g _ => reference4_frame m g trivial,
  fun m g _ => Cert.Kernel5.Gen.frame m g, fun m g _ => Cert.Kernel5Ideal.Gen.frame m g,
  reference5_frame,
  fun m g _ => Cert.Kernel6.Gen.frame m g, fun m g _ => Cert.Kernel6Ideal.Gen.frame m g,
  reference6_frame,
  fun m g _ => Cert.Kernel7.Gen.frame m g, fun m g _ => Cert.Kernel7Ideal.Gen.frame m g,
  reference7_frame,
  fun m g _ => Cert.Kernel8.Gen.frame m g, fun m g _ => Cert.Kernel8Ideal.Gen.frame m g,
  reference8_frame,
  fun m g _ => Cert.Kernel9.Gen.frame m g, fun m g _ => Cert.Kernel9Ideal.Gen.frame m g, fun m g _ => Cert.Kernel9Ideal.Gen.frame m g,
  reference9_frame, fun m g _ => reference9_frame m g trivial,
  trivial, algebraic, trivial, algebraic2, trivial, algebraic3, trivial, algebraic4, trivial, algebraic5,
  trivial, algebraic6, trivial, algebraic7, trivial, algebraic8, trivial, algebraic9⟩

end Cert.Proof

end
